-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_mem_scores_finite [hPre_mem_scores_finite : Cert.Pre_mem_scores_finite.Facts] (m : (ℓ : Loc Cert.CrossIdeal.nD Cert.CrossIdeal.τ Cert.CrossIdeal.sig) → Buf (Elt Ideal) ℓ) : Prop :=
  ∀ c : Dev Cert.CrossIdeal.nD,
    (Cert.Pre_mem_scores_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_mem_scores_finite [hPre_mem_scores_finite : Cert.Pre_mem_scores_finite.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_mem_scores_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_RelBias (m : (ℓ : Loc Cert.RelBias.nD Cert.RelBias.τ Cert.RelBias.sig) → Buf (Elt Bits) ℓ) : Prop :=
  True

def Pre_RelBiasIdeal (m : (ℓ : Loc Cert.RelBiasIdeal.nD Cert.RelBiasIdeal.τ Cert.RelBiasIdeal.sig) → Buf (Elt Ideal) ℓ) : Prop :=
  True

def Pre_RelBiasRefIdeal (m : (ℓ : Loc Cert.RelBiasRefIdeal.nD Cert.RelBiasRefIdeal.τ Cert.RelBiasRefIdeal.sig) → Buf (Elt Ideal) ℓ) : Prop :=
  True

def Pre_Caches (m : (ℓ : Loc Cert.Caches.nD Cert.Caches.τ Cert.Caches.sig) → Buf (Elt Bits) ℓ) : Prop :=
  True

def Pre_CachesIdeal (m : (ℓ : Loc Cert.CachesIdeal.nD Cert.CachesIdeal.τ Cert.CachesIdeal.sig) → Buf (Elt Ideal) ℓ) : Prop :=
  True

def Pre_CachesRefIdeal (m : (ℓ : Loc Cert.CachesRefIdeal.nD Cert.CachesRefIdeal.τ Cert.CachesRefIdeal.sig) → Buf (Elt Ideal) ℓ) : Prop :=
  True

def Pre_MlpSample (m : (ℓ : Loc Cert.MlpSample.nD Cert.MlpSample.τ Cert.MlpSample.sig) → Buf (Elt Bits) ℓ) : Prop :=
  True

def Pre_MlpSampleIdeal (m : (ℓ : Loc Cert.MlpSampleIdeal.nD Cert.MlpSampleIdeal.τ Cert.MlpSampleIdeal.sig) → Buf (Elt Ideal) ℓ) : Prop :=
  True

def Pre_MlpSampleRefIdeal (m : (ℓ : Loc Cert.MlpSampleRefIdeal.nD Cert.MlpSampleRefIdeal.τ Cert.MlpSampleRefIdeal.sig) → Buf (Elt Ideal) ℓ) : Prop :=
  True

def Pre_CrossSample (m : (ℓ : Loc Cert.CrossSample.nD Cert.CrossSample.τ Cert.CrossSample.sig) → Buf (Elt Bits) ℓ) : Prop :=
  True

def Pre_CrossSampleIdeal (m : (ℓ : Loc Cert.CrossSampleIdeal.nD Cert.CrossSampleIdeal.τ Cert.CrossSampleIdeal.sig) → Buf (Elt Ideal) ℓ) : Prop :=
  True

def Pre_CrossSampleIdeal_cache_scores_finite [hPre_cache_scores_finite : Cert.Pre_cache_scores_finite.Facts] (m : (ℓ : Loc Cert.CrossSampleIdeal.nD Cert.CrossSampleIdeal.τ Cert.CrossSampleIdeal.sig) → Buf (Elt Ideal) ℓ) : Prop :=
  ∀ c : Dev Cert.CrossSampleIdeal.nD,
    (Cert.Pre_cache_scores_finite.fn (F := Ideal) (m ((c.tc : Thread Cert.CrossSampleIdeal.nD Cert.CrossSampleIdeal.τ).loc Cert.CrossSampleIdeal.main_arg0)) (m ((c.tc : Thread Cert.CrossSampleIdeal.nD Cert.CrossSampleIdeal.τ).loc Cert.CrossSampleIdeal.main_arg1)) (m ((c.tc : Thread Cert.CrossSampleIdeal.nD Cert.CrossSampleIdeal.τ).loc Cert.CrossSampleIdeal.main_arg2)) (m ((c.tc : Thread Cert.CrossSampleIdeal.nD Cert.CrossSampleIdeal.τ).loc Cert.CrossSampleIdeal.main_arg3)) (m ((c.tc : Thread Cert.CrossSampleIdeal.nD Cert.CrossSampleIdeal.τ).loc Cert.CrossSampleIdeal.main_arg4)) (m ((c.tc : Thread Cert.CrossSampleIdeal.nD Cert.CrossSampleIdeal.τ).loc Cert.CrossSampleIdeal.main_arg5)) (m ((c.tc : Thread Cert.CrossSampleIdeal.nD Cert.CrossSampleIdeal.τ).loc Cert.CrossSampleIdeal.main_arg6))) = (fun _ => 1#1)

def Pre_CrossSampleRefIdeal (m : (ℓ : Loc Cert.CrossSampleRefIdeal.nD Cert.CrossSampleRefIdeal.τ Cert.CrossSampleRefIdeal.sig) → Buf (Elt Ideal) ℓ) : Prop :=
  True

def Pre_CrossSampleRefIdeal_cache_scores_finite [hPre_cache_scores_finite : Cert.Pre_cache_scores_finite.Facts] (m : (ℓ : Loc Cert.CrossSampleRefIdeal.nD Cert.CrossSampleRefIdeal.τ Cert.CrossSampleRefIdeal.sig) → Buf (Elt Ideal) ℓ) : Prop :=
  ∀ c : Dev Cert.CrossSampleRefIdeal.nD,
    (Cert.Pre_cache_scores_finite.fn (F := Ideal) (m ((c.tc : Thread Cert.CrossSampleRefIdeal.nD Cert.CrossSampleRefIdeal.τ).loc Cert.CrossSampleRefIdeal.main_arg0)) (m ((c.tc : Thread Cert.CrossSampleRefIdeal.nD Cert.CrossSampleRefIdeal.τ).loc Cert.CrossSampleRefIdeal.main_arg1)) (m ((c.tc : Thread Cert.CrossSampleRefIdeal.nD Cert.CrossSampleRefIdeal.τ).loc Cert.CrossSampleRefIdeal.main_arg2)) (m ((c.tc : Thread Cert.CrossSampleRefIdeal.nD Cert.CrossSampleRefIdeal.τ).loc Cert.CrossSampleRefIdeal.main_arg3)) (m ((c.tc : Thread Cert.CrossSampleRefIdeal.nD Cert.CrossSampleRefIdeal.τ).loc Cert.CrossSampleRefIdeal.main_arg4)) (m ((c.tc : Thread Cert.CrossSampleRefIdeal.nD Cert.CrossSampleRefIdeal.τ).loc Cert.CrossSampleRefIdeal.main_arg5)) (m ((c.tc : Thread Cert.CrossSampleRefIdeal.nD Cert.CrossSampleRefIdeal.τ).loc Cert.CrossSampleRefIdeal.main_arg6))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_MixSample (m : (ℓ : Loc Cert.MixSample.nD Cert.MixSample.τ Cert.MixSample.sig) → Buf (Elt Bits) ℓ) : Prop :=
  True

def Pre_MixSampleIdeal (m : (ℓ : Loc Cert.MixSampleIdeal.nD Cert.MixSampleIdeal.τ Cert.MixSampleIdeal.sig) → Buf (Elt Ideal) ℓ) : Prop :=
  True

def Pre_MixSampleRefIdeal (m : (ℓ : Loc Cert.MixSampleRefIdeal.nD Cert.MixSampleRefIdeal.τ Cert.MixSampleRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ r.2.sem = fun _ => 0)

def quiescent_CrossIdeal_pre_mem_scores_finite [hCrossIdeal : Cert.CrossIdeal.Facts] [hPre_mem_scores_finite : Cert.Pre_mem_scores_finite.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_mem_scores_finite m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6))
      ∧ r.2.sem = fun _ => 0)

def quiescent_CrossRefIdeal_pre_mem_scores_finite [hCrossRefIdeal : Cert.CrossRefIdeal.Facts] [hPre_mem_scores_finite : Cert.Pre_mem_scores_finite.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_mem_scores_finite m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_RelBias [hRelBias : Cert.RelBias.Facts] : Prop :=
  ∀ (m : (ℓ : Loc Cert.RelBias.nD Cert.RelBias.τ Cert.RelBias.sig) → Buf (Elt Bits) ℓ) (g : Dev Cert.RelBias.nD → PrngReg), Pre_RelBias m →
    θ_run (Cert.RelBias.defs (F := Bits)) (onTc (τ := Cert.RelBias.τ) (Cert.RelBias.main (F := Bits))) ⟨m, fun _ => 0, g⟩ (fun r => (∀ c : Dev Cert.RelBias.nD,
      r.2.mem ((c.tc : Thread Cert.RelBias.nD Cert.RelBias.τ).loc Cert.RelBias.main_arg0) = m ((c.tc : Thread Cert.RelBias.nD Cert.RelBias.τ).loc Cert.RelBias.main_arg0))
      ∧ r.2.sem = fun _ => 0)

def quiescent_RelBiasIdeal [hRelBiasIdeal : Cert.RelBiasIdeal.Facts] : Prop :=
  ∀ (m : (ℓ : Loc Cert.RelBiasIdeal.nD Cert.RelBiasIdeal.τ Cert.RelBiasIdeal.sig) → Buf (Elt Ideal) ℓ) (g : Dev Cert.RelBiasIdeal.nD → PrngReg), Pre_RelBiasIdeal m →
    θ_run (Cert.RelBiasIdeal.defs (F := Ideal)) (onTc (τ := Cert.RelBiasIdeal.τ) (Cert.RelBiasIdeal.main (F := Ideal))) ⟨m, fun _ => 0, g⟩ (fun r => (∀ c : Dev Cert.RelBiasIdeal.nD,
      r.2.mem ((c.tc : Thread Cert.RelBiasIdeal.nD Cert.RelBiasIdeal.τ).loc Cert.RelBiasIdeal.main_arg0) = m ((c.tc : Thread Cert.RelBiasIdeal.nD Cert.RelBiasIdeal.τ).loc Cert.RelBiasIdeal.main_arg0))
      ∧ r.2.sem = fun _ => 0)

def quiescent_RelBiasRefIdeal [hRelBiasRefIdeal : Cert.RelBiasRefIdeal.Facts] : Prop :=
  ∀ (m : (ℓ : Loc Cert.RelBiasRefIdeal.nD Cert.RelBiasRefIdeal.τ Cert.RelBiasRefIdeal.sig) → Buf (Elt Ideal) ℓ) (g : Dev Cert.RelBiasRefIdeal.nD → PrngReg), Pre_RelBiasRefIdeal m →
    θ_run (Cert.RelBiasRefIdeal.defs (F := Ideal)) (onTc (τ := Cert.RelBiasRefIdeal.τ) (Cert.RelBiasRefIdeal.main (F := Ideal))) ⟨m, fun _ => 0, g⟩ (fun r => (∀ c : Dev Cert.RelBiasRefIdeal.nD,
      r.2.mem ((c.tc : Thread Cert.RelBiasRefIdeal.nD Cert.RelBiasRefIdeal.τ).loc Cert.RelBiasRefIdeal.main_arg0) = m ((c.tc : Thread Cert.RelBiasRefIdeal.nD Cert.RelBiasRefIdeal.τ).loc Cert.RelBiasRefIdeal.main_arg0))
      ∧ r.2.sem = fun _ => 0)

def quiescent_Caches [hCaches : Cert.Caches.Facts] : Prop :=
  ∀ (m : (ℓ : Loc Cert.Caches.nD Cert.Caches.τ Cert.Caches.sig) → Buf (Elt Bits) ℓ) (g : Dev Cert.Caches.nD → PrngReg), Pre_Caches m →
    θ_run (Cert.Caches.defs (F := Bits)) (onTc (τ := Cert.Caches.τ) (Cert.Caches.main (F := Bits))) ⟨m, fun _ => 0, g⟩ (fun r => (∀ c : Dev Cert.Caches.nD,
      r.2.mem ((c.tc : Thread Cert.Caches.nD Cert.Caches.τ).loc Cert.Caches.main_arg0) = m ((c.tc : Thread Cert.Caches.nD Cert.Caches.τ).loc Cert.Caches.main_arg0)
      ∧ r.2.mem ((c.tc : Thread Cert.Caches.nD Cert.Caches.τ).loc Cert.Caches.main_arg1) = m ((c.tc : Thread Cert.Caches.nD Cert.Caches.τ).loc Cert.Caches.main_arg1)
      ∧ r.2.mem ((c.tc : Thread Cert.Caches.nD Cert.Caches.τ).loc Cert.Caches.main_arg2) = m ((c.tc : Thread Cert.Caches.nD Cert.Caches.τ).loc Cert.Caches.main_arg2)
      ∧ r.2.mem ((c.tc : Thread Cert.Caches.nD Cert.Caches.τ).loc Cert.Caches.main_arg3) = m ((c.tc : Thread Cert.Caches.nD Cert.Caches.τ).loc Cert.Caches.main_arg3)
      ∧ r.2.mem ((c.tc : Thread Cert.Caches.nD Cert.Caches.τ).loc Cert.Caches.main_arg4) = m ((c.tc : Thread Cert.Caches.nD Cert.Caches.τ).loc Cert.Caches.main_arg4)
      ∧ r.2.mem ((c.tc : Thread Cert.Caches.nD Cert.Caches.τ).loc Cert.Caches.main_arg5) = m ((c.tc : Thread Cert.Caches.nD Cert.Caches.τ).loc Cert.Caches.main_arg5))
      ∧ r.2.sem = fun _ => 0)

def quiescent_CachesIdeal [hCachesIdeal : Cert.CachesIdeal.Facts] : Prop :=
  ∀ (m : (ℓ : Loc Cert.CachesIdeal.nD Cert.CachesIdeal.τ Cert.CachesIdeal.sig) → Buf (Elt Ideal) ℓ) (g : Dev Cert.CachesIdeal.nD → PrngReg), Pre_CachesIdeal m →
    θ_run (Cert.CachesIdeal.defs (F := Ideal)) (onTc (τ := Cert.CachesIdeal.τ) (Cert.CachesIdeal.main (F := Ideal))) ⟨m, fun _ => 0, g⟩ (fun r => (∀ c : Dev Cert.CachesIdeal.nD,
      r.2.mem ((c.tc : Thread Cert.CachesIdeal.nD Cert.CachesIdeal.τ).loc Cert.CachesIdeal.main_arg0) = m ((c.tc : Thread Cert.CachesIdeal.nD Cert.CachesIdeal.τ).loc Cert.CachesIdeal.main_arg0)
      ∧ r.2.mem ((c.tc : Thread Cert.CachesIdeal.nD Cert.CachesIdeal.τ).loc Cert.CachesIdeal.main_arg1) = m ((c.tc : Thread Cert.CachesIdeal.nD Cert.CachesIdeal.τ).loc Cert.CachesIdeal.main_arg1)
      ∧ r.2.mem ((c.tc : Thread Cert.CachesIdeal.nD Cert.CachesIdeal.τ).loc Cert.CachesIdeal.main_arg2) = m ((c.tc : Thread Cert.CachesIdeal.nD Cert.CachesIdeal.τ).loc Cert.CachesIdeal.main_arg2)
      ∧ r.2.mem ((c.tc : Thread Cert.CachesIdeal.nD Cert.CachesIdeal.τ).loc Cert.CachesIdeal.main_arg3) = m ((c.tc : Thread Cert.CachesIdeal.nD Cert.CachesIdeal.τ).loc Cert.CachesIdeal.main_arg3)
      ∧ r.2.mem ((c.tc : Thread Cert.CachesIdeal.nD Cert.CachesIdeal.τ).loc Cert.CachesIdeal.main_arg4) = m ((c.tc : Thread Cert.CachesIdeal.nD Cert.CachesIdeal.τ).loc Cert.CachesIdeal.main_arg4)
      ∧ r.2.mem ((c.tc : Thread Cert.CachesIdeal.nD Cert.CachesIdeal.τ).loc Cert.CachesIdeal.main_arg5) = m ((c.tc : Thread Cert.CachesIdeal.nD Cert.CachesIdeal.τ).loc Cert.CachesIdeal.main_arg5))
      ∧ r.2.sem = fun _ => 0)

def quiescent_CachesRefIdeal [hCachesRefIdeal : Cert.CachesRefIdeal.Facts] : Prop :=
  ∀ (m : (ℓ : Loc Cert.CachesRefIdeal.nD Cert.CachesRefIdeal.τ Cert.CachesRefIdeal.sig) → Buf (Elt Ideal) ℓ) (g : Dev Cert.CachesRefIdeal.nD → PrngReg), Pre_CachesRefIdeal m →
    θ_run (Cert.CachesRefIdeal.defs (F := Ideal)) (onTc (τ := Cert.CachesRefIdeal.τ) (Cert.CachesRefIdeal.main (F := Ideal))) ⟨m, fun _ => 0, g⟩ (fun r => (∀ c : Dev Cert.CachesRefIdeal.nD,
      r.2.mem ((c.tc : Thread Cert.CachesRefIdeal.nD Cert.CachesRefIdeal.τ).loc Cert.CachesRefIdeal.main_arg0) = m ((c.tc : Thread Cert.CachesRefIdeal.nD Cert.CachesRefIdeal.τ).loc Cert.CachesRefIdeal.main_arg0)
      ∧ r.2.mem ((c.tc : Thread Cert.CachesRefIdeal.nD Cert.CachesRefIdeal.τ).loc Cert.CachesRefIdeal.main_arg1) = m ((c.tc : Thread Cert.CachesRefIdeal.nD Cert.CachesRefIdeal.τ).loc Cert.CachesRefIdeal.main_arg1)
      ∧ r.2.mem ((c.tc : Thread Cert.CachesRefIdeal.nD Cert.CachesRefIdeal.τ).loc Cert.CachesRefIdeal.main_arg2) = m ((c.tc : Thread Cert.CachesRefIdeal.nD Cert.CachesRefIdeal.τ).loc Cert.CachesRefIdeal.main_arg2)
      ∧ r.2.mem ((c.tc : Thread Cert.CachesRefIdeal.nD Cert.CachesRefIdeal.τ).loc Cert.CachesRefIdeal.main_arg3) = m ((c.tc : Thread Cert.CachesRefIdeal.nD Cert.CachesRefIdeal.τ).loc Cert.CachesRefIdeal.main_arg3)
      ∧ r.2.mem ((c.tc : Thread Cert.CachesRefIdeal.nD Cert.CachesRefIdeal.τ).loc Cert.CachesRefIdeal.main_arg4) = m ((c.tc : Thread Cert.CachesRefIdeal.nD Cert.CachesRefIdeal.τ).loc Cert.CachesRefIdeal.main_arg4)
      ∧ r.2.mem ((c.tc : Thread Cert.CachesRefIdeal.nD Cert.CachesRefIdeal.τ).loc Cert.CachesRefIdeal.main_arg5) = m ((c.tc : Thread Cert.CachesRefIdeal.nD Cert.CachesRefIdeal.τ).loc Cert.CachesRefIdeal.main_arg5))
      ∧ r.2.sem = fun _ => 0)

def quiescent_MlpSample [hMlpSample : Cert.MlpSample.Facts] : Prop :=
  ∀ (m : (ℓ : Loc Cert.MlpSample.nD Cert.MlpSample.τ Cert.MlpSample.sig) → Buf (Elt Bits) ℓ) (g : Dev Cert.MlpSample.nD → PrngReg), Pre_MlpSample m →
    θ_run (Cert.MlpSample.defs (F := Bits)) (onTc (τ := Cert.MlpSample.τ) (Cert.MlpSample.main (F := Bits))) ⟨m, fun _ => 0, g⟩ (fun r => (∀ c : Dev Cert.MlpSample.nD,
      r.2.mem ((c.tc : Thread Cert.MlpSample.nD Cert.MlpSample.τ).loc Cert.MlpSample.main_arg0) = m ((c.tc : Thread Cert.MlpSample.nD Cert.MlpSample.τ).loc Cert.MlpSample.main_arg0)
      ∧ r.2.mem ((c.tc : Thread Cert.MlpSample.nD Cert.MlpSample.τ).loc Cert.MlpSample.main_arg1) = m ((c.tc : Thread Cert.MlpSample.nD Cert.MlpSample.τ).loc Cert.MlpSample.main_arg1)
      ∧ r.2.mem ((c.tc : Thread Cert.MlpSample.nD Cert.MlpSample.τ).loc Cert.MlpSample.main_arg2) = m ((c.tc : Thread Cert.MlpSample.nD Cert.MlpSample.τ).loc Cert.MlpSample.main_arg2)
      ∧ r.2.mem ((c.tc : Thread Cert.MlpSample.nD Cert.MlpSample.τ).loc Cert.MlpSample.main_arg3) = m ((c.tc : Thread Cert.MlpSample.nD Cert.MlpSample.τ).loc Cert.MlpSample.main_arg3)
      ∧ r.2.mem ((c.tc : Thread Cert.MlpSample.nD Cert.MlpSample.τ).loc Cert.MlpSample.main_arg4) = m ((c.tc : Thread Cert.MlpSample.nD Cert.MlpSample.τ).loc Cert.MlpSample.main_arg4))
      ∧ r.2.sem = fun _ => 0)

def quiescent_MlpSampleIdeal [hMlpSampleIdeal : Cert.MlpSampleIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg), Pre_MlpSampleIdeal m →
    θ_run (Cert.MlpSampleIdeal.defs (F := Ideal)) (onTc (τ := Cert.MlpSampleIdeal.τ) (Cert.MlpSampleIdeal.main (F := Ideal))) ⟨m, fun _ => 0, g⟩ (fun r => (∀ c : Dev Cert.MlpSampleIdeal.nD,
      r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
      ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
      ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
      ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
      ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4))
      ∧ r.2.sem = fun _ => 0)

def quiescent_MlpSampleRefIdeal [hMlpSampleRefIdeal : Cert.MlpSampleRefIdeal.Facts] : Prop :=
  ∀ (m : (ℓ : Loc Cert.MlpSampleRefIdeal.nD Cert.MlpSampleRefIdeal.τ Cert.MlpSampleRefIdeal.sig) → Buf (Elt Ideal) ℓ) (g : Dev Cert.MlpSampleRefIdeal.nD → PrngReg), Pre_MlpSampleRefIdeal m →
    θ_run (Cert.MlpSampleRefIdeal.defs (F := Ideal)) (onTc (τ := Cert.MlpSampleRefIdeal.τ) (Cert.MlpSampleRefIdeal.main (F := Ideal))) ⟨m, fun _ => 0, g⟩ (fun r => (∀ c : Dev Cert.MlpSampleRefIdeal.nD,
      r.2.mem ((c.tc : Thread Cert.MlpSampleRefIdeal.nD Cert.MlpSampleRefIdeal.τ).loc Cert.MlpSampleRefIdeal.main_arg0) = m ((c.tc : Thread Cert.MlpSampleRefIdeal.nD Cert.MlpSampleRefIdeal.τ).loc Cert.MlpSampleRefIdeal.main_arg0)
      ∧ r.2.mem ((c.tc : Thread Cert.MlpSampleRefIdeal.nD Cert.MlpSampleRefIdeal.τ).loc Cert.MlpSampleRefIdeal.main_arg1) = m ((c.tc : Thread Cert.MlpSampleRefIdeal.nD Cert.MlpSampleRefIdeal.τ).loc Cert.MlpSampleRefIdeal.main_arg1)
      ∧ r.2.mem ((c.tc : Thread Cert.MlpSampleRefIdeal.nD Cert.MlpSampleRefIdeal.τ).loc Cert.MlpSampleRefIdeal.main_arg2) = m ((c.tc : Thread Cert.MlpSampleRefIdeal.nD Cert.MlpSampleRefIdeal.τ).loc Cert.MlpSampleRefIdeal.main_arg2)
      ∧ r.2.mem ((c.tc : Thread Cert.MlpSampleRefIdeal.nD Cert.MlpSampleRefIdeal.τ).loc Cert.MlpSampleRefIdeal.main_arg3) = m ((c.tc : Thread Cert.MlpSampleRefIdeal.nD Cert.MlpSampleRefIdeal.τ).loc Cert.MlpSampleRefIdeal.main_arg3)
      ∧ r.2.mem ((c.tc : Thread Cert.MlpSampleRefIdeal.nD Cert.MlpSampleRefIdeal.τ).loc Cert.MlpSampleRefIdeal.main_arg4) = m ((c.tc : Thread Cert.MlpSampleRefIdeal.nD Cert.MlpSampleRefIdeal.τ).loc Cert.MlpSampleRefIdeal.main_arg4))
      ∧ r.2.sem = fun _ => 0)

def quiescent_CrossSample [hCrossSample : Cert.CrossSample.Facts] : Prop :=
  ∀ (m : (ℓ : Loc Cert.CrossSample.nD Cert.CrossSample.τ Cert.CrossSample.sig) → Buf (Elt Bits) ℓ) (g : Dev Cert.CrossSample.nD → PrngReg), Pre_CrossSample m →
    θ_run (Cert.CrossSample.defs (F := Bits)) (onTc (τ := Cert.CrossSample.τ) (Cert.CrossSample.main (F := Bits))) ⟨m, fun _ => 0, g⟩ (fun r => (∀ c : Dev Cert.CrossSample.nD,
      r.2.mem ((c.tc : Thread Cert.CrossSample.nD Cert.CrossSample.τ).loc Cert.CrossSample.main_arg0) = m ((c.tc : Thread Cert.CrossSample.nD Cert.CrossSample.τ).loc Cert.CrossSample.main_arg0)
      ∧ r.2.mem ((c.tc : Thread Cert.CrossSample.nD Cert.CrossSample.τ).loc Cert.CrossSample.main_arg1) = m ((c.tc : Thread Cert.CrossSample.nD Cert.CrossSample.τ).loc Cert.CrossSample.main_arg1)
      ∧ r.2.mem ((c.tc : Thread Cert.CrossSample.nD Cert.CrossSample.τ).loc Cert.CrossSample.main_arg2) = m ((c.tc : Thread Cert.CrossSample.nD Cert.CrossSample.τ).loc Cert.CrossSample.main_arg2)
      ∧ r.2.mem ((c.tc : Thread Cert.CrossSample.nD Cert.CrossSample.τ).loc Cert.CrossSample.main_arg3) = m ((c.tc : Thread Cert.CrossSample.nD Cert.CrossSample.τ).loc Cert.CrossSample.main_arg3)
      ∧ r.2.mem ((c.tc : Thread Cert.CrossSample.nD Cert.CrossSample.τ).loc Cert.CrossSample.main_arg4) = m ((c.tc : Thread Cert.CrossSample.nD Cert.CrossSample.τ).loc Cert.CrossSample.main_arg4)
      ∧ r.2.mem ((c.tc : Thread Cert.CrossSample.nD Cert.CrossSample.τ).loc Cert.CrossSample.main_arg5) = m ((c.tc : Thread Cert.CrossSample.nD Cert.CrossSample.τ).loc Cert.CrossSample.main_arg5)
      ∧ r.2.mem ((c.tc : Thread Cert.CrossSample.nD Cert.CrossSample.τ).loc Cert.CrossSample.main_arg6) = m ((c.tc : Thread Cert.CrossSample.nD Cert.CrossSample.τ).loc Cert.CrossSample.main_arg6))
      ∧ r.2.sem = fun _ => 0)

def quiescent_CrossSampleIdeal [hCrossSampleIdeal : Cert.CrossSampleIdeal.Facts] : Prop :=
  ∀ (m : (ℓ : Loc Cert.CrossSampleIdeal.nD Cert.CrossSampleIdeal.τ Cert.CrossSampleIdeal.sig) → Buf (Elt Ideal) ℓ) (g : Dev Cert.CrossSampleIdeal.nD → PrngReg), Pre_CrossSampleIdeal m →
    θ_run (Cert.CrossSampleIdeal.defs (F := Ideal)) (onTc (τ := Cert.CrossSampleIdeal.τ) (Cert.CrossSampleIdeal.main (F := Ideal))) ⟨m, fun _ => 0, g⟩ (fun r => (∀ c : Dev Cert.CrossSampleIdeal.nD,
      r.2.mem ((c.tc : Thread Cert.CrossSampleIdeal.nD Cert.CrossSampleIdeal.τ).loc Cert.CrossSampleIdeal.main_arg0) = m ((c.tc : Thread Cert.CrossSampleIdeal.nD Cert.CrossSampleIdeal.τ).loc Cert.CrossSampleIdeal.main_arg0)
      ∧ r.2.mem ((c.tc : Thread Cert.CrossSampleIdeal.nD Cert.CrossSampleIdeal.τ).loc Cert.CrossSampleIdeal.main_arg1) = m ((c.tc : Thread Cert.CrossSampleIdeal.nD Cert.CrossSampleIdeal.τ).loc Cert.CrossSampleIdeal.main_arg1)
      ∧ r.2.mem ((c.tc : Thread Cert.CrossSampleIdeal.nD Cert.CrossSampleIdeal.τ).loc Cert.CrossSampleIdeal.main_arg2) = m ((c.tc : Thread Cert.CrossSampleIdeal.nD Cert.CrossSampleIdeal.τ).loc Cert.CrossSampleIdeal.main_arg2)
      ∧ r.2.mem ((c.tc : Thread Cert.CrossSampleIdeal.nD Cert.CrossSampleIdeal.τ).loc Cert.CrossSampleIdeal.main_arg3) = m ((c.tc : Thread Cert.CrossSampleIdeal.nD Cert.CrossSampleIdeal.τ).loc Cert.CrossSampleIdeal.main_arg3)
      ∧ r.2.mem ((c.tc : Thread Cert.CrossSampleIdeal.nD Cert.CrossSampleIdeal.τ).loc Cert.CrossSampleIdeal.main_arg4) = m ((c.tc : Thread Cert.CrossSampleIdeal.nD Cert.CrossSampleIdeal.τ).loc Cert.CrossSampleIdeal.main_arg4)
      ∧ r.2.mem ((c.tc : Thread Cert.CrossSampleIdeal.nD Cert.CrossSampleIdeal.τ).loc Cert.CrossSampleIdeal.main_arg5) = m ((c.tc : Thread Cert.CrossSampleIdeal.nD Cert.CrossSampleIdeal.τ).loc Cert.CrossSampleIdeal.main_arg5)
      ∧ r.2.mem ((c.tc : Thread Cert.CrossSampleIdeal.nD Cert.CrossSampleIdeal.τ).loc Cert.CrossSampleIdeal.main_arg6) = m ((c.tc : Thread Cert.CrossSampleIdeal.nD Cert.CrossSampleIdeal.τ).loc Cert.CrossSampleIdeal.main_arg6))
      ∧ r.2.sem = fun _ => 0)

def quiescent_CrossSampleIdeal_pre_cache_scores_finite [hCrossSampleIdeal : Cert.CrossSampleIdeal.Facts] [hPre_cache_scores_finite : Cert.Pre_cache_scores_finite.Facts] : Prop :=
  ∀ (m : (ℓ : Loc Cert.CrossSampleIdeal.nD Cert.CrossSampleIdeal.τ Cert.CrossSampleIdeal.sig) → Buf (Elt Ideal) ℓ) (g : Dev Cert.CrossSampleIdeal.nD → PrngReg), Pre_CrossSampleIdeal_cache_scores_finite m →
    θ_run (Cert.CrossSampleIdeal.defs (F := Ideal)) (onTc (τ := Cert.CrossSampleIdeal.τ) (Cert.CrossSampleIdeal.main (F := Ideal))) ⟨m, fun _ => 0, g⟩ (fun r => (∀ c : Dev Cert.CrossSampleIdeal.nD,
      r.2.mem ((c.tc : Thread Cert.CrossSampleIdeal.nD Cert.CrossSampleIdeal.τ).loc Cert.CrossSampleIdeal.main_arg0) = m ((c.tc : Thread Cert.CrossSampleIdeal.nD Cert.CrossSampleIdeal.τ).loc Cert.CrossSampleIdeal.main_arg0)
      ∧ r.2.mem ((c.tc : Thread Cert.CrossSampleIdeal.nD Cert.CrossSampleIdeal.τ).loc Cert.CrossSampleIdeal.main_arg1) = m ((c.tc : Thread Cert.CrossSampleIdeal.nD Cert.CrossSampleIdeal.τ).loc Cert.CrossSampleIdeal.main_arg1)
      ∧ r.2.mem ((c.tc : Thread Cert.CrossSampleIdeal.nD Cert.CrossSampleIdeal.τ).loc Cert.CrossSampleIdeal.main_arg2) = m ((c.tc : Thread Cert.CrossSampleIdeal.nD Cert.CrossSampleIdeal.τ).loc Cert.CrossSampleIdeal.main_arg2)
      ∧ r.2.mem ((c.tc : Thread Cert.CrossSampleIdeal.nD Cert.CrossSampleIdeal.τ).loc Cert.CrossSampleIdeal.main_arg3) = m ((c.tc : Thread Cert.CrossSampleIdeal.nD Cert.CrossSampleIdeal.τ).loc Cert.CrossSampleIdeal.main_arg3)
      ∧ r.2.mem ((c.tc : Thread Cert.CrossSampleIdeal.nD Cert.CrossSampleIdeal.τ).loc Cert.CrossSampleIdeal.main_arg4) = m ((c.tc : Thread Cert.CrossSampleIdeal.nD Cert.CrossSampleIdeal.τ).loc Cert.CrossSampleIdeal.main_arg4)
      ∧ r.2.mem ((c.tc : Thread Cert.CrossSampleIdeal.nD Cert.CrossSampleIdeal.τ).loc Cert.CrossSampleIdeal.main_arg5) = m ((c.tc : Thread Cert.CrossSampleIdeal.nD Cert.CrossSampleIdeal.τ).loc Cert.CrossSampleIdeal.main_arg5)
      ∧ r.2.mem ((c.tc : Thread Cert.CrossSampleIdeal.nD Cert.CrossSampleIdeal.τ).loc Cert.CrossSampleIdeal.main_arg6) = m ((c.tc : Thread Cert.CrossSampleIdeal.nD Cert.CrossSampleIdeal.τ).loc Cert.CrossSampleIdeal.main_arg6))
      ∧ r.2.sem = fun _ => 0)

def quiescent_CrossSampleRefIdeal [hCrossSampleRefIdeal : Cert.CrossSampleRefIdeal.Facts] : Prop :=
  ∀ (m : (ℓ : Loc Cert.CrossSampleRefIdeal.nD Cert.CrossSampleRefIdeal.τ Cert.CrossSampleRefIdeal.sig) → Buf (Elt Ideal) ℓ) (g : Dev Cert.CrossSampleRefIdeal.nD → PrngReg), Pre_CrossSampleRefIdeal m →
    θ_run (Cert.CrossSampleRefIdeal.defs (F := Ideal)) (onTc (τ := Cert.CrossSampleRefIdeal.τ) (Cert.CrossSampleRefIdeal.main (F := Ideal))) ⟨m, fun _ => 0, g⟩ (fun r => (∀ c : Dev Cert.CrossSampleRefIdeal.nD,
      r.2.mem ((c.tc : Thread Cert.CrossSampleRefIdeal.nD Cert.CrossSampleRefIdeal.τ).loc Cert.CrossSampleRefIdeal.main_arg0) = m ((c.tc : Thread Cert.CrossSampleRefIdeal.nD Cert.CrossSampleRefIdeal.τ).loc Cert.CrossSampleRefIdeal.main_arg0)
      ∧ r.2.mem ((c.tc : Thread Cert.CrossSampleRefIdeal.nD Cert.CrossSampleRefIdeal.τ).loc Cert.CrossSampleRefIdeal.main_arg1) = m ((c.tc : Thread Cert.CrossSampleRefIdeal.nD Cert.CrossSampleRefIdeal.τ).loc Cert.CrossSampleRefIdeal.main_arg1)
      ∧ r.2.mem ((c.tc : Thread Cert.CrossSampleRefIdeal.nD Cert.CrossSampleRefIdeal.τ).loc Cert.CrossSampleRefIdeal.main_arg2) = m ((c.tc : Thread Cert.CrossSampleRefIdeal.nD Cert.CrossSampleRefIdeal.τ).loc Cert.CrossSampleRefIdeal.main_arg2)
      ∧ r.2.mem ((c.tc : Thread Cert.CrossSampleRefIdeal.nD Cert.CrossSampleRefIdeal.τ).loc Cert.CrossSampleRefIdeal.main_arg3) = m ((c.tc : Thread Cert.CrossSampleRefIdeal.nD Cert.CrossSampleRefIdeal.τ).loc Cert.CrossSampleRefIdeal.main_arg3)
      ∧ r.2.mem ((c.tc : Thread Cert.CrossSampleRefIdeal.nD Cert.CrossSampleRefIdeal.τ).loc Cert.CrossSampleRefIdeal.main_arg4) = m ((c.tc : Thread Cert.CrossSampleRefIdeal.nD Cert.CrossSampleRefIdeal.τ).loc Cert.CrossSampleRefIdeal.main_arg4)
      ∧ r.2.mem ((c.tc : Thread Cert.CrossSampleRefIdeal.nD Cert.CrossSampleRefIdeal.τ).loc Cert.CrossSampleRefIdeal.main_arg5) = m ((c.tc : Thread Cert.CrossSampleRefIdeal.nD Cert.CrossSampleRefIdeal.τ).loc Cert.CrossSampleRefIdeal.main_arg5)
      ∧ r.2.mem ((c.tc : Thread Cert.CrossSampleRefIdeal.nD Cert.CrossSampleRefIdeal.τ).loc Cert.CrossSampleRefIdeal.main_arg6) = m ((c.tc : Thread Cert.CrossSampleRefIdeal.nD Cert.CrossSampleRefIdeal.τ).loc Cert.CrossSampleRefIdeal.main_arg6))
      ∧ r.2.sem = fun _ => 0)

def quiescent_CrossSampleRefIdeal_pre_cache_scores_finite [hCrossSampleRefIdeal : Cert.CrossSampleRefIdeal.Facts] [hPre_cache_scores_finite : Cert.Pre_cache_scores_finite.Facts] : Prop :=
  ∀ (m : (ℓ : Loc Cert.CrossSampleRefIdeal.nD Cert.CrossSampleRefIdeal.τ Cert.CrossSampleRefIdeal.sig) → Buf (Elt Ideal) ℓ) (g : Dev Cert.CrossSampleRefIdeal.nD → PrngReg), Pre_CrossSampleRefIdeal_cache_scores_finite m →
    θ_run (Cert.CrossSampleRefIdeal.defs (F := Ideal)) (onTc (τ := Cert.CrossSampleRefIdeal.τ) (Cert.CrossSampleRefIdeal.main (F := Ideal))) ⟨m, fun _ => 0, g⟩ (fun r => (∀ c : Dev Cert.CrossSampleRefIdeal.nD,
      r.2.mem ((c.tc : Thread Cert.CrossSampleRefIdeal.nD Cert.CrossSampleRefIdeal.τ).loc Cert.CrossSampleRefIdeal.main_arg0) = m ((c.tc : Thread Cert.CrossSampleRefIdeal.nD Cert.CrossSampleRefIdeal.τ).loc Cert.CrossSampleRefIdeal.main_arg0)
      ∧ r.2.mem ((c.tc : Thread Cert.CrossSampleRefIdeal.nD Cert.CrossSampleRefIdeal.τ).loc Cert.CrossSampleRefIdeal.main_arg1) = m ((c.tc : Thread Cert.CrossSampleRefIdeal.nD Cert.CrossSampleRefIdeal.τ).loc Cert.CrossSampleRefIdeal.main_arg1)
      ∧ r.2.mem ((c.tc : Thread Cert.CrossSampleRefIdeal.nD Cert.CrossSampleRefIdeal.τ).loc Cert.CrossSampleRefIdeal.main_arg2) = m ((c.tc : Thread Cert.CrossSampleRefIdeal.nD Cert.CrossSampleRefIdeal.τ).loc Cert.CrossSampleRefIdeal.main_arg2)
      ∧ r.2.mem ((c.tc : Thread Cert.CrossSampleRefIdeal.nD Cert.CrossSampleRefIdeal.τ).loc Cert.CrossSampleRefIdeal.main_arg3) = m ((c.tc : Thread Cert.CrossSampleRefIdeal.nD Cert.CrossSampleRefIdeal.τ).loc Cert.CrossSampleRefIdeal.main_arg3)
      ∧ r.2.mem ((c.tc : Thread Cert.CrossSampleRefIdeal.nD Cert.CrossSampleRefIdeal.τ).loc Cert.CrossSampleRefIdeal.main_arg4) = m ((c.tc : Thread Cert.CrossSampleRefIdeal.nD Cert.CrossSampleRefIdeal.τ).loc Cert.CrossSampleRefIdeal.main_arg4)
      ∧ r.2.mem ((c.tc : Thread Cert.CrossSampleRefIdeal.nD Cert.CrossSampleRefIdeal.τ).loc Cert.CrossSampleRefIdeal.main_arg5) = m ((c.tc : Thread Cert.CrossSampleRefIdeal.nD Cert.CrossSampleRefIdeal.τ).loc Cert.CrossSampleRefIdeal.main_arg5)
      ∧ r.2.mem ((c.tc : Thread Cert.CrossSampleRefIdeal.nD Cert.CrossSampleRefIdeal.τ).loc Cert.CrossSampleRefIdeal.main_arg6) = m ((c.tc : Thread Cert.CrossSampleRefIdeal.nD Cert.CrossSampleRefIdeal.τ).loc Cert.CrossSampleRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13))
      ∧ r.2.sem = fun _ => 0)

def quiescent_MixSample [hMixSample : Cert.MixSample.Facts] : Prop :=
  ∀ (m : (ℓ : Loc Cert.MixSample.nD Cert.MixSample.τ Cert.MixSample.sig) → Buf (Elt Bits) ℓ) (g : Dev Cert.MixSample.nD → PrngReg), Pre_MixSample m →
    θ_run (Cert.MixSample.defs (F := Bits)) (onTc (τ := Cert.MixSample.τ) (Cert.MixSample.main (F := Bits))) ⟨m, fun _ => 0, g⟩ (fun r => (∀ c : Dev Cert.MixSample.nD,
      r.2.mem ((c.tc : Thread Cert.MixSample.nD Cert.MixSample.τ).loc Cert.MixSample.main_arg0) = m ((c.tc : Thread Cert.MixSample.nD Cert.MixSample.τ).loc Cert.MixSample.main_arg0)
      ∧ r.2.mem ((c.tc : Thread Cert.MixSample.nD Cert.MixSample.τ).loc Cert.MixSample.main_arg1) = m ((c.tc : Thread Cert.MixSample.nD Cert.MixSample.τ).loc Cert.MixSample.main_arg1)
      ∧ r.2.mem ((c.tc : Thread Cert.MixSample.nD Cert.MixSample.τ).loc Cert.MixSample.main_arg2) = m ((c.tc : Thread Cert.MixSample.nD Cert.MixSample.τ).loc Cert.MixSample.main_arg2)
      ∧ r.2.mem ((c.tc : Thread Cert.MixSample.nD Cert.MixSample.τ).loc Cert.MixSample.main_arg3) = m ((c.tc : Thread Cert.MixSample.nD Cert.MixSample.τ).loc Cert.MixSample.main_arg3)
      ∧ r.2.mem ((c.tc : Thread Cert.MixSample.nD Cert.MixSample.τ).loc Cert.MixSample.main_arg4) = m ((c.tc : Thread Cert.MixSample.nD Cert.MixSample.τ).loc Cert.MixSample.main_arg4)
      ∧ r.2.mem ((c.tc : Thread Cert.MixSample.nD Cert.MixSample.τ).loc Cert.MixSample.main_arg5) = m ((c.tc : Thread Cert.MixSample.nD Cert.MixSample.τ).loc Cert.MixSample.main_arg5)
      ∧ r.2.mem ((c.tc : Thread Cert.MixSample.nD Cert.MixSample.τ).loc Cert.MixSample.main_arg6) = m ((c.tc : Thread Cert.MixSample.nD Cert.MixSample.τ).loc Cert.MixSample.main_arg6)
      ∧ r.2.mem ((c.tc : Thread Cert.MixSample.nD Cert.MixSample.τ).loc Cert.MixSample.main_arg7) = m ((c.tc : Thread Cert.MixSample.nD Cert.MixSample.τ).loc Cert.MixSample.main_arg7)
      ∧ r.2.mem ((c.tc : Thread Cert.MixSample.nD Cert.MixSample.τ).loc Cert.MixSample.main_arg8) = m ((c.tc : Thread Cert.MixSample.nD Cert.MixSample.τ).loc Cert.MixSample.main_arg8)
      ∧ r.2.mem ((c.tc : Thread Cert.MixSample.nD Cert.MixSample.τ).loc Cert.MixSample.main_arg9) = m ((c.tc : Thread Cert.MixSample.nD Cert.MixSample.τ).loc Cert.MixSample.main_arg9)
      ∧ r.2.mem ((c.tc : Thread Cert.MixSample.nD Cert.MixSample.τ).loc Cert.MixSample.main_arg10) = m ((c.tc : Thread Cert.MixSample.nD Cert.MixSample.τ).loc Cert.MixSample.main_arg10)
      ∧ r.2.mem ((c.tc : Thread Cert.MixSample.nD Cert.MixSample.τ).loc Cert.MixSample.main_arg11) = m ((c.tc : Thread Cert.MixSample.nD Cert.MixSample.τ).loc Cert.MixSample.main_arg11)
      ∧ r.2.mem ((c.tc : Thread Cert.MixSample.nD Cert.MixSample.τ).loc Cert.MixSample.main_arg12) = m ((c.tc : Thread Cert.MixSample.nD Cert.MixSample.τ).loc Cert.MixSample.main_arg12)
      ∧ r.2.mem ((c.tc : Thread Cert.MixSample.nD Cert.MixSample.τ).loc Cert.MixSample.main_arg13) = m ((c.tc : Thread Cert.MixSample.nD Cert.MixSample.τ).loc Cert.MixSample.main_arg13)
      ∧ r.2.mem ((c.tc : Thread Cert.MixSample.nD Cert.MixSample.τ).loc Cert.MixSample.main_arg14) = m ((c.tc : Thread Cert.MixSample.nD Cert.MixSample.τ).loc Cert.MixSample.main_arg14)
      ∧ r.2.mem ((c.tc : Thread Cert.MixSample.nD Cert.MixSample.τ).loc Cert.MixSample.main_arg15) = m ((c.tc : Thread Cert.MixSample.nD Cert.MixSample.τ).loc Cert.MixSample.main_arg15)
      ∧ r.2.mem ((c.tc : Thread Cert.MixSample.nD Cert.MixSample.τ).loc Cert.MixSample.main_arg16) = m ((c.tc : Thread Cert.MixSample.nD Cert.MixSample.τ).loc Cert.MixSample.main_arg16)
      ∧ r.2.mem ((c.tc : Thread Cert.MixSample.nD Cert.MixSample.τ).loc Cert.MixSample.main_arg17) = m ((c.tc : Thread Cert.MixSample.nD Cert.MixSample.τ).loc Cert.MixSample.main_arg17))
      ∧ r.2.sem = fun _ => 0)

def quiescent_MixSampleIdeal [hMixSampleIdeal : Cert.MixSampleIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg), Pre_MixSampleIdeal m →
    θ_run (Cert.MixSampleIdeal.defs (F := Ideal)) (onTc (τ := Cert.MixSampleIdeal.τ) (Cert.MixSampleIdeal.main (F := Ideal))) ⟨m, fun _ => 0, g⟩ (fun r => (∀ c : Dev Cert.MixSampleIdeal.nD,
      r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
      ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
      ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
      ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
      ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
      ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
      ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6)
      ∧ r.2.mem ((c.tc : Thread Cert.MixSampleIdeal.nD Cert.MixSampleIdeal.τ).loc Cert.MixSampleIdeal.main_arg7) = m ((c.tc : Thread Cert.MixSampleIdeal.nD Cert.MixSampleIdeal.τ).loc Cert.MixSampleIdeal.main_arg7)
      ∧ r.2.mem ((c.tc : Thread Cert.MixSampleIdeal.nD Cert.MixSampleIdeal.τ).loc Cert.MixSampleIdeal.main_arg8) = m ((c.tc : Thread Cert.MixSampleIdeal.nD Cert.MixSampleIdeal.τ).loc Cert.MixSampleIdeal.main_arg8)
      ∧ r.2.mem ((c.tc : Thread Cert.MixSampleIdeal.nD Cert.MixSampleIdeal.τ).loc Cert.MixSampleIdeal.main_arg9) = m ((c.tc : Thread Cert.MixSampleIdeal.nD Cert.MixSampleIdeal.τ).loc Cert.MixSampleIdeal.main_arg9)
      ∧ r.2.mem ((c.tc : Thread Cert.MixSampleIdeal.nD Cert.MixSampleIdeal.τ).loc Cert.MixSampleIdeal.main_arg10) = m ((c.tc : Thread Cert.MixSampleIdeal.nD Cert.MixSampleIdeal.τ).loc Cert.MixSampleIdeal.main_arg10)
      ∧ r.2.mem ((c.tc : Thread Cert.MixSampleIdeal.nD Cert.MixSampleIdeal.τ).loc Cert.MixSampleIdeal.main_arg11) = m ((c.tc : Thread Cert.MixSampleIdeal.nD Cert.MixSampleIdeal.τ).loc Cert.MixSampleIdeal.main_arg11)
      ∧ r.2.mem ((c.tc : Thread Cert.MixSampleIdeal.nD Cert.MixSampleIdeal.τ).loc Cert.MixSampleIdeal.main_arg12) = m ((c.tc : Thread Cert.MixSampleIdeal.nD Cert.MixSampleIdeal.τ).loc Cert.MixSampleIdeal.main_arg12)
      ∧ r.2.mem ((c.tc : Thread Cert.MixSampleIdeal.nD Cert.MixSampleIdeal.τ).loc Cert.MixSampleIdeal.main_arg13) = m ((c.tc : Thread Cert.MixSampleIdeal.nD Cert.MixSampleIdeal.τ).loc Cert.MixSampleIdeal.main_arg13)
      ∧ r.2.mem ((c.tc : Thread Cert.MixSampleIdeal.nD Cert.MixSampleIdeal.τ).loc Cert.MixSampleIdeal.main_arg14) = m ((c.tc : Thread Cert.MixSampleIdeal.nD Cert.MixSampleIdeal.τ).loc Cert.MixSampleIdeal.main_arg14)
      ∧ r.2.mem ((c.tc : Thread Cert.MixSampleIdeal.nD Cert.MixSampleIdeal.τ).loc Cert.MixSampleIdeal.main_arg15) = m ((c.tc : Thread Cert.MixSampleIdeal.nD Cert.MixSampleIdeal.τ).loc Cert.MixSampleIdeal.main_arg15)
      ∧ r.2.mem ((c.tc : Thread Cert.MixSampleIdeal.nD Cert.MixSampleIdeal.τ).loc Cert.MixSampleIdeal.main_arg16) = m ((c.tc : Thread Cert.MixSampleIdeal.nD Cert.MixSampleIdeal.τ).loc Cert.MixSampleIdeal.main_arg16)
      ∧ r.2.mem ((c.tc : Thread Cert.MixSampleIdeal.nD Cert.MixSampleIdeal.τ).loc Cert.MixSampleIdeal.main_arg17) = m ((c.tc : Thread Cert.MixSampleIdeal.nD Cert.MixSampleIdeal.τ).loc Cert.MixSampleIdeal.main_arg17))
      ∧ r.2.sem = fun _ => 0)

def quiescent_MixSampleRefIdeal [hMixSampleRefIdeal : Cert.MixSampleRefIdeal.Facts] : Prop :=
  ∀ (m : (ℓ : Loc Cert.MixSampleRefIdeal.nD Cert.MixSampleRefIdeal.τ Cert.MixSampleRefIdeal.sig) → Buf (Elt Ideal) ℓ) (g : Dev Cert.MixSampleRefIdeal.nD → PrngReg), Pre_MixSampleRefIdeal m →
    θ_run (Cert.MixSampleRefIdeal.defs (F := Ideal)) (onTc (τ := Cert.MixSampleRefIdeal.τ) (Cert.MixSampleRefIdeal.main (F := Ideal))) ⟨m, fun _ => 0, g⟩ (fun r => (∀ c : Dev Cert.MixSampleRefIdeal.nD,
      r.2.mem ((c.tc : Thread Cert.MixSampleRefIdeal.nD Cert.MixSampleRefIdeal.τ).loc Cert.MixSampleRefIdeal.main_arg0) = m ((c.tc : Thread Cert.MixSampleRefIdeal.nD Cert.MixSampleRefIdeal.τ).loc Cert.MixSampleRefIdeal.main_arg0)
      ∧ r.2.mem ((c.tc : Thread Cert.MixSampleRefIdeal.nD Cert.MixSampleRefIdeal.τ).loc Cert.MixSampleRefIdeal.main_arg1) = m ((c.tc : Thread Cert.MixSampleRefIdeal.nD Cert.MixSampleRefIdeal.τ).loc Cert.MixSampleRefIdeal.main_arg1)
      ∧ r.2.mem ((c.tc : Thread Cert.MixSampleRefIdeal.nD Cert.MixSampleRefIdeal.τ).loc Cert.MixSampleRefIdeal.main_arg2) = m ((c.tc : Thread Cert.MixSampleRefIdeal.nD Cert.MixSampleRefIdeal.τ).loc Cert.MixSampleRefIdeal.main_arg2)
      ∧ r.2.mem ((c.tc : Thread Cert.MixSampleRefIdeal.nD Cert.MixSampleRefIdeal.τ).loc Cert.MixSampleRefIdeal.main_arg3) = m ((c.tc : Thread Cert.MixSampleRefIdeal.nD Cert.MixSampleRefIdeal.τ).loc Cert.MixSampleRefIdeal.main_arg3)
      ∧ r.2.mem ((c.tc : Thread Cert.MixSampleRefIdeal.nD Cert.MixSampleRefIdeal.τ).loc Cert.MixSampleRefIdeal.main_arg4) = m ((c.tc : Thread Cert.MixSampleRefIdeal.nD Cert.MixSampleRefIdeal.τ).loc Cert.MixSampleRefIdeal.main_arg4)
      ∧ r.2.mem ((c.tc : Thread Cert.MixSampleRefIdeal.nD Cert.MixSampleRefIdeal.τ).loc Cert.MixSampleRefIdeal.main_arg5) = m ((c.tc : Thread Cert.MixSampleRefIdeal.nD Cert.MixSampleRefIdeal.τ).loc Cert.MixSampleRefIdeal.main_arg5)
      ∧ r.2.mem ((c.tc : Thread Cert.MixSampleRefIdeal.nD Cert.MixSampleRefIdeal.τ).loc Cert.MixSampleRefIdeal.main_arg6) = m ((c.tc : Thread Cert.MixSampleRefIdeal.nD Cert.MixSampleRefIdeal.τ).loc Cert.MixSampleRefIdeal.main_arg6)
      ∧ r.2.mem ((c.tc : Thread Cert.MixSampleRefIdeal.nD Cert.MixSampleRefIdeal.τ).loc Cert.MixSampleRefIdeal.main_arg7) = m ((c.tc : Thread Cert.MixSampleRefIdeal.nD Cert.MixSampleRefIdeal.τ).loc Cert.MixSampleRefIdeal.main_arg7)
      ∧ r.2.mem ((c.tc : Thread Cert.MixSampleRefIdeal.nD Cert.MixSampleRefIdeal.τ).loc Cert.MixSampleRefIdeal.main_arg8) = m ((c.tc : Thread Cert.MixSampleRefIdeal.nD Cert.MixSampleRefIdeal.τ).loc Cert.MixSampleRefIdeal.main_arg8)
      ∧ r.2.mem ((c.tc : Thread Cert.MixSampleRefIdeal.nD Cert.MixSampleRefIdeal.τ).loc Cert.MixSampleRefIdeal.main_arg9) = m ((c.tc : Thread Cert.MixSampleRefIdeal.nD Cert.MixSampleRefIdeal.τ).loc Cert.MixSampleRefIdeal.main_arg9)
      ∧ r.2.mem ((c.tc : Thread Cert.MixSampleRefIdeal.nD Cert.MixSampleRefIdeal.τ).loc Cert.MixSampleRefIdeal.main_arg10) = m ((c.tc : Thread Cert.MixSampleRefIdeal.nD Cert.MixSampleRefIdeal.τ).loc Cert.MixSampleRefIdeal.main_arg10)
      ∧ r.2.mem ((c.tc : Thread Cert.MixSampleRefIdeal.nD Cert.MixSampleRefIdeal.τ).loc Cert.MixSampleRefIdeal.main_arg11) = m ((c.tc : Thread Cert.MixSampleRefIdeal.nD Cert.MixSampleRefIdeal.τ).loc Cert.MixSampleRefIdeal.main_arg11)
      ∧ r.2.mem ((c.tc : Thread Cert.MixSampleRefIdeal.nD Cert.MixSampleRefIdeal.τ).loc Cert.MixSampleRefIdeal.main_arg12) = m ((c.tc : Thread Cert.MixSampleRefIdeal.nD Cert.MixSampleRefIdeal.τ).loc Cert.MixSampleRefIdeal.main_arg12)
      ∧ r.2.mem ((c.tc : Thread Cert.MixSampleRefIdeal.nD Cert.MixSampleRefIdeal.τ).loc Cert.MixSampleRefIdeal.main_arg13) = m ((c.tc : Thread Cert.MixSampleRefIdeal.nD Cert.MixSampleRefIdeal.τ).loc Cert.MixSampleRefIdeal.main_arg13)
      ∧ r.2.mem ((c.tc : Thread Cert.MixSampleRefIdeal.nD Cert.MixSampleRefIdeal.τ).loc Cert.MixSampleRefIdeal.main_arg14) = m ((c.tc : Thread Cert.MixSampleRefIdeal.nD Cert.MixSampleRefIdeal.τ).loc Cert.MixSampleRefIdeal.main_arg14)
      ∧ r.2.mem ((c.tc : Thread Cert.MixSampleRefIdeal.nD Cert.MixSampleRefIdeal.τ).loc Cert.MixSampleRefIdeal.main_arg15) = m ((c.tc : Thread Cert.MixSampleRefIdeal.nD Cert.MixSampleRefIdeal.τ).loc Cert.MixSampleRefIdeal.main_arg15)
      ∧ r.2.mem ((c.tc : Thread Cert.MixSampleRefIdeal.nD Cert.MixSampleRefIdeal.τ).loc Cert.MixSampleRefIdeal.main_arg16) = m ((c.tc : Thread Cert.MixSampleRefIdeal.nD Cert.MixSampleRefIdeal.τ).loc Cert.MixSampleRefIdeal.main_arg16))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v8)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v8) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v34) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Cross_CrossIdeal : Prop :=
  True

def algebraic_CrossIdeal_CrossRefIdeal_pre_mem_scores_finite [hCrossIdeal : Cert.CrossIdeal.Facts] [hCrossRefIdeal : Cert.CrossRefIdeal.Facts] [hPre_mem_scores_finite : Cert.Pre_mem_scores_finite.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_mem_scores_finite m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)
      ∧ m' ((c.tc : Thread Cert.CrossRefIdeal.nD Cert.CrossRefIdeal.τ).loc Cert.CrossRefIdeal.main_arg6) = m ((c.tc : Thread Cert.CrossIdeal.nD Cert.CrossIdeal.τ).loc Cert.CrossIdeal.main_arg6)) →
    ∃ (v0 : (c : Dev Cert.CrossIdeal.nD) → Buf (Elt Ideal) ((c.tc : Thread Cert.CrossIdeal.nD Cert.CrossIdeal.τ).loc Cert.CrossIdeal.main_v8)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v8) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v54) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5)
          ∧ r.2.mem ((c.tc : Thread Cert.CrossRefIdeal.nD Cert.CrossRefIdeal.τ).loc Cert.CrossRefIdeal.main_arg6) = m' ((c.tc : Thread Cert.CrossRefIdeal.nD Cert.CrossRefIdeal.τ).loc Cert.CrossRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v5_0)) (v1 : (c : Dev Cert.InProjIdeal.nD) → Buf (Elt Ideal) ((c.tc : Thread Cert.InProjIdeal.nD Cert.InProjIdeal.τ).loc Cert.InProjIdeal.main_v5_1)) (v2 : (c : Dev Cert.InProjIdeal.nD) → Buf (Elt Ideal) ((c.tc : Thread Cert.InProjIdeal.nD Cert.InProjIdeal.τ).loc Cert.InProjIdeal.main_v5_2)) (v3 : (c : Dev Cert.InProjIdeal.nD) → Buf (Elt Ideal) ((c.tc : Thread Cert.InProjIdeal.nD Cert.InProjIdeal.τ).loc Cert.InProjIdeal.main_v5_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5_0) = v0 c
          ∧ r.2.mem ((c.tc : Thread Cert.InProjIdeal.nD Cert.InProjIdeal.τ).loc Cert.InProjIdeal.main_v5_1) = v1 c
          ∧ r.2.mem ((c.tc : Thread Cert.InProjIdeal.nD Cert.InProjIdeal.τ).loc Cert.InProjIdeal.main_v5_2) = v2 c
          ∧ r.2.mem ((c.tc : Thread Cert.InProjIdeal.nD Cert.InProjIdeal.τ).loc Cert.InProjIdeal.main_v5_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v24) = v0 c
          ∧ r.2.mem ((c.tc : Thread Cert.InProjRefIdeal.nD Cert.InProjRefIdeal.τ).loc Cert.InProjRefIdeal.main_v18) = v1 c
          ∧ r.2.mem ((c.tc : Thread Cert.InProjRefIdeal.nD Cert.InProjRefIdeal.τ).loc Cert.InProjRefIdeal.main_v19) = v2 c
          ∧ r.2.mem ((c.tc : Thread Cert.InProjRefIdeal.nD Cert.InProjRefIdeal.τ).loc Cert.InProjRefIdeal.main_v31) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v7_0)) (v1 : (c : Dev Cert.MemKvIdeal.nD) → Buf (Elt Ideal) ((c.tc : Thread Cert.MemKvIdeal.nD Cert.MemKvIdeal.τ).loc Cert.MemKvIdeal.main_v7_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v7_0) = v0 c
          ∧ r.2.mem ((c.tc : Thread Cert.MemKvIdeal.nD Cert.MemKvIdeal.τ).loc Cert.MemKvIdeal.main_v7_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v16) = v0 c
          ∧ r.2.mem ((c.tc : Thread Cert.MemKvRefIdeal.nD Cert.MemKvRefIdeal.τ).loc Cert.MemKvRefIdeal.main_v18) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_RelBias_RelBiasIdeal : Prop :=
  True

def algebraic_RelBiasIdeal_RelBiasRefIdeal [hRelBiasIdeal : Cert.RelBiasIdeal.Facts] [hRelBiasRefIdeal : Cert.RelBiasRefIdeal.Facts] : Prop :=
  ∀ (m : (ℓ : Loc Cert.RelBiasIdeal.nD Cert.RelBiasIdeal.τ Cert.RelBiasIdeal.sig) → Buf (Elt Ideal) ℓ) (g : Dev Cert.RelBiasIdeal.nD → PrngReg)
    (m' : (ℓ : Loc Cert.RelBiasRefIdeal.nD Cert.RelBiasRefIdeal.τ Cert.RelBiasRefIdeal.sig) → Buf (Elt Ideal) ℓ) (g' : Dev Cert.RelBiasRefIdeal.nD → PrngReg), Pre_RelBiasIdeal m →
    (∀ c : Dev Cert.RelBiasIdeal.nD,
      m' ((c.tc : Thread Cert.RelBiasRefIdeal.nD Cert.RelBiasRefIdeal.τ).loc Cert.RelBiasRefIdeal.main_arg0) = m ((c.tc : Thread Cert.RelBiasIdeal.nD Cert.RelBiasIdeal.τ).loc Cert.RelBiasIdeal.main_arg0)) →
    ∃ (v0 : (c : Dev Cert.RelBiasIdeal.nD) → Buf (Elt Ideal) ((c.tc : Thread Cert.RelBiasIdeal.nD Cert.RelBiasIdeal.τ).loc Cert.RelBiasIdeal.main_v1)),
      θ_run (Cert.RelBiasIdeal.defs (F := Ideal)) (onTc (τ := Cert.RelBiasIdeal.τ) (Cert.RelBiasIdeal.main (F := Ideal))) ⟨m, fun _ => 0, g⟩ (fun r => ∀ c : Dev Cert.RelBiasIdeal.nD,
          r.2.mem ((c.tc : Thread Cert.RelBiasIdeal.nD Cert.RelBiasIdeal.τ).loc Cert.RelBiasIdeal.main_v1) = v0 c
          ∧ r.2.mem ((c.tc : Thread Cert.RelBiasIdeal.nD Cert.RelBiasIdeal.τ).loc Cert.RelBiasIdeal.main_arg0) = m ((c.tc : Thread Cert.RelBiasIdeal.nD Cert.RelBiasIdeal.τ).loc Cert.RelBiasIdeal.main_arg0))
      ∧ θ_run (Cert.RelBiasRefIdeal.defs (F := Ideal)) (onTc (τ := Cert.RelBiasRefIdeal.τ) (Cert.RelBiasRefIdeal.main (F := Ideal))) ⟨m', fun _ => 0, g'⟩ (fun r => ∀ c : Dev Cert.RelBiasRefIdeal.nD,
          r.2.mem ((c.tc : Thread Cert.RelBiasRefIdeal.nD Cert.RelBiasRefIdeal.τ).loc Cert.RelBiasRefIdeal.main_v19) = v0 c
          ∧ r.2.mem ((c.tc : Thread Cert.RelBiasRefIdeal.nD Cert.RelBiasRefIdeal.τ).loc Cert.RelBiasRefIdeal.main_arg0) = m' ((c.tc : Thread Cert.RelBiasRefIdeal.nD Cert.RelBiasRefIdeal.τ).loc Cert.RelBiasRefIdeal.main_arg0))

def preserves_Caches_CachesIdeal : Prop :=
  True

def algebraic_CachesIdeal_CachesRefIdeal [hCachesIdeal : Cert.CachesIdeal.Facts] [hCachesRefIdeal : Cert.CachesRefIdeal.Facts] : Prop :=
  ∀ (m : (ℓ : Loc Cert.CachesIdeal.nD Cert.CachesIdeal.τ Cert.CachesIdeal.sig) → Buf (Elt Ideal) ℓ) (g : Dev Cert.CachesIdeal.nD → PrngReg)
    (m' : (ℓ : Loc Cert.CachesRefIdeal.nD Cert.CachesRefIdeal.τ Cert.CachesRefIdeal.sig) → Buf (Elt Ideal) ℓ) (g' : Dev Cert.CachesRefIdeal.nD → PrngReg), Pre_CachesIdeal m →
    (∀ c : Dev Cert.CachesIdeal.nD,
      m' ((c.tc : Thread Cert.CachesRefIdeal.nD Cert.CachesRefIdeal.τ).loc Cert.CachesRefIdeal.main_arg0) = m ((c.tc : Thread Cert.CachesIdeal.nD Cert.CachesIdeal.τ).loc Cert.CachesIdeal.main_arg0)
      ∧ m' ((c.tc : Thread Cert.CachesRefIdeal.nD Cert.CachesRefIdeal.τ).loc Cert.CachesRefIdeal.main_arg1) = m ((c.tc : Thread Cert.CachesIdeal.nD Cert.CachesIdeal.τ).loc Cert.CachesIdeal.main_arg1)
      ∧ m' ((c.tc : Thread Cert.CachesRefIdeal.nD Cert.CachesRefIdeal.τ).loc Cert.CachesRefIdeal.main_arg2) = m ((c.tc : Thread Cert.CachesIdeal.nD Cert.CachesIdeal.τ).loc Cert.CachesIdeal.main_arg2)
      ∧ m' ((c.tc : Thread Cert.CachesRefIdeal.nD Cert.CachesRefIdeal.τ).loc Cert.CachesRefIdeal.main_arg3) = m ((c.tc : Thread Cert.CachesIdeal.nD Cert.CachesIdeal.τ).loc Cert.CachesIdeal.main_arg3)
      ∧ m' ((c.tc : Thread Cert.CachesRefIdeal.nD Cert.CachesRefIdeal.τ).loc Cert.CachesRefIdeal.main_arg4) = m ((c.tc : Thread Cert.CachesIdeal.nD Cert.CachesIdeal.τ).loc Cert.CachesIdeal.main_arg4)
      ∧ m' ((c.tc : Thread Cert.CachesRefIdeal.nD Cert.CachesRefIdeal.τ).loc Cert.CachesRefIdeal.main_arg5) = m ((c.tc : Thread Cert.CachesIdeal.nD Cert.CachesIdeal.τ).loc Cert.CachesIdeal.main_arg5)) →
    ∃ (v0 : (c : Dev Cert.CachesIdeal.nD) → Buf (Elt Ideal) ((c.tc : Thread Cert.CachesIdeal.nD Cert.CachesIdeal.τ).loc Cert.CachesIdeal.main_v18)) (v1 : (c : Dev Cert.CachesIdeal.nD) → Buf (Elt Ideal) ((c.tc : Thread Cert.CachesIdeal.nD Cert.CachesIdeal.τ).loc Cert.CachesIdeal.main_v19)) (v2 : (c : Dev Cert.CachesIdeal.nD) → Buf (Elt Ideal) ((c.tc : Thread Cert.CachesIdeal.nD Cert.CachesIdeal.τ).loc Cert.CachesIdeal.main_v20)),
      θ_run (Cert.CachesIdeal.defs (F := Ideal)) (onTc (τ := Cert.CachesIdeal.τ) (Cert.CachesIdeal.main (F := Ideal))) ⟨m, fun _ => 0, g⟩ (fun r => ∀ c : Dev Cert.CachesIdeal.nD,
          r.2.mem ((c.tc : Thread Cert.CachesIdeal.nD Cert.CachesIdeal.τ).loc Cert.CachesIdeal.main_v18) = v0 c
          ∧ r.2.mem ((c.tc : Thread Cert.CachesIdeal.nD Cert.CachesIdeal.τ).loc Cert.CachesIdeal.main_v19) = v1 c
          ∧ r.2.mem ((c.tc : Thread Cert.CachesIdeal.nD Cert.CachesIdeal.τ).loc Cert.CachesIdeal.main_v20) = v2 c
          ∧ r.2.mem ((c.tc : Thread Cert.CachesIdeal.nD Cert.CachesIdeal.τ).loc Cert.CachesIdeal.main_arg0) = m ((c.tc : Thread Cert.CachesIdeal.nD Cert.CachesIdeal.τ).loc Cert.CachesIdeal.main_arg0)
          ∧ r.2.mem ((c.tc : Thread Cert.CachesIdeal.nD Cert.CachesIdeal.τ).loc Cert.CachesIdeal.main_arg1) = m ((c.tc : Thread Cert.CachesIdeal.nD Cert.CachesIdeal.τ).loc Cert.CachesIdeal.main_arg1)
          ∧ r.2.mem ((c.tc : Thread Cert.CachesIdeal.nD Cert.CachesIdeal.τ).loc Cert.CachesIdeal.main_arg2) = m ((c.tc : Thread Cert.CachesIdeal.nD Cert.CachesIdeal.τ).loc Cert.CachesIdeal.main_arg2)
          ∧ r.2.mem ((c.tc : Thread Cert.CachesIdeal.nD Cert.CachesIdeal.τ).loc Cert.CachesIdeal.main_arg3) = m ((c.tc : Thread Cert.CachesIdeal.nD Cert.CachesIdeal.τ).loc Cert.CachesIdeal.main_arg3)
          ∧ r.2.mem ((c.tc : Thread Cert.CachesIdeal.nD Cert.CachesIdeal.τ).loc Cert.CachesIdeal.main_arg4) = m ((c.tc : Thread Cert.CachesIdeal.nD Cert.CachesIdeal.τ).loc Cert.CachesIdeal.main_arg4)
          ∧ r.2.mem ((c.tc : Thread Cert.CachesIdeal.nD Cert.CachesIdeal.τ).loc Cert.CachesIdeal.main_arg5) = m ((c.tc : Thread Cert.CachesIdeal.nD Cert.CachesIdeal.τ).loc Cert.CachesIdeal.main_arg5))
      ∧ θ_run (Cert.CachesRefIdeal.defs (F := Ideal)) (onTc (τ := Cert.CachesRefIdeal.τ) (Cert.CachesRefIdeal.main (F := Ideal))) ⟨m', fun _ => 0, g'⟩ (fun r => ∀ c : Dev Cert.CachesRefIdeal.nD,
          r.2.mem ((c.tc : Thread Cert.CachesRefIdeal.nD Cert.CachesRefIdeal.τ).loc Cert.CachesRefIdeal.main_v37) = v0 c
          ∧ r.2.mem ((c.tc : Thread Cert.CachesRefIdeal.nD Cert.CachesRefIdeal.τ).loc Cert.CachesRefIdeal.main_v39) = v1 c
          ∧ r.2.mem ((c.tc : Thread Cert.CachesRefIdeal.nD Cert.CachesRefIdeal.τ).loc Cert.CachesRefIdeal.main_v41) = v2 c
          ∧ r.2.mem ((c.tc : Thread Cert.CachesRefIdeal.nD Cert.CachesRefIdeal.τ).loc Cert.CachesRefIdeal.main_arg0) = m' ((c.tc : Thread Cert.CachesRefIdeal.nD Cert.CachesRefIdeal.τ).loc Cert.CachesRefIdeal.main_arg0)
          ∧ r.2.mem ((c.tc : Thread Cert.CachesRefIdeal.nD Cert.CachesRefIdeal.τ).loc Cert.CachesRefIdeal.main_arg1) = m' ((c.tc : Thread Cert.CachesRefIdeal.nD Cert.CachesRefIdeal.τ).loc Cert.CachesRefIdeal.main_arg1)
          ∧ r.2.mem ((c.tc : Thread Cert.CachesRefIdeal.nD Cert.CachesRefIdeal.τ).loc Cert.CachesRefIdeal.main_arg2) = m' ((c.tc : Thread Cert.CachesRefIdeal.nD Cert.CachesRefIdeal.τ).loc Cert.CachesRefIdeal.main_arg2)
          ∧ r.2.mem ((c.tc : Thread Cert.CachesRefIdeal.nD Cert.CachesRefIdeal.τ).loc Cert.CachesRefIdeal.main_arg3) = m' ((c.tc : Thread Cert.CachesRefIdeal.nD Cert.CachesRefIdeal.τ).loc Cert.CachesRefIdeal.main_arg3)
          ∧ r.2.mem ((c.tc : Thread Cert.CachesRefIdeal.nD Cert.CachesRefIdeal.τ).loc Cert.CachesRefIdeal.main_arg4) = m' ((c.tc : Thread Cert.CachesRefIdeal.nD Cert.CachesRefIdeal.τ).loc Cert.CachesRefIdeal.main_arg4)
          ∧ r.2.mem ((c.tc : Thread Cert.CachesRefIdeal.nD Cert.CachesRefIdeal.τ).loc Cert.CachesRefIdeal.main_arg5) = m' ((c.tc : Thread Cert.CachesRefIdeal.nD Cert.CachesRefIdeal.τ).loc Cert.CachesRefIdeal.main_arg5))

def preserves_MlpSample_MlpSampleIdeal : Prop :=
  True

def algebraic_MlpSampleIdeal_MlpSampleRefIdeal [hMlpSampleIdeal : Cert.MlpSampleIdeal.Facts] [hMlpSampleRefIdeal : Cert.MlpSampleRefIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg)
    (m' : (ℓ : Loc Cert.MlpSampleRefIdeal.nD Cert.MlpSampleRefIdeal.τ Cert.MlpSampleRefIdeal.sig) → Buf (Elt Ideal) ℓ) (g' : Dev Cert.MlpSampleRefIdeal.nD → PrngReg), Pre_MlpSampleIdeal m →
    (∀ c : Dev Cert.MlpSampleIdeal.nD,
      m' ((c.tc : Thread Cert.MlpSampleRefIdeal.nD Cert.MlpSampleRefIdeal.τ).loc Cert.MlpSampleRefIdeal.main_arg0) = m ((c.tc : Thread Cert.MlpSampleIdeal.nD Cert.MlpSampleIdeal.τ).loc Cert.MlpSampleIdeal.main_arg0)
      ∧ m' ((c.tc : Thread Cert.MlpSampleRefIdeal.nD Cert.MlpSampleRefIdeal.τ).loc Cert.MlpSampleRefIdeal.main_arg1) = m ((c.tc : Thread Cert.MlpSampleIdeal.nD Cert.MlpSampleIdeal.τ).loc Cert.MlpSampleIdeal.main_arg1)
      ∧ m' ((c.tc : Thread Cert.MlpSampleRefIdeal.nD Cert.MlpSampleRefIdeal.τ).loc Cert.MlpSampleRefIdeal.main_arg2) = m ((c.tc : Thread Cert.MlpSampleIdeal.nD Cert.MlpSampleIdeal.τ).loc Cert.MlpSampleIdeal.main_arg2)
      ∧ m' ((c.tc : Thread Cert.MlpSampleRefIdeal.nD Cert.MlpSampleRefIdeal.τ).loc Cert.MlpSampleRefIdeal.main_arg3) = m ((c.tc : Thread Cert.MlpSampleIdeal.nD Cert.MlpSampleIdeal.τ).loc Cert.MlpSampleIdeal.main_arg3)
      ∧ m' ((c.tc : Thread Cert.MlpSampleRefIdeal.nD Cert.MlpSampleRefIdeal.τ).loc Cert.MlpSampleRefIdeal.main_arg4) = m ((c.tc : Thread Cert.MlpSampleIdeal.nD Cert.MlpSampleIdeal.τ).loc Cert.MlpSampleIdeal.main_arg4)) →
    ∃ (v0 : (c : Dev Cert.MlpSampleIdeal.nD) → Buf (Elt Ideal) ((c.tc : Thread Cert.MlpSampleIdeal.nD Cert.MlpSampleIdeal.τ).loc Cert.MlpSampleIdeal.main_v8)),
      θ_run (Cert.MlpSampleIdeal.defs (F := Ideal)) (onTc (τ := Cert.MlpSampleIdeal.τ) (Cert.MlpSampleIdeal.main (F := Ideal))) ⟨m, fun _ => 0, g⟩ (fun r => ∀ c : Dev Cert.MlpSampleIdeal.nD,
          r.2.mem ((c.tc : Thread Cert.MlpSampleIdeal.nD Cert.MlpSampleIdeal.τ).loc Cert.MlpSampleIdeal.main_v8) = v0 c
          ∧ r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
          ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
          ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
          ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
          ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4))
      ∧ θ_run (Cert.MlpSampleRefIdeal.defs (F := Ideal)) (onTc (τ := Cert.MlpSampleRefIdeal.τ) (Cert.MlpSampleRefIdeal.main (F := Ideal))) ⟨m', fun _ => 0, g'⟩ (fun r => ∀ c : Dev Cert.MlpSampleRefIdeal.nD,
          r.2.mem ((c.tc : Thread Cert.MlpSampleRefIdeal.nD Cert.MlpSampleRefIdeal.τ).loc Cert.MlpSampleRefIdeal.main_v34) = v0 c
          ∧ r.2.mem ((c.tc : Thread Cert.MlpSampleRefIdeal.nD Cert.MlpSampleRefIdeal.τ).loc Cert.MlpSampleRefIdeal.main_arg0) = m' ((c.tc : Thread Cert.MlpSampleRefIdeal.nD Cert.MlpSampleRefIdeal.τ).loc Cert.MlpSampleRefIdeal.main_arg0)
          ∧ r.2.mem ((c.tc : Thread Cert.MlpSampleRefIdeal.nD Cert.MlpSampleRefIdeal.τ).loc Cert.MlpSampleRefIdeal.main_arg1) = m' ((c.tc : Thread Cert.MlpSampleRefIdeal.nD Cert.MlpSampleRefIdeal.τ).loc Cert.MlpSampleRefIdeal.main_arg1)
          ∧ r.2.mem ((c.tc : Thread Cert.MlpSampleRefIdeal.nD Cert.MlpSampleRefIdeal.τ).loc Cert.MlpSampleRefIdeal.main_arg2) = m' ((c.tc : Thread Cert.MlpSampleRefIdeal.nD Cert.MlpSampleRefIdeal.τ).loc Cert.MlpSampleRefIdeal.main_arg2)
          ∧ r.2.mem ((c.tc : Thread Cert.MlpSampleRefIdeal.nD Cert.MlpSampleRefIdeal.τ).loc Cert.MlpSampleRefIdeal.main_arg3) = m' ((c.tc : Thread Cert.MlpSampleRefIdeal.nD Cert.MlpSampleRefIdeal.τ).loc Cert.MlpSampleRefIdeal.main_arg3)
          ∧ r.2.mem ((c.tc : Thread Cert.MlpSampleRefIdeal.nD Cert.MlpSampleRefIdeal.τ).loc Cert.MlpSampleRefIdeal.main_arg4) = m' ((c.tc : Thread Cert.MlpSampleRefIdeal.nD Cert.MlpSampleRefIdeal.τ).loc Cert.MlpSampleRefIdeal.main_arg4))

def preserves_CrossSample_CrossSampleIdeal : Prop :=
  True

def algebraic_CrossSampleIdeal_CrossSampleRefIdeal_pre_cache_scores_finite [hCrossSampleIdeal : Cert.CrossSampleIdeal.Facts] [hCrossSampleRefIdeal : Cert.CrossSampleRefIdeal.Facts] [hPre_cache_scores_finite : Cert.Pre_cache_scores_finite.Facts] : Prop :=
  ∀ (m : (ℓ : Loc Cert.CrossSampleIdeal.nD Cert.CrossSampleIdeal.τ Cert.CrossSampleIdeal.sig) → Buf (Elt Ideal) ℓ) (g : Dev Cert.CrossSampleIdeal.nD → PrngReg)
    (m' : (ℓ : Loc Cert.CrossSampleRefIdeal.nD Cert.CrossSampleRefIdeal.τ Cert.CrossSampleRefIdeal.sig) → Buf (Elt Ideal) ℓ) (g' : Dev Cert.CrossSampleRefIdeal.nD → PrngReg), Pre_CrossSampleIdeal_cache_scores_finite m →
    (∀ c : Dev Cert.CrossSampleIdeal.nD,
      m' ((c.tc : Thread Cert.CrossSampleRefIdeal.nD Cert.CrossSampleRefIdeal.τ).loc Cert.CrossSampleRefIdeal.main_arg0) = m ((c.tc : Thread Cert.CrossSampleIdeal.nD Cert.CrossSampleIdeal.τ).loc Cert.CrossSampleIdeal.main_arg0)
      ∧ m' ((c.tc : Thread Cert.CrossSampleRefIdeal.nD Cert.CrossSampleRefIdeal.τ).loc Cert.CrossSampleRefIdeal.main_arg1) = m ((c.tc : Thread Cert.CrossSampleIdeal.nD Cert.CrossSampleIdeal.τ).loc Cert.CrossSampleIdeal.main_arg1)
      ∧ m' ((c.tc : Thread Cert.CrossSampleRefIdeal.nD Cert.CrossSampleRefIdeal.τ).loc Cert.CrossSampleRefIdeal.main_arg2) = m ((c.tc : Thread Cert.CrossSampleIdeal.nD Cert.CrossSampleIdeal.τ).loc Cert.CrossSampleIdeal.main_arg2)
      ∧ m' ((c.tc : Thread Cert.CrossSampleRefIdeal.nD Cert.CrossSampleRefIdeal.τ).loc Cert.CrossSampleRefIdeal.main_arg3) = m ((c.tc : Thread Cert.CrossSampleIdeal.nD Cert.CrossSampleIdeal.τ).loc Cert.CrossSampleIdeal.main_arg3)
      ∧ m' ((c.tc : Thread Cert.CrossSampleRefIdeal.nD Cert.CrossSampleRefIdeal.τ).loc Cert.CrossSampleRefIdeal.main_arg4) = m ((c.tc : Thread Cert.CrossSampleIdeal.nD Cert.CrossSampleIdeal.τ).loc Cert.CrossSampleIdeal.main_arg4)
      ∧ m' ((c.tc : Thread Cert.CrossSampleRefIdeal.nD Cert.CrossSampleRefIdeal.τ).loc Cert.CrossSampleRefIdeal.main_arg5) = m ((c.tc : Thread Cert.CrossSampleIdeal.nD Cert.CrossSampleIdeal.τ).loc Cert.CrossSampleIdeal.main_arg5)
      ∧ m' ((c.tc : Thread Cert.CrossSampleRefIdeal.nD Cert.CrossSampleRefIdeal.τ).loc Cert.CrossSampleRefIdeal.main_arg6) = m ((c.tc : Thread Cert.CrossSampleIdeal.nD Cert.CrossSampleIdeal.τ).loc Cert.CrossSampleIdeal.main_arg6)) →
    ∃ (v0 : (c : Dev Cert.CrossSampleIdeal.nD) → Buf (Elt Ideal) ((c.tc : Thread Cert.CrossSampleIdeal.nD Cert.CrossSampleIdeal.τ).loc Cert.CrossSampleIdeal.main_v12)),
      θ_run (Cert.CrossSampleIdeal.defs (F := Ideal)) (onTc (τ := Cert.CrossSampleIdeal.τ) (Cert.CrossSampleIdeal.main (F := Ideal))) ⟨m, fun _ => 0, g⟩ (fun r => ∀ c : Dev Cert.CrossSampleIdeal.nD,
          r.2.mem ((c.tc : Thread Cert.CrossSampleIdeal.nD Cert.CrossSampleIdeal.τ).loc Cert.CrossSampleIdeal.main_v12) = v0 c
          ∧ r.2.mem ((c.tc : Thread Cert.CrossSampleIdeal.nD Cert.CrossSampleIdeal.τ).loc Cert.CrossSampleIdeal.main_arg0) = m ((c.tc : Thread Cert.CrossSampleIdeal.nD Cert.CrossSampleIdeal.τ).loc Cert.CrossSampleIdeal.main_arg0)
          ∧ r.2.mem ((c.tc : Thread Cert.CrossSampleIdeal.nD Cert.CrossSampleIdeal.τ).loc Cert.CrossSampleIdeal.main_arg1) = m ((c.tc : Thread Cert.CrossSampleIdeal.nD Cert.CrossSampleIdeal.τ).loc Cert.CrossSampleIdeal.main_arg1)
          ∧ r.2.mem ((c.tc : Thread Cert.CrossSampleIdeal.nD Cert.CrossSampleIdeal.τ).loc Cert.CrossSampleIdeal.main_arg2) = m ((c.tc : Thread Cert.CrossSampleIdeal.nD Cert.CrossSampleIdeal.τ).loc Cert.CrossSampleIdeal.main_arg2)
          ∧ r.2.mem ((c.tc : Thread Cert.CrossSampleIdeal.nD Cert.CrossSampleIdeal.τ).loc Cert.CrossSampleIdeal.main_arg3) = m ((c.tc : Thread Cert.CrossSampleIdeal.nD Cert.CrossSampleIdeal.τ).loc Cert.CrossSampleIdeal.main_arg3)
          ∧ r.2.mem ((c.tc : Thread Cert.CrossSampleIdeal.nD Cert.CrossSampleIdeal.τ).loc Cert.CrossSampleIdeal.main_arg4) = m ((c.tc : Thread Cert.CrossSampleIdeal.nD Cert.CrossSampleIdeal.τ).loc Cert.CrossSampleIdeal.main_arg4)
          ∧ r.2.mem ((c.tc : Thread Cert.CrossSampleIdeal.nD Cert.CrossSampleIdeal.τ).loc Cert.CrossSampleIdeal.main_arg5) = m ((c.tc : Thread Cert.CrossSampleIdeal.nD Cert.CrossSampleIdeal.τ).loc Cert.CrossSampleIdeal.main_arg5)
          ∧ r.2.mem ((c.tc : Thread Cert.CrossSampleIdeal.nD Cert.CrossSampleIdeal.τ).loc Cert.CrossSampleIdeal.main_arg6) = m ((c.tc : Thread Cert.CrossSampleIdeal.nD Cert.CrossSampleIdeal.τ).loc Cert.CrossSampleIdeal.main_arg6))
      ∧ θ_run (Cert.CrossSampleRefIdeal.defs (F := Ideal)) (onTc (τ := Cert.CrossSampleRefIdeal.τ) (Cert.CrossSampleRefIdeal.main (F := Ideal))) ⟨m', fun _ => 0, g'⟩ (fun r => ∀ c : Dev Cert.CrossSampleRefIdeal.nD,
          r.2.mem ((c.tc : Thread Cert.CrossSampleRefIdeal.nD Cert.CrossSampleRefIdeal.τ).loc Cert.CrossSampleRefIdeal.main_v54) = v0 c
          ∧ r.2.mem ((c.tc : Thread Cert.CrossSampleRefIdeal.nD Cert.CrossSampleRefIdeal.τ).loc Cert.CrossSampleRefIdeal.main_arg0) = m' ((c.tc : Thread Cert.CrossSampleRefIdeal.nD Cert.CrossSampleRefIdeal.τ).loc Cert.CrossSampleRefIdeal.main_arg0)
          ∧ r.2.mem ((c.tc : Thread Cert.CrossSampleRefIdeal.nD Cert.CrossSampleRefIdeal.τ).loc Cert.CrossSampleRefIdeal.main_arg1) = m' ((c.tc : Thread Cert.CrossSampleRefIdeal.nD Cert.CrossSampleRefIdeal.τ).loc Cert.CrossSampleRefIdeal.main_arg1)
          ∧ r.2.mem ((c.tc : Thread Cert.CrossSampleRefIdeal.nD Cert.CrossSampleRefIdeal.τ).loc Cert.CrossSampleRefIdeal.main_arg2) = m' ((c.tc : Thread Cert.CrossSampleRefIdeal.nD Cert.CrossSampleRefIdeal.τ).loc Cert.CrossSampleRefIdeal.main_arg2)
          ∧ r.2.mem ((c.tc : Thread Cert.CrossSampleRefIdeal.nD Cert.CrossSampleRefIdeal.τ).loc Cert.CrossSampleRefIdeal.main_arg3) = m' ((c.tc : Thread Cert.CrossSampleRefIdeal.nD Cert.CrossSampleRefIdeal.τ).loc Cert.CrossSampleRefIdeal.main_arg3)
          ∧ r.2.mem ((c.tc : Thread Cert.CrossSampleRefIdeal.nD Cert.CrossSampleRefIdeal.τ).loc Cert.CrossSampleRefIdeal.main_arg4) = m' ((c.tc : Thread Cert.CrossSampleRefIdeal.nD Cert.CrossSampleRefIdeal.τ).loc Cert.CrossSampleRefIdeal.main_arg4)
          ∧ r.2.mem ((c.tc : Thread Cert.CrossSampleRefIdeal.nD Cert.CrossSampleRefIdeal.τ).loc Cert.CrossSampleRefIdeal.main_arg5) = m' ((c.tc : Thread Cert.CrossSampleRefIdeal.nD Cert.CrossSampleRefIdeal.τ).loc Cert.CrossSampleRefIdeal.main_arg5)
          ∧ r.2.mem ((c.tc : Thread Cert.CrossSampleRefIdeal.nD Cert.CrossSampleRefIdeal.τ).loc Cert.CrossSampleRefIdeal.main_arg6) = m' ((c.tc : Thread Cert.CrossSampleRefIdeal.nD Cert.CrossSampleRefIdeal.τ).loc Cert.CrossSampleRefIdeal.main_arg6))

def preserves_Mix_MixIdeal : Prop :=
  IdealRules.named_const.Statement Cert.MixIdeal.κ "mask" .f32 0xF149F2CA#32 ⊥

def preserves_MixSample_MixSampleIdeal : Prop :=
  True

def Claim : Prop :=
  ∃ (hMlp : Cert.Mlp.Facts) (hMlpIdeal : Cert.MlpIdeal.Facts) (hMlpRefIdeal : Cert.MlpRefIdeal.Facts) (hCross : Cert.Cross.Facts) (hCrossIdeal : Cert.CrossIdeal.Facts) (hCrossRefIdeal : Cert.CrossRefIdeal.Facts) (hInProj : Cert.InProj.Facts) (hInProjIdeal : Cert.InProjIdeal.Facts) (hInProjRefIdeal : Cert.InProjRefIdeal.Facts) (hMemKv : Cert.MemKv.Facts) (hMemKvIdeal : Cert.MemKvIdeal.Facts) (hMemKvRefIdeal : Cert.MemKvRefIdeal.Facts) (hRelBias : Cert.RelBias.Facts) (hRelBiasIdeal : Cert.RelBiasIdeal.Facts) (hRelBiasRefIdeal : Cert.RelBiasRefIdeal.Facts) (hCaches : Cert.Caches.Facts) (hCachesIdeal : Cert.CachesIdeal.Facts) (hCachesRefIdeal : Cert.CachesRefIdeal.Facts) (hMlpSample : Cert.MlpSample.Facts) (hMlpSampleIdeal : Cert.MlpSampleIdeal.Facts) (hMlpSampleRefIdeal : Cert.MlpSampleRefIdeal.Facts) (hCrossSample : Cert.CrossSample.Facts) (hCrossSampleIdeal : Cert.CrossSampleIdeal.Facts) (hCrossSampleRefIdeal : Cert.CrossSampleRefIdeal.Facts) (hMix : Cert.Mix.Facts) (hMixIdeal : Cert.MixIdeal.Facts) (hMixRefIdeal : Cert.MixRefIdeal.Facts) (hMixSample : Cert.MixSample.Facts) (hMixSampleIdeal : Cert.MixSampleIdeal.Facts) (hMixSampleRefIdeal : Cert.MixSampleRefIdeal.Facts) (hPre_mem_scores_finite : Cert.Pre_mem_scores_finite.Facts) (hPre_cache_scores_finite : Cert.Pre_cache_scores_finite.Facts),
    quiescent_Mlp (hMlp := hMlp)
    ∧ quiescent_MlpIdeal (hMlpIdeal := hMlpIdeal)
    ∧ quiescent_MlpRefIdeal (hMlpRefIdeal := hMlpRefIdeal)
    ∧ quiescent_Cross (hCross := hCross)
    ∧ quiescent_CrossIdeal (hCrossIdeal := hCrossIdeal)
    ∧ quiescent_CrossIdeal_pre_mem_scores_finite (hCrossIdeal := hCrossIdeal) (hPre_mem_scores_finite := hPre_mem_scores_finite)
    ∧ quiescent_CrossRefIdeal (hCrossRefIdeal := hCrossRefIdeal)
    ∧ quiescent_CrossRefIdeal_pre_mem_scores_finite (hCrossRefIdeal := hCrossRefIdeal) (hPre_mem_scores_finite := hPre_mem_scores_finite)
    ∧ quiescent_InProj (hInProj := hInProj)
    ∧ quiescent_InProjIdeal (hInProjIdeal := hInProjIdeal)
    ∧ quiescent_InProjRefIdeal (hInProjRefIdeal := hInProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_RelBias (hRelBias := hRelBias)
    ∧ quiescent_RelBiasIdeal (hRelBiasIdeal := hRelBiasIdeal)
    ∧ quiescent_RelBiasRefIdeal (hRelBiasRefIdeal := hRelBiasRefIdeal)
    ∧ quiescent_Caches (hCaches := hCaches)
    ∧ quiescent_CachesIdeal (hCachesIdeal := hCachesIdeal)
    ∧ quiescent_CachesRefIdeal (hCachesRefIdeal := hCachesRefIdeal)
    ∧ quiescent_MlpSample (hMlpSample := hMlpSample)
    ∧ quiescent_MlpSampleIdeal (hMlpSampleIdeal := hMlpSampleIdeal)
    ∧ quiescent_MlpSampleRefIdeal (hMlpSampleRefIdeal := hMlpSampleRefIdeal)
    ∧ quiescent_CrossSample (hCrossSample := hCrossSample)
    ∧ quiescent_CrossSampleIdeal (hCrossSampleIdeal := hCrossSampleIdeal)
    ∧ quiescent_CrossSampleIdeal_pre_cache_scores_finite (hCrossSampleIdeal := hCrossSampleIdeal) (hPre_cache_scores_finite := hPre_cache_scores_finite)
    ∧ quiescent_CrossSampleRefIdeal (hCrossSampleRefIdeal := hCrossSampleRefIdeal)
    ∧ quiescent_CrossSampleRefIdeal_pre_cache_scores_finite (hCrossSampleRefIdeal := hCrossSampleRefIdeal) (hPre_cache_scores_finite := hPre_cache_scores_finite)
    ∧ quiescent_Mix (hMix := hMix)
    ∧ quiescent_MixIdeal (hMixIdeal := hMixIdeal)
    ∧ quiescent_MixRefIdeal (hMixRefIdeal := hMixRefIdeal)
    ∧ quiescent_MixSample (hMixSample := hMixSample)
    ∧ quiescent_MixSampleIdeal (hMixSampleIdeal := hMixSampleIdeal)
    ∧ quiescent_MixSampleRefIdeal (hMixSampleRefIdeal := hMixSampleRefIdeal)
    ∧ preserves_Mlp_MlpIdeal
    ∧ algebraic_MlpIdeal_MlpRefIdeal (hMlpIdeal := hMlpIdeal) (hMlpRefIdeal := hMlpRefIdeal)
    ∧ preserves_Cross_CrossIdeal
    ∧ algebraic_CrossIdeal_CrossRefIdeal_pre_mem_scores_finite (hCrossIdeal := hCrossIdeal) (hCrossRefIdeal := hCrossRefIdeal) (hPre_mem_scores_finite := hPre_mem_scores_finite)
    ∧ preserves_InProj_InProjIdeal
    ∧ algebraic_InProjIdeal_InProjRefIdeal (hInProjIdeal := hInProjIdeal) (hInProjRefIdeal := hInProjRefIdeal)
    ∧ preserves_MemKv_MemKvIdeal
    ∧ algebraic_MemKvIdeal_MemKvRefIdeal (hMemKvIdeal := hMemKvIdeal) (hMemKvRefIdeal := hMemKvRefIdeal)
    ∧ preserves_RelBias_RelBiasIdeal
    ∧ algebraic_RelBiasIdeal_RelBiasRefIdeal (hRelBiasIdeal := hRelBiasIdeal) (hRelBiasRefIdeal := hRelBiasRefIdeal)
    ∧ preserves_Caches_CachesIdeal
    ∧ algebraic_CachesIdeal_CachesRefIdeal (hCachesIdeal := hCachesIdeal) (hCachesRefIdeal := hCachesRefIdeal)
    ∧ preserves_MlpSample_MlpSampleIdeal
    ∧ algebraic_MlpSampleIdeal_MlpSampleRefIdeal (hMlpSampleIdeal := hMlpSampleIdeal) (hMlpSampleRefIdeal := hMlpSampleRefIdeal)
    ∧ preserves_CrossSample_CrossSampleIdeal
    ∧ algebraic_CrossSampleIdeal_CrossSampleRefIdeal_pre_cache_scores_finite (hCrossSampleIdeal := hCrossSampleIdeal) (hCrossSampleRefIdeal := hCrossSampleRefIdeal) (hPre_cache_scores_finite := hPre_cache_scores_finite)
    ∧ preserves_Mix_MixIdeal
    ∧ preserves_MixSample_MixSampleIdeal
-- ==== Pre_cache_scores_finite.lean ====
abbrev S128x1024 : Shape := ⟨2, ![128, 1024]⟩
abbrev S1x8x256x4x256 : Shape := ⟨5, ![1, 8, 256, 4, 256]⟩
abbrev S1x1024 : Shape := ⟨2, ![1, 1024]⟩
abbrev S1x1024x1024 : Shape := ⟨3, ![1, 1024, 1024]⟩
abbrev S_ : Shape := ⟨0, ![]⟩

class Facts : Prop where
  bcast_S_S1x8x256x4x256 : S_.BroadcastsInDim S1x8x256x4x256 (![] : Fin 0 → Fin S1x8x256x4x256.rank)
  reducesTo_S1x8x256x4x256_S_d0_1_2_3_4 : S1x8x256x4x256.ReducesTo [0, 1, 2, 3, 4] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn {F : FTy → Type} [FloatOps F] (main_arg0 : FVec F S128x1024 .f32) (main_arg1 : FVec F S1x8x256x4x256 .f32) (main_arg2 : FVec F S1x8x256x4x256 .f32) (main_arg3 : FVec F S1x1024 .f32) (main_arg4 : FVec F S1x1024x1024 .f32) (main_arg5 : FVec F S1x1024x1024 .f32) (main_arg6 : FVec F S1x1024 .f32) : IVec S_ 1 :=
  let main_v0 : FVec F S1x8x256x4x256 .f32 := Host.absf main_arg1
  let main_cst : FVec F S_ .f32 := constant S_ .f32 0x7F800000#32
  let main_v1 : FVec F S1x8x256x4x256 .f32 := broadcastInDim S1x8x256x4x256 ![] bcast_S_S1x8x256x4x256 main_cst
  let main_v2 : IVec S1x8x256x4x256 1 := cmpf .olt main_v0 main_v1
  let main_c : IVec S_ 1 := constantI S_ 1 1#1
  let main_v3 : IVec S_ 1 := (fun x v => Host.reduce IntOp.andi x v reducesTo_S1x8x256x4x256_S_d0_1_2_3_4 h_S_) main_v2 main_c
  let main_v4 : FVec F S1x1024 .f32 := Host.absf main_arg3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x1024 .f32 := Host.absf main_arg4
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_c_3 : IVec S_ 1 := constantI S_ 1 1#1
  let main_v12 : IVec S_ 1 := (fun x v => Host.reduce IntOp.andi x v reducesTo_S1x1024x1024_S_d0_1_2 h_S_) main_v11 main_c_3
  let main_v13 : IVec S_ 1 := andi main_v8 main_v12
  main_v13
-- ==== Pre_mem_scores_finite.lean ====
abbrev S16384x1024 : Shape := ⟨2, ![16384, 1024]⟩
abbrev S1x256x1024 : Shape := ⟨3, ![1, 256, 1024]⟩
abbrev S1x1024 : Shape := ⟨2, ![1, 1024]⟩
abbrev S1x1024x1024 : Shape := ⟨3, ![1, 1024, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn {F : FTy → Type} [FloatOps F] (main_arg0 : FVec F S16384x1024 .f32) (main_arg1 : FVec F S1x256x1024 .f32) (main_arg2 : FVec F S1x256x1024 .f32) (main_arg3 : FVec F S1x1024 .f32) (main_arg4 : FVec F S1x1024x1024 .f32) (main_arg5 : FVec F S1x1024x1024 .f32) (main_arg6 : FVec F S1x1024 .f32) : IVec S_ 1 :=
  let main_v0 : FVec F S1x256x1024 .f32 := Host.absf main_arg1
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1x1024 .f32 := Host.absf main_arg3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x1024 .f32 := Host.absf main_arg4
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_c_3 : IVec S_ 1 := constantI S_ 1 1#1
  let main_v12 : IVec S_ 1 := (fun x v => Host.reduce IntOp.andi x v reducesTo_S1x1024x1024_S_d0_1_2 h_S_) main_v11 main_c_3
  let main_v13 : IVec S_ 1 := andi main_v8 main_v12
  main_v13
-- ==== Mlp.lean ====
abbrev S16384x1024 : Shape := ⟨2, ![16384, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 14
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024x4096, .f32⟩
  | .hbm, ⟨8, _⟩ => ⟨S1024x4096, .bf16⟩
  | .hbm, ⟨9, _⟩ => ⟨S4096x1024, .f32⟩
  | .hbm, ⟨10, _⟩ => ⟨S4096x1024, .bf16⟩
  | .hbm, ⟨11, _⟩ => ⟨S1024, .f32⟩
  | .hbm, ⟨12, _⟩ => ⟨S1x1024, .f32⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpRefIdeal.lean ====
abbrev S16384x1024 : Shape := ⟨2, ![16384, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x4096 : Shape := ⟨2, ![1024, 4096]⟩
abbrev S4096x1024 : Shape := ⟨2, ![4096, 1024]⟩
abbrev S16384x4096 : Shape := ⟨2, ![16384, 4096]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1024x4096, .f32⟩
  | .hbm, ⟨23, _⟩ => ⟨S4096x1024, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x1024, .f32⟩
  | .hbm, ⟨30, _⟩ => ⟨S1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Cross.lean ====
abbrev S16384x1024 : Shape := ⟨2, ![16384, 1024]⟩
abbrev S1x256x1024 : Shape := ⟨3, ![1, 256, 1024]⟩
abbrev S1x1024 : Shape := ⟨2, ![1, 1024]⟩
abbrev S1x1024x1024 : Shape := ⟨3, ![1, 1024, 1024]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S256x256 : Shape := ⟨2, ![256, 256]⟩

abbrev nBuf : Space → Nat
  | .hbm => 16
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x256x1024, .f32⟩
  | .hbm, ⟨2, _⟩ => ⟨S1x256x1024, .f32⟩
  | .hbm, ⟨3, _⟩ => ⟨S1x1024, .f32⟩
  | .hbm, ⟨4, _⟩ => ⟨S1x1024x1024, .f32⟩
  | .hbm, ⟨5, _⟩ => ⟨S1x1024x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CrossRefIdeal.lean ====
abbrev S16384x1024 : Shape := ⟨2, ![16384, 1024]⟩
abbrev S1x256x1024 : Shape := ⟨3, ![1, 256, 1024]⟩
abbrev S1x1024 : Shape := ⟨2, ![1, 1024]⟩
abbrev S1x1024x1024 : Shape := ⟨3, ![1, 1024, 1024]⟩
abbrev S1x16384x1024 : Shape := ⟨3, ![1, 16384, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x256x4x256 : Shape := ⟨4, ![1, 256, 4, 256]⟩
abbrev S1024x1024 : Shape := ⟨2, ![1024, 1024]⟩
abbrev S1x16384x4x256 : Shape := ⟨4, ![1, 16384, 4, 256]⟩
abbrev S1x4x16384x256 : Shape := ⟨4, ![1, 4, 16384, 256]⟩
abbrev S1x4x16384 : Shape := ⟨3, ![1, 4, 16384]⟩
abbrev S1x4x16384x1 : Shape := ⟨4, ![1, 4, 16384, 1]⟩
abbrev S1x4x256x16384 : Shape := ⟨4, ![1, 4, 256, 16384]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x256x1024, .f32⟩
  | .hbm, ⟨2, _⟩ => ⟨S1x256x1024, .f32⟩
  | .hbm, ⟨3, _⟩ => ⟨S1x1024, .f32⟩
  | .hbm, ⟨4, _⟩ => ⟨S1x1024x1024, .f32⟩
  | .hbm, ⟨5, _⟩ => ⟨S1x1024x1024, .f32⟩
  | .hbm, ⟨6, _⟩ => ⟨S1x1024, .f32⟩
  | .hbm, ⟨7, _⟩ => ⟨S1x16384x1024, .f32⟩
  | .hbm, ⟨8, _⟩ => ⟨S1024, .f32⟩
  | .hbm, ⟨9, _⟩ => ⟨S1x16384x1024, .f32⟩
  | .hbm, ⟨10, _⟩ => ⟨S_, .f32⟩
  | .hbm, ⟨11, _⟩ => ⟨S1x16384, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S_, .f32⟩
  | .hbm, ⟨17, _⟩ => ⟨S1x16384x1, .f32⟩
  | .hbm, ⟨18, _⟩ => ⟨S1x16384x1, .f32⟩
  | .hbm, ⟨19, _⟩ => ⟨S1x16384x1, .f32⟩
  | .hbm, ⟨20, _⟩ => ⟨S1x16384x1024, .f32⟩
  | .hbm, ⟨21, _⟩ => ⟨S1x16384x1024, .f32⟩
  | .hbm, ⟨22, _⟩ => ⟨S1x1x1024, .f32⟩
  | .hbm, ⟨23, _⟩ => ⟨S1x16384x1024, .f32⟩
  | .hbm, ⟨24, _⟩ => ⟨S1x16384x1024, .f32⟩
  | .hbm, ⟨25, _⟩ => ⟨S1x256x4x256, .f32⟩
  | .hbm, ⟨26, _⟩ => ⟨S1x256x4x256, .f32⟩
  | .hbm, ⟨27, _⟩ => ⟨S1024x1024, .f32⟩
  | .hbm, ⟨28, _⟩ => ⟨S1024x1024, .f32⟩
  | .hbm, ⟨29, _⟩ => ⟨S1x16384x1024, .f32⟩
  | .hbm, ⟨30, _⟩ => ⟨S1x16384x4x256, .f32⟩
  | .hbm, ⟨31, _⟩ => ⟨S1x4x16384x256, .f32⟩
  | .hbm, ⟨32, _⟩ => ⟨S_, .f32⟩
  | .hbm, ⟨33, _⟩ => ⟨S1x4x16384x256, .f32⟩
  | .hbm, ⟨34, _⟩ => ⟨S1x4x16384x256, .f32⟩
  | .hbm, ⟨35, _⟩ => ⟨S_, .f32⟩
  | .hbm, ⟨36, _⟩ => ⟨S1x4x16384, .f32⟩
  | .hbm, ⟨37, _⟩ => ⟨S_, .f32⟩
  | .hbm, ⟨38, _⟩ => ⟨S1x4x16384, .f32⟩
  | .hbm, ⟨39, _⟩ => ⟨S1x4x16384, .f32⟩
  | .hbm, ⟨40, _⟩ => ⟨S1x4x16384x1, .f32⟩
  | .hbm, ⟨41, _⟩ => ⟨S1x4x16384x256, .f32⟩
  | .hbm, ⟨42, _⟩ => ⟨S1x4x16384x256, .f32⟩
  | .hbm, ⟨43, _⟩ => ⟨S1x4x16384x256, .f32⟩
  | .hbm, ⟨44, _⟩ => ⟨S_, .f32⟩
  | .hbm, ⟨45, _⟩ => ⟨S1x4x16384, .f32⟩
  | .hbm, ⟨46, _⟩ => ⟨S1x4x16384x1, .f32⟩
  | .hbm, ⟨47, _⟩ => ⟨S1x4x16384x256, .f32⟩
  | .hbm, ⟨48, _⟩ => ⟨S1x4x16384x256, .f32⟩
  | .hbm, ⟨49, _⟩ => ⟨S1x4x256x16384, .f32⟩
  | .hbm, ⟨50, _⟩ => ⟨S1x16384x4x256, .f32⟩
  | .hbm, ⟨51, _⟩ => ⟨S1x16384x1024, .f32⟩
  | .hbm, ⟨52, _⟩ => ⟨S1x16384x1024, .f32⟩
  | .hbm, ⟨53, _⟩ => ⟨S1024, .f32⟩
  | .hbm, ⟨54, _⟩ => ⟨S1x16384x1024, .f32⟩
  | .hbm, ⟨55, _⟩ => ⟨S_, .f32⟩
  | .hbm, ⟨56, _⟩ => ⟨S1x16384, .f32⟩
  | .hbm, ⟨57, _⟩ => ⟨S1x16384x1, .f32⟩
  | .hbm, ⟨58, _⟩ => ⟨S_, .f32⟩
  | .hbm, ⟨59, _⟩ => ⟨S1x16384x1, .f32⟩
  | .hbm, ⟨60, _⟩ => ⟨S1x16384x1, .f32⟩
  | .hbm, ⟨61, _⟩ => ⟨S_, .f32⟩
  | .hbm, ⟨62, _⟩ => ⟨S1x16384x1, .f32⟩
  | .hbm, ⟨63, _⟩ => ⟨S1x16384x1, .f32⟩
  | .hbm, ⟨64, _⟩ => ⟨S1x16384x1, .f32⟩
  | .hbm, ⟨65, _⟩ => ⟨S1x16384x1024, .f32⟩
  | .hbm, ⟨66, _⟩ => ⟨S1x16384x1024, .f32⟩
  | .hbm, ⟨67, _⟩ => ⟨S1x1x1024, .f32⟩
  | .hbm, ⟨68, _⟩ => ⟨S1x16384x1024, .f32⟩
  | .hbm, ⟨69, _⟩ => ⟨S1x16384x1024, .f32⟩
  | .hbm, ⟨70, _⟩ => ⟨S1x16384x1024, .f32⟩
  | .hbm, ⟨71, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== InProj.lean ====
abbrev S1x16384x1024 : Shape := ⟨3, ![1, 16384, 1024]⟩
abbrev S1x1024 : Shape := ⟨2, ![1, 1024]⟩
abbrev S1x1024x2560 : Shape := ⟨3, ![1, 1024, 2560]⟩
abbrev S16384x1024 : Shape := ⟨2, ![16384, 1024]⟩
abbrev S1024 : Shape := ⟨1, ![1024]⟩
abbrev S1024x2560 : Shape := ⟨2, ![1024, 2560]⟩
abbrev S16384x512 : Shape := ⟨2, ![16384, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 12
  | .vmem => 12
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x2560, .f32⟩
  | .hbm, ⟨3, _⟩ => ⟨S16384x1024, .f32⟩
  | .hbm, ⟨4, _⟩ => ⟨S1024, .f32⟩
  | .hbm, ⟨5, _⟩ => ⟨S1x1024, .f32⟩
  | .hbm, ⟨6, _⟩ => ⟨S1024x2560, .f32⟩
  | .hbm, ⟨7, _⟩ => ⟨S1024x2560, .bf16⟩
  | .hbm, ⟨8, _⟩ => ⟨S16384x512, .bf16⟩
  | .hbm, ⟨9, _⟩ => ⟨S16384x512, .f32⟩
  | .hbm, ⟨10, _⟩ => ⟨S16384x512, .f32⟩
  | .hbm, ⟨11, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjRefIdeal.lean ====
abbrev S1x16384x1024 : Shape := ⟨3, ![1, 16384, 1024]⟩
abbrev S1x1024 : Shape := ⟨2, ![1, 1024]⟩
abbrev S1x1024x2560 : Shape := ⟨3, ![1, 1024, 2560]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2560 : Shape := ⟨2, ![1024, 2560]⟩
abbrev S16384x2560 : Shape := ⟨2, ![16384, 2560]⟩
abbrev S16384x512 : Shape := ⟨2, ![16384, 512]⟩

abbrev nBuf : Space → Nat
  | .hbm => 41
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x2560, .f32⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x2560, .f32⟩
  | .hbm, ⟨22, _⟩ => ⟨S16384x2560, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S16384x512, .bf16⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S16384x512, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== MemKv.lean ====
abbrev S1x256x1024 : Shape := ⟨3, ![1, 256, 1024]⟩
abbrev S1x1024 : Shape := ⟨2, ![1, 1024]⟩
abbrev S1x1024x1024 : Shape := ⟨3, ![1, 1024, 1024]⟩
abbrev S256x1024 : Shape := ⟨2, ![256, 1024]⟩
abbrev S1024 : Shape := ⟨1, ![1024]⟩
abbrev S1024x1024 : Shape := ⟨2, ![1024, 1024]⟩
abbrev S256 : Shape := ⟨1, ![256]⟩
abbrev S256x1 : Shape := ⟨2, ![256, 1]⟩

abbrev nBuf : Space → Nat
  | .hbm => 13
  | .vmem => 6
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S256x1024, .f32⟩
  | .hbm, ⟨5, _⟩ => ⟨S1024, .f32⟩
  | .hbm, ⟨6, _⟩ => ⟨S1x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S256x1024, .f32⟩
  | .hbm, ⟨12, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemKvRefIdeal.lean ====
abbrev S1x256x1024 : Shape := ⟨3, ![1, 256, 1024]⟩
abbrev S1x1024 : Shape := ⟨2, ![1, 1024]⟩
abbrev S1x1024x1024 : Shape := ⟨3, ![1, 1024, 1024]⟩
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1024x1024 : Shape := ⟨2, ![1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S256x1024, .f32⟩
  | .hbm, ⟨5, _⟩ => ⟨S1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S1024x1024, .f32⟩
  | .hbm, ⟨23, _⟩ => ⟨S256x1024, .f32⟩
  | .hbm, ⟨24, _⟩ => ⟨S1024x1024, .f32⟩
  | .hbm, ⟨25, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== RelBias.lean ====
abbrev S1x8x257 : Shape := ⟨3, ![1, 8, 257]⟩
abbrev S8x257 : Shape := ⟨2, ![8, 257]⟩
abbrev S8x64x576 : Shape := ⟨3, ![8, 64, 576]⟩
abbrev S1x64x576 : Shape := ⟨3, ![1, 64, 576]⟩
abbrev S64x576 : Shape := ⟨2, ![64, 576]⟩
abbrev S1x1 : Shape := ⟨2, ![1, 1]⟩

abbrev nBuf : Space → Nat
  | .hbm => 3
  | .vmem => 2
  | .smem => 1
  | _ => 0

abbrev bufTy : (tb : Table) → Fin (tcTables nBuf tb) → BufTy
  | .hbm, ⟨0, _⟩ => ⟨S1x8x257, .f32⟩
  | .hbm, ⟨1, _⟩ => ⟨S8x257, .f32⟩
  | .hbm, ⟨2, _⟩ => ⟨S8x64x576, .f32⟩
  | .local _ .vmem, ⟨0, _⟩ => ⟨S1x64x576, .f32⟩
  | .local _ .vmem, ⟨1, _⟩ => ⟨S1x64x576, .f32⟩
  | .local _ .smem, ⟨0, _⟩ => ⟨S8x257, .f32⟩
  | _, _ => ⟨S1x8x257, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

@[reducible] def k0_t1_loop : Scf.Loop 32 :=
  let c65_i32 : BitVec 32 := 65#32
  let c192_i32 : BitVec 32 := 192#32
  let v12 : BitVec 32 := Scalar.addi c65_i32 c192_i32
  let c1_i32 : BitVec 32 := 1#32
  ⟨c65_i32, v12, c1_i32⟩
def k0_off1 (i : grid0.Coords) (k0_t1 : Fin k0_t1_loop.trips) : Fin 2 → Nat :=
  let arg0 : BitVec 32 := BitVec.ofNat 32 (i 0).val
  let v19 : Index := Scalar.indexCast arg0
  let c65_i32 : BitVec 32 := 65#32
  let c1_i32 : BitVec 32 := 1#32
  let arg3 : BitVec 32 := Scf.iv c65_i32 c1_i32 k0_t1
  let v20 : Index := Scalar.indexCast arg3
  ![v19.toNat, v20.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8x257 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x64x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RelBiasRefIdeal.lean ====
abbrev S1x8x257 : Shape := ⟨3, ![1, 8, 257]⟩
abbrev S8x257 : Shape := ⟨2, ![8, 257]⟩
abbrev S64 : Shape := ⟨1, ![64]⟩
abbrev S_ : Shape := ⟨0, ![]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩

abbrev nBuf : Space → Nat
  | .hbm => 32
  | .vmem => 0
  | .smem => 0
  | _ => 0

abbrev bufTy : (tb : Table) → Fin (tcTables nBuf tb) → BufTy
  | .hbm, ⟨0, _⟩ => ⟨S1x8x257, .f32⟩
  | .hbm, ⟨1, _⟩ => ⟨S8x257, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S64x1, .i32⟩
  | .hbm, ⟨7, _⟩ => ⟨S576, .i32⟩
  | .hbm, ⟨8, _⟩ => ⟨S1x576, .i32⟩
  | .hbm, ⟨9, _⟩ => ⟨S64x576, .i32⟩
  | .hbm, ⟨10, _⟩ => ⟨S64x576, .i32⟩
  | .hbm, ⟨11, _⟩ => ⟨S64x576, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S64x576, .i32⟩
  | .hbm, ⟨16, _⟩ => ⟨S64x576, .i32⟩
  | .hbm, ⟨17, _⟩ => ⟨S_, .i32⟩
  | .hbm, ⟨18, _⟩ => ⟨S64x576, .i32⟩
  | .hbm, ⟨19, _⟩ => ⟨S64x576, .i32⟩
  | .hbm, ⟨20, _⟩ => ⟨S_, .i32⟩
  | .hbm, ⟨21, _⟩ => ⟨S64x576, .i32⟩
  | .hbm, ⟨22, _⟩ => ⟨S64x576, .i32⟩
  | .hbm, ⟨23, _⟩ => ⟨S_, .i32⟩
  | .hbm, ⟨24, _⟩ => ⟨S64x576, .i32⟩
  | .hbm, ⟨25, _⟩ => ⟨S64x576, .i1⟩
  | .hbm, ⟨26, _⟩ => ⟨S_, .i32⟩
  | .hbm, ⟨27, _⟩ => ⟨S64x576, .i32⟩
  | .hbm, ⟨28, _⟩ => ⟨S64x576, .i32⟩
  | .hbm, ⟨29, _⟩ => ⟨S64x576, .i32⟩
  | .hbm, ⟨30, _⟩ => ⟨S64x576x1, .i32⟩
  | .hbm, ⟨31, _⟩ => ⟨S8x64x576, .f32⟩
  | _, _ => ⟨S1x8x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Caches.lean ====
abbrev S8x16x1024 : Shape := ⟨3, ![8, 16, 1024]⟩
abbrev S1x8x512x8x64 : Shape := ⟨5, ![1, 8, 512, 8, 64]⟩
abbrev S1x8x30x512 : Shape := ⟨4, ![1, 8, 30, 512]⟩
abbrev S1x1024 : Shape := ⟨2, ![1, 1024]⟩
abbrev S1x1024x2560 : Shape := ⟨3, ![1, 1024, 2560]⟩
abbrev S128x1024 : Shape := ⟨2, ![128, 1024]⟩
abbrev S1024 : Shape := ⟨1, ![1024]⟩
abbrev S1024x2560 : Shape := ⟨2, ![1024, 2560]⟩
abbrev S128x512 : Shape := ⟨2, ![128, 512]⟩
abbrev S128 : Shape := ⟨1, ![128]⟩
abbrev S128x1 : Shape := ⟨2, ![128, 1]⟩
abbrev S1024x512 : Shape := ⟨2, ![1024, 512]⟩
abbrev S8x512x8x64 : Shape := ⟨4, ![8, 512, 8, 64]⟩
abbrev S8x16x8x64 : Shape := ⟨4, ![8, 16, 8, 64]⟩
abbrev S8x528x8x64 : Shape := ⟨4, ![8, 528, 8, 64]⟩
abbrev S8x30x512 : Shape := ⟨3, ![8, 30, 512]⟩
abbrev S8x16x512 : Shape := ⟨3, ![8, 16, 512]⟩
abbrev S8x46x512 : Shape := ⟨3, ![8, 46, 512]⟩

abbrev nBuf : Space → Nat
  | .hbm => 30
  | .vmem => 7
  | .smem => 0
  | _ => 0

abbrev bufTy : (tb : Table) → Fin (tcTables nBuf tb) → BufTy
  | .hbm, ⟨0, _⟩ => ⟨S8x16x1024, .f32⟩
  | .hbm, ⟨1, _⟩ => ⟨S1x8x512x8x64, .f32⟩
  | .hbm, ⟨2, _⟩ => ⟨S1x8x512x8x64, .f32⟩
  | .hbm, ⟨3, _⟩ => ⟨S1x8x30x512, .f32⟩
  | .hbm, ⟨4, _⟩ => ⟨S1x1024, .f32⟩
  | .hbm, ⟨5, _⟩ => ⟨S1x1024x2560, .f32⟩
  | .hbm, ⟨6, _⟩ => ⟨S128x1024, .f32⟩
  | .hbm, ⟨7, _⟩ => ⟨S1024, .f32⟩
  | .hbm, ⟨8, _⟩ => ⟨S1x1024, .f32⟩
  | .hbm, ⟨9, _⟩ => ⟨S1024x2560, .f32⟩
  | .hbm, ⟨10, _⟩ => ⟨S1024x2560, .bf16⟩
  | .hbm, ⟨11, _⟩ => ⟨S128x512, .bf16⟩
  | .hbm, ⟨12, _⟩ => ⟨S128x512, .f32⟩
  | .hbm, ⟨13, _⟩ => ⟨S128x512, .f32⟩
  | .hbm, ⟨14, _⟩ => ⟨S128x512, .f32⟩
  | .hbm, ⟨15, _⟩ => ⟨S8x512x8x64, .f32⟩
  | .hbm, ⟨16, _⟩ => ⟨S8x16x8x64, .f32⟩
  | .hbm, ⟨17, _⟩ => ⟨S8x528x8x64, .f32⟩
  | .hbm, ⟨18, _⟩ => ⟨S8x512x8x64, .f32⟩
  | .hbm, ⟨19, _⟩ => ⟨S8x512x8x64, .f32⟩
  | .hbm, ⟨20, _⟩ => ⟨S8x16x8x64, .f32⟩
  | .hbm, ⟨21, _⟩ => ⟨S8x528x8x64, .f32⟩
  | .hbm, ⟨22, _⟩ => ⟨S8x512x8x64, .f32⟩
  | .hbm, ⟨23, _⟩ => ⟨S8x30x512, .f32⟩
  | .hbm, ⟨24, _⟩ => ⟨S8x16x512, .f32⟩
  | .hbm, ⟨25, _⟩ => ⟨S8x46x512, .f32⟩
  | .hbm, ⟨26, _⟩ => ⟨S8x30x512, .f32⟩
  | .hbm, ⟨27, _⟩ => ⟨S1x8x512x8x64, .f32⟩
  | .hbm, ⟨28, _⟩ => ⟨S1x8x512x8x64, .f32⟩
  | .hbm, ⟨29, _⟩ => ⟨S1x8x30x512, .f32⟩
  | .local _ .vmem, ⟨0, _⟩ => ⟨S128x1024, .f32⟩
  | .local _ .vmem, ⟨1, _⟩ => ⟨S1x1024, .f32⟩
  | .local _ .vmem, ⟨2, _⟩ => ⟨S1024x2560, .bf16⟩
  | .local _ .vmem, ⟨3, _⟩ => ⟨S128x512, .bf16⟩
  | .local _ .vmem, ⟨4, _⟩ => ⟨S128x512, .f32⟩
  | .local _ .vmem, ⟨5, _⟩ => ⟨S128x512, .f32⟩
  | .local _ .vmem, ⟨6, _⟩ => ⟨S128x512, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== CachesRefIdeal.lean ====
abbrev S8x16x1024 : Shape := ⟨3, ![8, 16, 1024]⟩
abbrev S1x8x512x8x64 : Shape := ⟨5, ![1, 8, 512, 8, 64]⟩
abbrev S1x8x30x512 : Shape := ⟨4, ![1, 8, 30, 512]⟩
abbrev S1x1024 : Shape := ⟨2, ![1, 1024]⟩
abbrev S1x1024x2560 : Shape := ⟨3, ![1, 1024, 2560]⟩
abbrev S1024 : Shape := ⟨1, ![1024]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S1024x2560 : Shape := ⟨2, ![1024, 2560]⟩
abbrev S8x16x2560 : Shape := ⟨3, ![8, 16, 2560]⟩
abbrev S8x16x512 : Shape := ⟨3, ![8, 16, 512]⟩
abbrev S8x512x8x64 : Shape := ⟨4, ![8, 512, 8, 64]⟩
abbrev S8x16x8x64 : Shape := ⟨4, ![8, 16, 8, 64]⟩
abbrev S8x528x8x64 : Shape := ⟨4, ![8, 528, 8, 64]⟩
abbrev S8x30x512 : Shape := ⟨3, ![8, 30, 512]⟩
abbrev S8x46x512 : Shape := ⟨3, ![8, 46, 512]⟩

abbrev nBuf : Space → Nat
  | .hbm => 53
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S1x8x512x8x64, .f32⟩
  | .hbm, ⟨2, _⟩ => ⟨S1x8x512x8x64, .f32⟩
  | .hbm, ⟨3, _⟩ => ⟨S1x8x30x512, .f32⟩
  | .hbm, ⟨4, _⟩ => ⟨S1x1024, .f32⟩
  | .hbm, ⟨5, _⟩ => ⟨S1x1024x2560, .f32⟩
  | .hbm, ⟨6, _⟩ => ⟨S1024, .f32⟩
  | .hbm, ⟨7, _⟩ => ⟨S8x16x1024, .f32⟩
  | .hbm, ⟨8, _⟩ => ⟨S_, .f32⟩
  | .hbm, ⟨9, _⟩ => ⟨S8x16, .f32⟩
  | .hbm, ⟨10, _⟩ => ⟨S8x16x1, .f32⟩
  | .hbm, ⟨11, _⟩ => ⟨S_, .f32⟩
  | .hbm, ⟨12, _⟩ => ⟨S8x16x1, .f32⟩
  | .hbm, ⟨13, _⟩ => ⟨S8x16x1, .f32⟩
  | .hbm, ⟨14, _⟩ => ⟨S_, .f32⟩
  | .hbm, ⟨15, _⟩ => ⟨S8x16x1, .f32⟩
  | .hbm, ⟨16, _⟩ => ⟨S8x16x1, .f32⟩
  | .hbm, ⟨17, _⟩ => ⟨S8x16x1, .f32⟩
  | .hbm, ⟨18, _⟩ => ⟨S8x16x1024, .f32⟩
  | .hbm, ⟨19, _⟩ => ⟨S8x16x1024, .f32⟩
  | .hbm, ⟨20, _⟩ => ⟨S1x1x1024, .f32⟩
  | .hbm, ⟨21, _⟩ => ⟨S8x16x1024, .f32⟩
  | .hbm, ⟨22, _⟩ => ⟨S8x16x1024, .f32⟩
  | .hbm, ⟨23, _⟩ => ⟨S1024x2560, .f32⟩
  | .hbm, ⟨24, _⟩ => ⟨S8x16x2560, .f32⟩
  | .hbm, ⟨25, _⟩ => ⟨S8x16x512, .f32⟩
  | .hbm, ⟨26, _⟩ => ⟨S8x16x512, .f32⟩
  | .hbm, ⟨27, _⟩ => ⟨S8x16x512, .f32⟩
  | .hbm, ⟨28, _⟩ => ⟨S8x16x512, .f32⟩
  | .hbm, ⟨29, _⟩ => ⟨S8x16x512, .f32⟩
  | .hbm, ⟨30, _⟩ => ⟨S8x16x512, .f32⟩
  | .hbm, ⟨31, _⟩ => ⟨S8x16x512, .f32⟩
  | .hbm, ⟨32, _⟩ => ⟨S_, .f32⟩
  | .hbm, ⟨33, _⟩ => ⟨S8x16x512, .f32⟩
  | .hbm, ⟨34, _⟩ => ⟨S8x16x512, .f32⟩
  | .hbm, ⟨35, _⟩ => ⟨S_, .f32⟩
  | .hbm, ⟨36, _⟩ => ⟨S8x16x512, .f32⟩
  | .hbm, ⟨37, _⟩ => ⟨S8x16x512, .f32⟩
  | .hbm, ⟨38, _⟩ => ⟨S8x16x512, .f32⟩
  | .hbm, ⟨39, _⟩ => ⟨S8x512x8x64, .f32⟩
  | .hbm, ⟨40, _⟩ => ⟨S8x16x8x64, .f32⟩
  | .hbm, ⟨41, _⟩ => ⟨S8x528x8x64, .f32⟩
  | .hbm, ⟨42, _⟩ => ⟨S8x512x8x64, .f32⟩
  | .hbm, ⟨43, _⟩ => ⟨S8x16x8x64, .f32⟩
  | .hbm, ⟨44, _⟩ => ⟨S8x528x8x64, .f32⟩
  | .hbm, ⟨45, _⟩ => ⟨S8x30x512, .f32⟩
  | .hbm, ⟨46, _⟩ => ⟨S8x46x512, .f32⟩
  | .hbm, ⟨47, _⟩ => ⟨S8x512x8x64, .f32⟩
  | .hbm, ⟨48, _⟩ => ⟨S1x8x512x8x64, .f32⟩
  | .hbm, ⟨49, _⟩ => ⟨S8x512x8x64, .f32⟩
  | .hbm, ⟨50, _⟩ => ⟨S1x8x512x8x64, .f32⟩
  | .hbm, ⟨51, _⟩ => ⟨S8x30x512, .f32⟩
  | .hbm, ⟨52, _⟩ => ⟨S1x8x30x512, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== MlpSample.lean ====
abbrev S128x1024 : Shape := ⟨2, ![128, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x4096 : Shape := ⟨2, ![1024, 4096]⟩
abbrev S4096x1024 : Shape := ⟨2, ![4096, 1024]⟩
abbrev S128 : Shape := ⟨1, ![128]⟩
abbrev S128x1 : Shape := ⟨2, ![128, 1]⟩
abbrev S1024x1024 : Shape := ⟨2, ![1024, 1024]⟩

abbrev nBuf : Space → Nat
  | .hbm => 14
  | .vmem => 6
  | .smem => 0
  | _ => 0

abbrev bufTy : (tb : Table) → Fin (tcTables nBuf tb) → BufTy
  | .hbm, ⟨0, _⟩ => ⟨S128x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024x4096, .f32⟩
  | .hbm, ⟨8, _⟩ => ⟨S1024x4096, .bf16⟩
  | .hbm, ⟨9, _⟩ => ⟨S4096x1024, .f32⟩
  | .hbm, ⟨10, _⟩ => ⟨S4096x1024, .bf16⟩
  | .hbm, ⟨11, _⟩ => ⟨S1024, .f32⟩
  | .hbm, ⟨12, _⟩ => ⟨S1x1024, .f32⟩
  | .hbm, ⟨13, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x1024, .f32⟩
  | .local _ .vmem, ⟨5, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== MlpSampleRefIdeal.lean ====
abbrev S128x1024 : Shape := ⟨2, ![128, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1024x4096 : Shape := ⟨2, ![1024, 4096]⟩
abbrev S4096x1024 : Shape := ⟨2, ![4096, 1024]⟩
abbrev S128x4096 : Shape := ⟨2, ![128, 4096]⟩

abbrev nBuf : Space → Nat
  | .hbm => 48
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1x1024, .f32⟩
  | .hbm, ⟨5, _⟩ => ⟨S1024, .f32⟩
  | .hbm, ⟨6, _⟩ => ⟨S128x1024, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x1024, .f32⟩
  | .hbm, ⟨18, _⟩ => ⟨S128x1024, .f32⟩
  | .hbm, ⟨19, _⟩ => ⟨S1x1024, .f32⟩
  | .hbm, ⟨20, _⟩ => ⟨S128x1024, .f32⟩
  | .hbm, ⟨21, _⟩ => ⟨S128x1024, .f32⟩
  | .hbm, ⟨22, _⟩ => ⟨S1024x4096, .f32⟩
  | .hbm, ⟨23, _⟩ => ⟨S4096x1024, .f32⟩
  | .hbm, ⟨24, _⟩ => ⟨S128x4096, .f32⟩
  | .hbm, ⟨25, _⟩ => ⟨S_, .f32⟩
  | .hbm, ⟨26, _⟩ => ⟨S128x4096, .f32⟩
  | .hbm, ⟨27, _⟩ => ⟨S128x4096, .f32⟩
  | .hbm, ⟨28, _⟩ => ⟨S128x4096, .f32⟩
  | .hbm, ⟨29, _⟩ => ⟨S128x1024, .f32⟩
  | .hbm, ⟨30, _⟩ => ⟨S1024, .f32⟩
  | .hbm, ⟨31, _⟩ => ⟨S128x1024, .f32⟩
  | .hbm, ⟨32, _⟩ => ⟨S_, .f32⟩
  | .hbm, ⟨33, _⟩ => ⟨S128, .f32⟩
  | .hbm, ⟨34, _⟩ => ⟨S128x1, .f32⟩
  | .hbm, ⟨35, _⟩ => ⟨S_, .f32⟩
  | .hbm, ⟨36, _⟩ => ⟨S128x1, .f32⟩
  | .hbm, ⟨37, _⟩ => ⟨S128x1, .f32⟩
  | .hbm, ⟨38, _⟩ => ⟨S_, .f32⟩
  | .hbm, ⟨39, _⟩ => ⟨S128x1, .f32⟩
  | .hbm, ⟨40, _⟩ => ⟨S128x1, .f32⟩
  | .hbm, ⟨41, _⟩ => ⟨S128x1, .f32⟩
  | .hbm, ⟨42, _⟩ => ⟨S128x1024, .f32⟩
  | .hbm, ⟨43, _⟩ => ⟨S128x1024, .f32⟩
  | .hbm, ⟨44, _⟩ => ⟨S1x1024, .f32⟩
  | .hbm, ⟨45, _⟩ => ⟨S128x1024, .f32⟩
  | .hbm, ⟨46, _⟩ => ⟨S128x1024, .f32⟩
  | .hbm, ⟨47, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== CrossSample.lean ====
abbrev S128x1024 : Shape := ⟨2, ![128, 1024]⟩
abbrev S1x8x256x4x256 : Shape := ⟨5, ![1, 8, 256, 4, 256]⟩
abbrev S1x1024 : Shape := ⟨2, ![1, 1024]⟩
abbrev S1x1024x1024 : Shape := ⟨3, ![1, 1024, 1024]⟩
abbrev S1024 : Shape := ⟨1, ![1024]⟩
abbrev S1024x1024 : Shape := ⟨2, ![1024, 1024]⟩
abbrev S8x256x4x256 : Shape := ⟨4, ![8, 256, 4, 256]⟩
abbrev S8x256x1024 : Shape := ⟨3, ![8, 256, 1024]⟩
abbrev S16x1024 : Shape := ⟨2, ![16, 1024]⟩
abbrev S1x256x1024 : Shape := ⟨3, ![1, 256, 1024]⟩
abbrev S16 : Shape := ⟨1, ![16]⟩
abbrev S16x1 : Shape := ⟨2, ![16, 1]⟩
abbrev S256x1024 : Shape := ⟨2, ![256, 1024]⟩
abbrev S16x256 : Shape := ⟨2, ![16, 256]⟩
abbrev S256x256 : Shape := ⟨2, ![256, 256]⟩

abbrev nBuf : Space → Nat
  | .hbm => 20
  | .vmem => 12
  | .smem => 0
  | _ => 0

abbrev bufTy : (tb : Table) → Fin (tcTables nBuf tb) → BufTy
  | .hbm, ⟨0, _⟩ => ⟨S128x1024, .f32⟩
  | .hbm, ⟨1, _⟩ => ⟨S1x8x256x4x256, .f32⟩
  | .hbm, ⟨2, _⟩ => ⟨S1x8x256x4x256, .f32⟩
  | .hbm, ⟨3, _⟩ => ⟨S1x1024, .f32⟩
  | .hbm, ⟨4, _⟩ => ⟨S1x1024x1024, .f32⟩
  | .hbm, ⟨5, _⟩ => ⟨S1x1024x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024x1024, .f32⟩
  | .hbm, ⟨10, _⟩ => ⟨S1024x1024, .bf16⟩
  | .hbm, ⟨11, _⟩ => ⟨S8x256x4x256, .f32⟩
  | .hbm, ⟨12, _⟩ => ⟨S8x256x1024, .f32⟩
  | .hbm, ⟨13, _⟩ => ⟨S8x256x4x256, .f32⟩
  | .hbm, ⟨14, _⟩ => ⟨S8x256x1024, .f32⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1x1024, .f32⟩
  | .hbm, ⟨19, _⟩ => ⟨S128x1024, .f32⟩
  | .local _ .vmem, ⟨0, _⟩ => ⟨S16x1024, .f32⟩
  | .local _ .vmem, ⟨1, _⟩ => ⟨S16x1024, .f32⟩
  | .local _ .vmem, ⟨2, _⟩ => ⟨S1x1024, .f32⟩
  | .local _ .vmem, ⟨3, _⟩ => ⟨S1024x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1024x1024, .bf16⟩
  | .local _ .vmem, ⟨9, _⟩ => ⟨S1x1024, .f32⟩
  | .local _ .vmem, ⟨10, _⟩ => ⟨S16x1024, .f32⟩
  | .local _ .vmem, ⟨11, _⟩ => ⟨S16x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CrossSampleRefIdeal.lean ====
abbrev S128x1024 : Shape := ⟨2, ![128, 1024]⟩
abbrev S1x8x256x4x256 : Shape := ⟨5, ![1, 8, 256, 4, 256]⟩
abbrev S1x1024 : Shape := ⟨2, ![1, 1024]⟩
abbrev S1x1024x1024 : Shape := ⟨3, ![1, 1024, 1024]⟩
abbrev S8x16x1024 : Shape := ⟨3, ![8, 16, 1024]⟩
abbrev S1024 : Shape := ⟨1, ![1024]⟩
abbrev S_ : Shape := ⟨0, ![]⟩
abbrev S8x16 : Shape := ⟨2, ![8, 16]⟩
abbrev S8x16x1 : Shape := ⟨3, ![8, 16, 1]⟩
abbrev S1x1x1024 : Shape := ⟨3, ![1, 1, 1024]⟩
abbrev S8x256x4x256 : Shape := ⟨4, ![8, 256, 4, 256]⟩
abbrev S1024x1024 : Shape := ⟨2, ![1024, 1024]⟩
abbrev S8x16x4x256 : Shape := ⟨4, ![8, 16, 4, 256]⟩
abbrev S8x4x16x256 : Shape := ⟨4, ![8, 4, 16, 256]⟩
abbrev S8x4x16 : Shape := ⟨3, ![8, 4, 16]⟩
abbrev S8x4x16x1 : Shape := ⟨4, ![8, 4, 16, 1]⟩
abbrev S8x4x256x16 : Shape := ⟨4, ![8, 4, 256, 16]⟩

abbrev nBuf : Space → Nat
  | .hbm => 72
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x8x256x4x256, .f32⟩
  | .hbm, ⟨2, _⟩ => ⟨S1x8x256x4x256, .f32⟩
  | .hbm, ⟨3, _⟩ => ⟨S1x1024, .f32⟩
  | .hbm, ⟨4, _⟩ => ⟨S1x1024x1024, .f32⟩
  | .hbm, ⟨5, _⟩ => ⟨S1x1024x1024, .f32⟩
  | .hbm, ⟨6, _⟩ => ⟨S1x1024, .f32⟩
  | .hbm, ⟨7, _⟩ => ⟨S8x16x1024, .f32⟩
  | .hbm, ⟨8, _⟩ => ⟨S1024, .f32⟩
  | .hbm, ⟨9, _⟩ => ⟨S8x16x1024, .f32⟩
  | .hbm, ⟨10, _⟩ => ⟨S_, .f32⟩
  | .hbm, ⟨11, _⟩ => ⟨S8x16, .f32⟩
  | .hbm, ⟨12, _⟩ => ⟨S8x16x1, .f32⟩
  | .hbm, ⟨13, _⟩ => ⟨S_, .f32⟩
  | .hbm, ⟨14, _⟩ => ⟨S8x16x1, .f32⟩
  | .hbm, ⟨15, _⟩ => ⟨S8x16x1, .f32⟩
  | .hbm, ⟨16, _⟩ => ⟨S_, .f32⟩
  | .hbm, ⟨17, _⟩ => ⟨S8x16x1, .f32⟩
  | .hbm, ⟨18, _⟩ => ⟨S8x16x1, .f32⟩
  | .hbm, ⟨19, _⟩ => ⟨S8x16x1, .f32⟩
  | .hbm, ⟨20, _⟩ => ⟨S8x16x1024, .f32⟩
  | .hbm, ⟨21, _⟩ => ⟨S8x16x1024, .f32⟩
  | .hbm, ⟨22, _⟩ => ⟨S1x1x1024, .f32⟩
  | .hbm, ⟨23, _⟩ => ⟨S8x16x1024, .f32⟩
  | .hbm, ⟨24, _⟩ => ⟨S8x16x1024, .f32⟩
  | .hbm, ⟨25, _⟩ => ⟨S8x256x4x256, .f32⟩
  | .hbm, ⟨26, _⟩ => ⟨S8x256x4x256, .f32⟩
  | .hbm, ⟨27, _⟩ => ⟨S1024x1024, .f32⟩
  | .hbm, ⟨28, _⟩ => ⟨S1024x1024, .f32⟩
  | .hbm, ⟨29, _⟩ => ⟨S8x16x1024, .f32⟩
  | .hbm, ⟨30, _⟩ => ⟨S8x16x4x256, .f32⟩
  | .hbm, ⟨31, _⟩ => ⟨S8x4x16x256, .f32⟩
  | .hbm, ⟨32, _⟩ => ⟨S_, .f32⟩
  | .hbm, ⟨33, _⟩ => ⟨S8x4x16x256, .f32⟩
  | .hbm, ⟨34, _⟩ => ⟨S8x4x16x256, .f32⟩
  | .hbm, ⟨35, _⟩ => ⟨S_, .f32⟩
  | .hbm, ⟨36, _⟩ => ⟨S8x4x16, .f32⟩
  | .hbm, ⟨37, _⟩ => ⟨S_, .f32⟩
  | .hbm, ⟨38, _⟩ => ⟨S8x4x16, .f32⟩
  | .hbm, ⟨39, _⟩ => ⟨S8x4x16, .f32⟩
  | .hbm, ⟨40, _⟩ => ⟨S8x4x16x1, .f32⟩
  | .hbm, ⟨41, _⟩ => ⟨S8x4x16x256, .f32⟩
  | .hbm, ⟨42, _⟩ => ⟨S8x4x16x256, .f32⟩
  | .hbm, ⟨43, _⟩ => ⟨S8x4x16x256, .f32⟩
  | .hbm, ⟨44, _⟩ => ⟨S_, .f32⟩
  | .hbm, ⟨45, _⟩ => ⟨S8x4x16, .f32⟩
  | .hbm, ⟨46, _⟩ => ⟨S8x4x16x1, .f32⟩
  | .hbm, ⟨47, _⟩ => ⟨S8x4x16x256, .f32⟩
  | .hbm, ⟨48, _⟩ => ⟨S8x4x16x256, .f32⟩
  | .hbm, ⟨49, _⟩ => ⟨S8x4x256x16, .f32⟩
  | .hbm, ⟨50, _⟩ => ⟨S8x16x4x256, .f32⟩
  | .hbm, ⟨51, _⟩ => ⟨S8x16x1024, .f32⟩
  | .hbm, ⟨52, _⟩ => ⟨S8x16x1024, .f32⟩
  | .hbm, ⟨53, _⟩ => ⟨S1024, .f32⟩
  | .hbm, ⟨54, _⟩ => ⟨S8x16x1024, .f32⟩
  | .hbm, ⟨55, _⟩ => ⟨S_, .f32⟩
  | .hbm, ⟨56, _⟩ => ⟨S8x16, .f32⟩
  | .hbm, ⟨57, _⟩ => ⟨S8x16x1, .f32⟩
  | .hbm, ⟨58, _⟩ => ⟨S_, .f32⟩
  | .hbm, ⟨59, _⟩ => ⟨S8x16x1, .f32⟩
  | .hbm, ⟨60, _⟩ => ⟨S8x16x1, .f32⟩
  | .hbm, ⟨61, _⟩ => ⟨S_, .f32⟩
  | .hbm, ⟨62, _⟩ => ⟨S8x16x1, .f32⟩
  | .hbm, ⟨63, _⟩ => ⟨S8x16x1, .f32⟩
  | .hbm, ⟨64, _⟩ => ⟨S8x16x1, .f32⟩
  | .hbm, ⟨65, _⟩ => ⟨S8x16x1024, .f32⟩
  | .hbm, ⟨66, _⟩ => ⟨S8x16x1024, .f32⟩
  | .hbm, ⟨67, _⟩ => ⟨S1x1x1024, .f32⟩
  | .hbm, ⟨68, _⟩ => ⟨S8x16x1024, .f32⟩
  | .hbm, ⟨69, _⟩ => ⟨S8x16x1024, .f32⟩
  | .hbm, ⟨70, _⟩ => ⟨S8x16x1024, .f32⟩
  | .hbm, ⟨71, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Mix.lean ====
abbrev S16384x512 : Shape := ⟨2, ![16384, 512]⟩
abbrev S16384x1024 : Shape := ⟨2, ![16384, 1024]⟩
abbrev S8x64x576 : Shape := ⟨3, ![8, 64, 576]⟩
abbrev S512x512 : Shape := ⟨2, ![512, 512]⟩
abbrev S1x31x512 : Shape := ⟨3, ![1, 31, 512]⟩
abbrev S1x512 : Shape := ⟨2, ![1, 512]⟩
abbrev S1x1024x1024 : Shape := ⟨3, ![1, 1024, 1024]⟩
abbrev S1x1024 : Shape := ⟨2, ![1, 1024]⟩
abbrev S1024x1024 : Shape := ⟨2, ![1024, 1024]⟩
abbrev S31x512 : Shape := ⟨2, ![31, 512]⟩
abbrev S512 : Shape := ⟨1, ![512]⟩
abbrev S1024 : Shape := ⟨1, ![1024]⟩
abbrev S32x512 : Shape := ⟨2, ![32, 512]⟩
abbrev S512x1024 : Shape := ⟨2, ![512, 1024]⟩
abbrev S1024x512 : Shape := ⟨2, ![1024, 512]⟩
abbrev S4x544x128 : Shape := ⟨3, ![4, 544, 128]⟩
abbrev S64x576 : Shape := ⟨2, ![64, 576]⟩
abbrev S64x512 : Shape := ⟨2, ![64, 512]⟩
abbrev S576x512 : Shape := ⟨2, ![576, 512]⟩
abbrev S64x64 : Shape := ⟨2, ![64, 64]⟩
abbrev S576x64 : Shape := ⟨2, ![576, 64]⟩
abbrev S1x64x576 : Shape := ⟨3, ![1, 64, 576]⟩
abbrev S64 : Shape := ⟨1, ![64]⟩
abbrev S64x1 : Shape := ⟨2, ![64, 1]⟩
abbrev S32x128 : Shape := ⟨2, ![32, 128]⟩
abbrev S1x32x128 : Shape := ⟨3, ![1, 32, 128]⟩
abbrev S512x128 : Shape := ⟨2, ![512, 128]⟩
abbrev S1x512x128 : Shape := ⟨3, ![1, 512, 128]⟩
abbrev S8x128 : Shape := ⟨2, ![8, 128]⟩
abbrev S1x128 : Shape := ⟨2, ![1, 128]⟩
abbrev S1x8x128 : Shape := ⟨3, ![1, 8, 128]⟩
abbrev S512x1 : Shape := ⟨2, ![512, 1]⟩

abbrev nBuf : Space → Nat
  | .hbm => 31
  | .vmem => 33
  | .smem => 0
  | _ => 0

abbrev bufTy : (tb : Table) → Fin (tcTables nBuf tb) → BufTy
  | .hbm, ⟨0, _⟩ => ⟨S16384x512, .bf16⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x1024, .f32⟩
  | .hbm, ⟨5, _⟩ => ⟨S8x64x576, .f32⟩
  | .hbm, ⟨6, _⟩ => ⟨S512x512, .bf16⟩
  | .hbm, ⟨7, _⟩ => ⟨S1x31x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x1024x1024, .f32⟩
  | .hbm, ⟨14, _⟩ => ⟨S1x1024, .f32⟩
  | .hbm, ⟨15, _⟩ => ⟨S1024x1024, .f32⟩
  | .hbm, ⟨16, _⟩ => ⟨S1024x1024, .bf16⟩
  | .hbm, ⟨17, _⟩ => ⟨S31x512, .f32⟩
  | .hbm, ⟨18, _⟩ => ⟨S512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S512, .f32⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S512, .f32⟩
  | .hbm, ⟨27, _⟩ => ⟨S1x512, .f32⟩
  | .hbm, ⟨28, _⟩ => ⟨S1024, .f32⟩
  | .hbm, ⟨29, _⟩ => ⟨S1x1024, .f32⟩
  | .hbm, ⟨30, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S32x512, .f32⟩
  | .local _ .vmem, ⟨11, _⟩ => ⟨S32x512, .f32⟩
  | .local _ .vmem, ⟨12, _⟩ => ⟨S512x512, .f32⟩
  | .local _ .vmem, ⟨13, _⟩ => ⟨S512x512, .f32⟩
  | .local _ .vmem, ⟨14, _⟩ => ⟨S512x1024, .f32⟩
  | .local _ .vmem, ⟨15, _⟩ => ⟨S512x1024, .f32⟩
  | .local _ .vmem, ⟨16, _⟩ => ⟨S8x64x576, .f32⟩
  | .local _ .vmem, ⟨17, _⟩ => ⟨S512x512, .bf16⟩
  | .local _ .vmem, ⟨18, _⟩ => ⟨S31x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1024x1024, .bf16⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S1024x512, .bf16⟩
  | .local _ .vmem, ⟨29, _⟩ => ⟨S1024x512, .bf16⟩
  | .local _ .vmem, ⟨30, _⟩ => ⟨S512x512, .f32⟩
  | .local _ .vmem, ⟨31, _⟩ => ⟨S4x544x128, .f32⟩
  | .local _ .vmem, ⟨32, _⟩ => ⟨S512x512, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v21 : BitVec 32 := Scalar.addi c0_i32 c8_i32
  let c1_i32 : BitVec 32 := 1#32
  ⟨c0_i32, v21, c1_i32⟩
def k0_mult1 (k0_t1 : Fin k0_t1_loop.trips) : BitVec 32 :=
  let c0_i32 : BitVec 32 := 0#32
  let c1_i32 : BitVec 32 := 1#32
  let arg25 : BitVec 32 := Scf.iv c0_i32 c1_i32 k0_t1
  let c64_i32 : BitVec 32 := 64#32
  let v153 : BitVec 32 := Scalar.muli arg25 c64_i32
  v153
def k0_off1 (k0_t1 : Fin k0_t1_loop.trips) : Fin 2 → Nat :=
  let c0_i32 : BitVec 32 := 0#32
  let c1_i32 : BitVec 32 := 1#32
  let arg25 : BitVec 32 := Scf.iv c0_i32 c1_i32 k0_t1
  let c64_i32 : BitVec 32 := 64#32
  let v153 : BitVec 32 := Scalar.muli arg25 c64_i32
  let v154 : BitVec 32 := v153
  let v155 : Index := Scalar.indexCast v154
  let c0_100 : Index := 0#32
  ![v155.toNat, 0]
def k0_off2 (k0_t1 : Fin k0_t1_loop.trips) : Fin 2 → Nat :=
  let c0_i32 : BitVec 32 := 0#32
  let c1_i32 : BitVec 32 := 1#32
  let arg25 : BitVec 32 := Scf.iv c0_i32 c1_i32 k0_t1
  let c64_i32 : BitVec 32 := 64#32
  let v153 : BitVec 32 := Scalar.muli arg25 c64_i32
  let v154 : BitVec 32 := v153
  let v157 : Index := Scalar.indexCast v154
  let c0_101 : Index := 0#32
  ![v157.toNat, 0]
@[reducible] def k0_t2_loop : Scf.Loop 32 :=
  let c0_i32_55 : BitVec 32 := 0#32
  let c8_i32_56 : BitVec 32 := 8#32
  let v66 : BitVec 32 := Scalar.addi c0_i32_55 c8_i32_56
  let c1_i32_57 : BitVec 32 := 1#32
  ⟨c0_i32_55, v66, c1_i32_57⟩
def k0_mult2 (k0_t2 : Fin k0_t2_loop.trips) : BitVec 32 :=
  let c0_i32_55 : BitVec 32 := 0#32
  let c1_i32_57 : BitVec 32 := 1#32
  let arg25 : BitVec 32 := Scf.iv c0_i32_55 c1_i32_57 k0_t2
  let c64_i32 : BitVec 32 := 64#32
  let v153 : BitVec 32 := Scalar.muli arg25 c64_i32
  v153
def k0_off3 (k0_t2 : Fin k0_t2_loop.trips) (c2_i32 : BitVec 32) : Fin 3 → Nat :=
  let c0_110 : Index := 0#32
  let c0_i32_55 : BitVec 32 := 0#32
  let c1_i32_57 : BitVec 32 := 1#32
  let arg25 : BitVec 32 := Scf.iv c0_i32_55 c1_i32_57 k0_t2
  let c64_i32 : BitVec 32 := 64#32
  let v153 : BitVec 32 := Scalar.muli arg25 c64_i32
  let v154 : BitVec 32 := v153
  let v165 : BitVec 32 := Scalar.addi v154 c2_i32
  let v166 : Index := Scalar.indexCast v165
  let c0_111 : Index := 0#32
  ![0, v166.toNat, 0]
def k0_off4 (k0_t2 : Fin k0_t2_loop.trips) (c0_i32_319 : BitVec 32) : Fin 2 → Nat :=
  let c0_i32_55 : BitVec 32 := 0#32
  let c1_i32_57 : BitVec 32 := 1#32
  let arg25 : BitVec 32 := Scf.iv c0_i32_55 c1_i32_57 k0_t2
  let c64_i32 : BitVec 32 := 64#32
  let v153 : BitVec 32 := Scalar.muli arg25 c64_i32
  let v154 : BitVec 32 := v153
  let v1317 : BitVec 32 := Scalar.addi v154 c0_i32_319
  let v1318 : Index := Scalar.indexCast v1317
  let c0_320 : Index := 0#32
  ![v1318.toNat, 0]
def k0_off5 (k0_t2 : Fin k0_t2_loop.trips) (c2_i32_345 : BitVec 32) : Fin 3 → Nat :=
  let c1_346 : Index := 1#32
  let c0_i32_55 : BitVec 32 := 0#32
  let c1_i32_57 : BitVec 32 := 1#32
  let arg25 : BitVec 32 := Scf.iv c0_i32_55 c1_i32_57 k0_t2
  let c64_i32 : BitVec 32 := 64#32
  let v153 : BitVec 32 := Scalar.muli arg25 c64_i32
  let v154 : BitVec 32 := v153
  let v1367 : BitVec 32 := Scalar.addi v154 c2_i32_345
  let v1368 : Index := Scalar.indexCast v1367
  let c0_347 : Index := 0#32
  ![1, v1368.toNat, 0]
def k0_off6 (k0_t2 : Fin k0_t2_loop.trips) (c0_i32_666 : BitVec 32) : Fin 2 → Nat :=
  let c0_i32_55 : BitVec 32 := 0#32
  let c1_i32_57 : BitVec 32 := 1#32
  let arg25 : BitVec 32 := Scf.iv c0_i32_55 c1_i32_57 k0_t2
  let c64_i32 : BitVec 32 := 64#32
  let v153 : BitVec 32 := Scalar.muli arg25 c64_i32
  let v154 : BitVec 32 := v153
  let v2519 : BitVec 32 := Scalar.addi v154 c0_i32_666
  let v2520 : Index := Scalar.indexCast v2519
  let c128_667 : Index := 128#32
  ![v2520.toNat, 128]
def k0_off7 (k0_t2 : Fin k0_t2_loop.trips) (c2_i32_692 : BitVec 32) : Fin 3 → Nat :=
  let c2_693 : Index := 2#32
  let c0_i32_55 : BitVec 32 := 0#32
  let c1_i32_57 : BitVec 32 := 1#32
  let arg25 : BitVec 32 := Scf.iv c0_i32_55 c1_i32_57 k0_t2
  let c64_i32 : BitVec 32 := 64#32
  let v153 : BitVec 32 := Scalar.muli arg25 c64_i32
  let v154 : BitVec 32 := v153
  let v2569 : BitVec 32 := Scalar.addi v154 c2_i32_692
  let v2570 : Index := Scalar.indexCast v2569
  let c0_694 : Index := 0#32
  ![2, v2570.toNat, 0]
def k0_off8 (k0_t2 : Fin k0_t2_loop.trips) (c0_i32_1013 : BitVec 32) : Fin 2 → Nat :=
  let c0_i32_55 : BitVec 32 := 0#32
  let c1_i32_57 : BitVec 32 := 1#32
  let arg25 : BitVec 32 := Scf.iv c0_i32_55 c1_i32_57 k0_t2
  let c64_i32 : BitVec 32 := 64#32
  let v153 : BitVec 32 := Scalar.muli arg25 c64_i32
  let v154 : BitVec 32 := v153
  let v3721 : BitVec 32 := Scalar.addi v154 c0_i32_1013
  let v3722 : Index := Scalar.indexCast v3721
  let c256_1014 : Index := 256#32
  ![v3722.toNat, 256]
def k0_off9 (k0_t2 : Fin k0_t2_loop.trips) (c2_i32_1039 : BitVec 32) : Fin 3 → Nat :=
  let c3_1040 : Index := 3#32
  let c0_i32_55 : BitVec 32 := 0#32
  let c1_i32_57 : BitVec 32 := 1#32
  let arg25 : BitVec 32 := Scf.iv c0_i32_55 c1_i32_57 k0_t2
  let c64_i32 : BitVec 32 := 64#32
  let v153 : BitVec 32 := Scalar.muli arg25 c64_i32
  let v154 : BitVec 32 := v153
  let v3771 : BitVec 32 := Scalar.addi v154 c2_i32_1039
  let v3772 : Index := Scalar.indexCast v3771
  let c0_1041 : Index := 0#32
  ![3, v3772.toNat, 0]
def k0_off10 (k0_t2 : Fin k0_t2_loop.trips) (c0_i32_1360 : BitVec 32) : Fin 2 → Nat :=
  let c0_i32_55 : BitVec 32 := 0#32
  let c1_i32_57 : BitVec 32 := 1#32
  let arg25 : BitVec 32 := Scf.iv c0_i32_55 c1_i32_57 k0_t2
  let c64_i32 : BitVec 32 := 64#32
  let v153 : BitVec 32 := Scalar.muli arg25 c64_i32
  let v154 : BitVec 32 := v153
  let v4923 : BitVec 32 := Scalar.addi v154 c0_i32_1360
  let v4924 : Index := Scalar.indexCast v4923
  let c384_1361 : Index := 384#32
  ![v4924.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x64x576 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S31x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MixIdeal.lean ====
variable {F : FTy → Type} [FloatOps F] [Named F]
def κ : String → Option EReal := fun
  | "mask" => some ⊥
  | _ => none
-- ==== MixRefIdeal.lean ====
abbrev S16384x512 : Shape := ⟨2, ![16384, 512]⟩
abbrev S16384x1024 : Shape := ⟨2, ![16384, 1024]⟩
abbrev S8x64x576 : Shape := ⟨3, ![8, 64, 576]⟩
abbrev S1x31x512 : Shape := ⟨3, ![1, 31, 512]⟩
abbrev S1x512 : Shape := ⟨2, ![1, 512]⟩
abbrev S1x1024x1024 : Shape := ⟨3, ![1, 1024, 1024]⟩
abbrev S1x1024 : Shape := ⟨2, ![1, 1024]⟩
abbrev S1x16384x8x64 : Shape := ⟨4, ![1, 16384, 8, 64]⟩
abbrev S_ : Shape := ⟨0, ![]⟩
abbrev S1x16896x8x64 : Shape := ⟨4, ![1, 16896, 8, 64]⟩
abbrev S1x256x64x8x64 : Shape := ⟨5, ![1, 256, 64, 8, 64]⟩
abbrev S1x256x1x64x8x64 : Shape := ⟨6, ![1, 256, 1, 64, 8, 64]⟩
abbrev S1x256x9x64x8x64 : Shape := ⟨6, ![1, 256, 9, 64, 8, 64]⟩
abbrev S1x256x576x8x64 : Shape := ⟨5, ![1, 256, 576, 8, 64]⟩
abbrev S1x256x8x64x576 : Shape := ⟨5, ![1, 256, 8, 64, 576]⟩
abbrev S1x1x8x64x576 : Shape := ⟨5, ![1, 1, 8, 64, 576]⟩
abbrev S256 : Shape := ⟨1, ![256]⟩
abbrev S256x1 : Shape := ⟨2, ![256, 1]⟩
abbrev S9 : Shape := ⟨1, ![9]⟩
abbrev S1x9 : Shape := ⟨2, ![1, 9]⟩
abbrev S256x9 : Shape := ⟨2, ![256, 9]⟩
abbrev S256x9x64 : Shape := ⟨3, ![256, 9, 64]⟩
abbrev S256x576 : Shape := ⟨2, ![256, 576]⟩
abbrev S1x256x1x1x576 : Shape := ⟨5, ![1, 256, 1, 1, 576]⟩
abbrev S1x256x8x64 : Shape := ⟨4, ![1, 256, 8, 64]⟩
abbrev S1x256x8x64x1 : Shape := ⟨5, ![1, 256, 8, 64, 1]⟩
abbrev S1x256x8x64x64 : Shape := ⟨5, ![1, 256, 8, 64, 64]⟩
abbrev S1x16384x512 : Shape := ⟨3, ![1, 16384, 512]⟩
abbrev S1x16414x512 : Shape := ⟨3, ![1, 16414, 512]⟩
abbrev S31x512 : Shape := ⟨2, ![31, 512]⟩
abbrev S512 : Shape := ⟨1, ![512]⟩
abbrev S1x1x512 : Shape := ⟨3, ![1, 1, 512]⟩
abbrev S1x16384x8 : Shape := ⟨3, ![1, 16384, 8]⟩
abbrev S1x16384x8x1 : Shape := ⟨4, ![1, 16384, 8, 1]⟩
abbrev S1024x1024 : Shape := ⟨2, ![1024, 1024]⟩
abbrev S1x16384 : Shape := ⟨2, ![1, 16384]⟩
abbrev S1x16384x1 : Shape := ⟨3, ![1, 16384, 1]⟩
abbrev S1x16384x1024 : Shape := ⟨3, ![1, 16384, 1024]⟩
abbrev S1024 : Shape := ⟨1, ![1024]⟩
abbrev S16384 : Shape := ⟨1, ![16384]⟩
abbrev S16384x1 : Shape := ⟨2, ![16384, 1]⟩

abbrev nBuf : Space → Nat
  | .hbm => 448
  | .vmem => 0
  | .smem => 0
  | _ => 0

abbrev hbmTy0_0 (i : Nat) : BufTy := match i % 128 with
  | 0 => ⟨S16384x512, .bf16⟩
  | 1 => ⟨S16384x512, .f32⟩
  | 2 => ⟨S16384x512, .f32⟩
  | 3 => ⟨S16384x512, .f32⟩
  | 4 => ⟨S16384x1024, .f32⟩
  | 5 => ⟨S8x64x576, .f32⟩
  | 6 => ⟨S1x31x512, .f32⟩
  | 7 => ⟨S1x512, .f32⟩
  | 8 => ⟨S1x512, .f32⟩
  | 9 => ⟨S1x512, .f32⟩
  | 10 => ⟨S1x512, .f32⟩
  | 11 => ⟨S1x512, .f32⟩
  | 12 => ⟨S1x1024x1024, .f32⟩
  | 13 => ⟨S1x1024, .f32⟩
  | 14 => ⟨S16384x512, .f32⟩
  | 15 => ⟨S1x16384x8x64, .f32⟩
  | 16 => ⟨S1x16384x8x64, .f32⟩
  | 17 => ⟨S1x16384x8x64, .f32⟩
  | 18 => ⟨S_, .i32⟩
  | 19 => ⟨S_, .f32⟩
  | 20 => ⟨S1x16896x8x64, .f32⟩
  | 21 => ⟨S_, .i32⟩
  | 22 => ⟨S_, .f32⟩
  | 23 => ⟨S1x16896x8x64, .f32⟩
  | 24 => ⟨S1x16384x8x64, .f32⟩
  | 25 => ⟨S1x256x64x8x64, .f32⟩
  | 26 => ⟨S1x16384x8x64, .f32⟩
  | 27 => ⟨S1x256x64x8x64, .f32⟩
  | 28 => ⟨S1x16384x8x64, .f32⟩
  | 29 => ⟨S1x256x64x8x64, .f32⟩
  | 30 => ⟨S1x16384x8x64, .f32⟩
  | 31 => ⟨S1x256x64x8x64, .f32⟩
  | 32 => ⟨S1x16384x8x64, .f32⟩
  | 33 => ⟨S1x256x64x8x64, .f32⟩
  | 34 => ⟨S1x16384x8x64, .f32⟩
  | 35 => ⟨S1x256x64x8x64, .f32⟩
  | 36 => ⟨S1x16384x8x64, .f32⟩
  | 37 => ⟨S1x256x64x8x64, .f32⟩
  | 38 => ⟨S1x16384x8x64, .f32⟩
  | 39 => ⟨S1x256x64x8x64, .f32⟩
  | 40 => ⟨S1x16384x8x64, .f32⟩
  | 41 => ⟨S1x256x64x8x64, .f32⟩
  | 42 => ⟨S1x256x1x64x8x64, .f32⟩
  | 43 => ⟨S1x256x1x64x8x64, .f32⟩
  | 44 => ⟨S1x256x1x64x8x64, .f32⟩
  | 45 => ⟨S1x256x1x64x8x64, .f32⟩
  | 46 => ⟨S1x256x1x64x8x64, .f32⟩
  | 47 => ⟨S1x256x1x64x8x64, .f32⟩
  | 48 => ⟨S1x256x1x64x8x64, .f32⟩
  | 49 => ⟨S1x256x1x64x8x64, .f32⟩
  | 50 => ⟨S1x256x1x64x8x64, .f32⟩
  | 51 => ⟨S1x256x9x64x8x64, .f32⟩
  | 52 => ⟨S1x256x576x8x64, .f32⟩
  | 53 => ⟨S1x16384x8x64, .f32⟩
  | 54 => ⟨S1x256x64x8x64, .f32⟩
  | 55 => ⟨S1x16384x8x64, .f32⟩
  | 56 => ⟨S1x256x64x8x64, .f32⟩
  | 57 => ⟨S1x16384x8x64, .f32⟩
  | 58 => ⟨S1x256x64x8x64, .f32⟩
  | 59 => ⟨S1x16384x8x64, .f32⟩
  | 60 => ⟨S1x256x64x8x64, .f32⟩
  | 61 => ⟨S1x16384x8x64, .f32⟩
  | 62 => ⟨S1x256x64x8x64, .f32⟩
  | 63 => ⟨S1x16384x8x64, .f32⟩
  | 64 => ⟨S1x256x64x8x64, .f32⟩
  | 65 => ⟨S1x16384x8x64, .f32⟩
  | 66 => ⟨S1x256x64x8x64, .f32⟩
  | 67 => ⟨S1x16384x8x64, .f32⟩
  | 68 => ⟨S1x256x64x8x64, .f32⟩
  | 69 => ⟨S1x16384x8x64, .f32⟩
  | 70 => ⟨S1x256x64x8x64, .f32⟩
  | 71 => ⟨S1x256x1x64x8x64, .f32⟩
  | 72 => ⟨S1x256x1x64x8x64, .f32⟩
  | 73 => ⟨S1x256x1x64x8x64, .f32⟩
  | 74 => ⟨S1x256x1x64x8x64, .f32⟩
  | 75 => ⟨S1x256x1x64x8x64, .f32⟩
  | 76 => ⟨S1x256x1x64x8x64, .f32⟩
  | 77 => ⟨S1x256x1x64x8x64, .f32⟩
  | 78 => ⟨S1x256x1x64x8x64, .f32⟩
  | 79 => ⟨S1x256x1x64x8x64, .f32⟩
  | 80 => ⟨S1x256x9x64x8x64, .f32⟩
  | 81 => ⟨S1x256x576x8x64, .f32⟩
  | 82 => ⟨S1x256x64x8x64, .f32⟩
  | 83 => ⟨S1x256x8x64x576, .f32⟩
  | 84 => ⟨S1x1x8x64x576, .f32⟩
  | 85 => ⟨S1x256x8x64x576, .f32⟩
  | 86 => ⟨S1x256x8x64x576, .f32⟩
  | 87 => ⟨S256, .i32⟩
  | 88 => ⟨S256x1, .i32⟩
  | 89 => ⟨S9, .i32⟩
  | 90 => ⟨S1x9, .i32⟩
  | 91 => ⟨S256x9, .i32⟩
  | 92 => ⟨S256x9, .i32⟩
  | 93 => ⟨S256x9, .i32⟩
  | 94 => ⟨S_, .i32⟩
  | 95 => ⟨S256x9, .i32⟩
  | 96 => ⟨S256x9, .i1⟩
  | 97 => ⟨S256x9x64, .i1⟩
  | 98 => ⟨S256x576, .i1⟩
  | 99 => ⟨S1x256x1x1x576, .i1⟩
  | 100 => ⟨S_, .f32⟩
  | 101 => ⟨S_, .f32⟩
  | 102 => ⟨S1x256x8x64x576, .i1⟩
  | 103 => ⟨S1x256x8x64x576, .f32⟩
  | 104 => ⟨S1x256x8x64x576, .f32⟩
  | 105 => ⟨S_, .f32⟩
  | 106 => ⟨S1x256x8x64, .f32⟩
  | 107 => ⟨S_, .f32⟩
  | 108 => ⟨S1x256x8x64, .f32⟩
  | 109 => ⟨S1x256x8x64, .f32⟩
  | 110 => ⟨S1x256x8x64x1, .f32⟩
  | 111 => ⟨S1x256x8x64x576, .f32⟩
  | 112 => ⟨S1x256x8x64x576, .f32⟩
  | 113 => ⟨S1x256x8x64x576, .f32⟩
  | 114 => ⟨S_, .f32⟩
  | 115 => ⟨S1x256x8x64, .f32⟩
  | 116 => ⟨S1x256x8x64x1, .f32⟩
  | 117 => ⟨S1x256x8x64x576, .f32⟩
  | 118 => ⟨S1x256x8x64x576, .f32⟩
  | 119 => ⟨S1x256x8x64x64, .f32⟩
  | 120 => ⟨S1x256x64x8x64, .f32⟩
  | 121 => ⟨S1x16384x512, .f32⟩
  | 122 => ⟨S1x16384x512, .f32⟩
  | 123 => ⟨S_, .i32⟩
  | 124 => ⟨S_, .f32⟩
  | 125 => ⟨S1x16414x512, .f32⟩
  | 126 => ⟨S31x512, .f32⟩
  | 127 => ⟨S512, .f32⟩
  | _ => ⟨S16384x512, .bf16⟩

abbrev hbmTy0_1 (i : Nat) : BufTy := match i % 128 with
  | 0 => ⟨S512, .f32⟩
  | 1 => ⟨S512, .f32⟩
  | 2 => ⟨S1x16384x512, .f32⟩
  | 3 => ⟨S1x512, .f32⟩
  | 4 => ⟨S512, .f32⟩
  | 5 => ⟨S1x1x512, .f32⟩
  | 6 => ⟨S1x16384x512, .f32⟩
  | 7 => ⟨S1x16384x512, .f32⟩
  | 8 => ⟨S_, .f32⟩
  | 9 => ⟨S1x16384x512, .f32⟩
  | 10 => ⟨S1x16384x512, .f32⟩
  | 11 => ⟨S1x16384x512, .f32⟩
  | 12 => ⟨S1x512, .f32⟩
  | 13 => ⟨S512, .f32⟩
  | 14 => ⟨S1x1x512, .f32⟩
  | 15 => ⟨S1x16384x512, .f32⟩
  | 16 => ⟨S1x16384x512, .f32⟩
  | 17 => ⟨S1x16384x512, .f32⟩
  | 18 => ⟨S1x16384x512, .f32⟩
  | 19 => ⟨S1x512, .f32⟩
  | 20 => ⟨S512, .f32⟩
  | 21 => ⟨S1x1x512, .f32⟩
  | 22 => ⟨S1x16384x512, .f32⟩
  | 23 => ⟨S1x16384x512, .f32⟩
  | 24 => ⟨S1x16384x512, .f32⟩
  | 25 => ⟨S1x16384x512, .f32⟩
  | 26 => ⟨S1x512, .f32⟩
  | 27 => ⟨S512, .f32⟩
  | 28 => ⟨S1x1x512, .f32⟩
  | 29 => ⟨S1x16384x512, .f32⟩
  | 30 => ⟨S1x16384x512, .f32⟩
  | 31 => ⟨S1x16384x512, .f32⟩
  | 32 => ⟨S1x16384x512, .f32⟩
  | 33 => ⟨S1x512, .f32⟩
  | 34 => ⟨S512, .f32⟩
  | 35 => ⟨S1x1x512, .f32⟩
  | 36 => ⟨S1x16384x512, .f32⟩
  | 37 => ⟨S1x16384x512, .f32⟩
  | 38 => ⟨S1x16384x512, .f32⟩
  | 39 => ⟨S1x16384x512, .f32⟩
  | 40 => ⟨S1x512, .f32⟩
  | 41 => ⟨S512, .f32⟩
  | 42 => ⟨S1x1x512, .f32⟩
  | 43 => ⟨S1x16384x512, .f32⟩
  | 44 => ⟨S1x16384x512, .f32⟩
  | 45 => ⟨S1x16384x512, .f32⟩
  | 46 => ⟨S1x16384x512, .f32⟩
  | 47 => ⟨S1x512, .f32⟩
  | 48 => ⟨S512, .f32⟩
  | 49 => ⟨S1x1x512, .f32⟩
  | 50 => ⟨S1x16384x512, .f32⟩
  | 51 => ⟨S1x16384x512, .f32⟩
  | 52 => ⟨S1x16384x512, .f32⟩
  | 53 => ⟨S1x16384x512, .f32⟩
  | 54 => ⟨S1x512, .f32⟩
  | 55 => ⟨S512, .f32⟩
  | 56 => ⟨S1x1x512, .f32⟩
  | 57 => ⟨S1x16384x512, .f32⟩
  | 58 => ⟨S1x16384x512, .f32⟩
  | 59 => ⟨S1x16384x512, .f32⟩
  | 60 => ⟨S1x16384x512, .f32⟩
  | 61 => ⟨S1x512, .f32⟩
  | 62 => ⟨S512, .f32⟩
  | 63 => ⟨S1x1x512, .f32⟩
  | 64 => ⟨S1x16384x512, .f32⟩
  | 65 => ⟨S1x16384x512, .f32⟩
  | 66 => ⟨S1x16384x512, .f32⟩
  | 67 => ⟨S1x16384x512, .f32⟩
  | 68 => ⟨S1x512, .f32⟩
  | 69 => ⟨S512, .f32⟩
  | 70 => ⟨S1x1x512, .f32⟩
  | 71 => ⟨S1x16384x512, .f32⟩
  | 72 => ⟨S1x16384x512, .f32⟩
  | 73 => ⟨S1x16384x512, .f32⟩
  | 74 => ⟨S1x16384x512, .f32⟩
  | 75 => ⟨S1x512, .f32⟩
  | 76 => ⟨S512, .f32⟩
  | 77 => ⟨S1x1x512, .f32⟩
  | 78 => ⟨S1x16384x512, .f32⟩
  | 79 => ⟨S1x16384x512, .f32⟩
  | 80 => ⟨S1x16384x512, .f32⟩
  | 81 => ⟨S1x16384x512, .f32⟩
  | 82 => ⟨S1x512, .f32⟩
  | 83 => ⟨S512, .f32⟩
  | 84 => ⟨S1x1x512, .f32⟩
  | 85 => ⟨S1x16384x512, .f32⟩
  | 86 => ⟨S1x16384x512, .f32⟩
  | 87 => ⟨S1x16384x512, .f32⟩
  | 88 => ⟨S1x16384x512, .f32⟩
  | 89 => ⟨S1x512, .f32⟩
  | 90 => ⟨S512, .f32⟩
  | 91 => ⟨S1x1x512, .f32⟩
  | 92 => ⟨S1x16384x512, .f32⟩
  | 93 => ⟨S1x16384x512, .f32⟩
  | 94 => ⟨S1x16384x512, .f32⟩
  | 95 => ⟨S1x16384x512, .f32⟩
  | 96 => ⟨S1x512, .f32⟩
  | 97 => ⟨S512, .f32⟩
  | 98 => ⟨S1x1x512, .f32⟩
  | 99 => ⟨S1x16384x512, .f32⟩
  | 100 => ⟨S1x16384x512, .f32⟩
  | 101 => ⟨S1x16384x512, .f32⟩
  | 102 => ⟨S1x16384x512, .f32⟩
  | 103 => ⟨S1x512, .f32⟩
  | 104 => ⟨S512, .f32⟩
  | 105 => ⟨S1x1x512, .f32⟩
  | 106 => ⟨S1x16384x512, .f32⟩
  | 107 => ⟨S1x16384x512, .f32⟩
  | 108 => ⟨S1x16384x512, .f32⟩
  | 109 => ⟨S1x16384x512, .f32⟩
  | 110 => ⟨S1x512, .f32⟩
  | 111 => ⟨S512, .f32⟩
  | 112 => ⟨S1x1x512, .f32⟩
  | 113 => ⟨S1x16384x512, .f32⟩
  | 114 => ⟨S1x16384x512, .f32⟩
  | 115 => ⟨S1x16384x512, .f32⟩
  | 116 => ⟨S1x16384x512, .f32⟩
  | 117 => ⟨S1x512, .f32⟩
  | 118 => ⟨S512, .f32⟩
  | 119 => ⟨S1x1x512, .f32⟩
  | 120 => ⟨S1x16384x512, .f32⟩
  | 121 => ⟨S1x16384x512, .f32⟩
  | 122 => ⟨S1x16384x512, .f32⟩
  | 123 => ⟨S1x16384x512, .f32⟩
  | 124 => ⟨S1x512, .f32⟩
  | 125 => ⟨S512, .f32⟩
  | 126 => ⟨S1x1x512, .f32⟩
  | 127 => ⟨S1x16384x512, .f32⟩
  | _ => ⟨S16384x512, .bf16⟩

abbrev hbmTy0_2 (i : Nat) : BufTy := match i % 128 with
  | 0 => ⟨S1x16384x512, .f32⟩
  | 1 => ⟨S1x16384x512, .f32⟩
  | 2 => ⟨S1x16384x512, .f32⟩
  | 3 => ⟨S1x512, .f32⟩
  | 4 => ⟨S512, .f32⟩
  | 5 => ⟨S1x1x512, .f32⟩
  | 6 => ⟨S1x16384x512, .f32⟩
  | 7 => ⟨S1x16384x512, .f32⟩
  | 8 => ⟨S1x16384x512, .f32⟩
  | 9 => ⟨S1x16384x512, .f32⟩
  | 10 => ⟨S1x512, .f32⟩
  | 11 => ⟨S512, .f32⟩
  | 12 => ⟨S1x1x512, .f32⟩
  | 13 => ⟨S1x16384x512, .f32⟩
  | 14 => ⟨S1x16384x512, .f32⟩
  | 15 => ⟨S1x16384x512, .f32⟩
  | 16 => ⟨S1x16384x512, .f32⟩
  | 17 => ⟨S1x512, .f32⟩
  | 18 => ⟨S512, .f32⟩
  | 19 => ⟨S1x1x512, .f32⟩
  | 20 => ⟨S1x16384x512, .f32⟩
  | 21 => ⟨S1x16384x512, .f32⟩
  | 22 => ⟨S1x16384x512, .f32⟩
  | 23 => ⟨S1x16384x512, .f32⟩
  | 24 => ⟨S1x512, .f32⟩
  | 25 => ⟨S512, .f32⟩
  | 26 => ⟨S1x1x512, .f32⟩
  | 27 => ⟨S1x16384x512, .f32⟩
  | 28 => ⟨S1x16384x512, .f32⟩
  | 29 => ⟨S1x16384x512, .f32⟩
  | 30 => ⟨S1x16384x512, .f32⟩
  | 31 => ⟨S1x512, .f32⟩
  | 32 => ⟨S512, .f32⟩
  | 33 => ⟨S1x1x512, .f32⟩
  | 34 => ⟨S1x16384x512, .f32⟩
  | 35 => ⟨S1x16384x512, .f32⟩
  | 36 => ⟨S1x16384x512, .f32⟩
  | 37 => ⟨S1x16384x512, .f32⟩
  | 38 => ⟨S1x512, .f32⟩
  | 39 => ⟨S512, .f32⟩
  | 40 => ⟨S1x1x512, .f32⟩
  | 41 => ⟨S1x16384x512, .f32⟩
  | 42 => ⟨S1x16384x512, .f32⟩
  | 43 => ⟨S1x16384x512, .f32⟩
  | 44 => ⟨S1x16384x512, .f32⟩
  | 45 => ⟨S1x512, .f32⟩
  | 46 => ⟨S512, .f32⟩
  | 47 => ⟨S1x1x512, .f32⟩
  | 48 => ⟨S1x16384x512, .f32⟩
  | 49 => ⟨S1x16384x512, .f32⟩
  | 50 => ⟨S1x16384x512, .f32⟩
  | 51 => ⟨S1x16384x512, .f32⟩
  | 52 => ⟨S1x512, .f32⟩
  | 53 => ⟨S512, .f32⟩
  | 54 => ⟨S1x1x512, .f32⟩
  | 55 => ⟨S1x16384x512, .f32⟩
  | 56 => ⟨S1x16384x512, .f32⟩
  | 57 => ⟨S1x16384x512, .f32⟩
  | 58 => ⟨S1x16384x512, .f32⟩
  | 59 => ⟨S1x512, .f32⟩
  | 60 => ⟨S512, .f32⟩
  | 61 => ⟨S1x1x512, .f32⟩
  | 62 => ⟨S1x16384x512, .f32⟩
  | 63 => ⟨S1x16384x512, .f32⟩
  | 64 => ⟨S1x16384x512, .f32⟩
  | 65 => ⟨S1x16384x512, .f32⟩
  | 66 => ⟨S1x512, .f32⟩
  | 67 => ⟨S512, .f32⟩
  | 68 => ⟨S1x1x512, .f32⟩
  | 69 => ⟨S1x16384x512, .f32⟩
  | 70 => ⟨S1x16384x512, .f32⟩
  | 71 => ⟨S1x16384x512, .f32⟩
  | 72 => ⟨S1x16384x512, .f32⟩
  | 73 => ⟨S1x512, .f32⟩
  | 74 => ⟨S512, .f32⟩
  | 75 => ⟨S1x1x512, .f32⟩
  | 76 => ⟨S1x16384x512, .f32⟩
  | 77 => ⟨S1x16384x512, .f32⟩
  | 78 => ⟨S1x16384x512, .f32⟩
  | 79 => ⟨S1x16384x512, .f32⟩
  | 80 => ⟨S1x512, .f32⟩
  | 81 => ⟨S512, .f32⟩
  | 82 => ⟨S1x1x512, .f32⟩
  | 83 => ⟨S1x16384x512, .f32⟩
  | 84 => ⟨S1x16384x512, .f32⟩
  | 85 => ⟨S1x16384x512, .f32⟩
  | 86 => ⟨S1x16384x512, .f32⟩
  | 87 => ⟨S1x512, .f32⟩
  | 88 => ⟨S512, .f32⟩
  | 89 => ⟨S1x1x512, .f32⟩
  | 90 => ⟨S1x16384x512, .f32⟩
  | 91 => ⟨S1x16384x512, .f32⟩
  | 92 => ⟨S1x16384x512, .f32⟩
  | 93 => ⟨S1x1x512, .f32⟩
  | 94 => ⟨S1x16384x512, .f32⟩
  | 95 => ⟨S1x16384x512, .f32⟩
  | 96 => ⟨S1x16384x8x64, .f32⟩
  | 97 => ⟨S_, .f32⟩
  | 98 => ⟨S1x16384x8, .f32⟩
  | 99 => ⟨S1x16384x8x1, .f32⟩
  | 100 => ⟨S_, .f32⟩
  | 101 => ⟨S1x16384x8x1, .f32⟩
  | 102 => ⟨S1x16384x8x1, .f32⟩
  | 103 => ⟨S1x16384x8x64, .f32⟩
  | 104 => ⟨S1x16384x8x64, .f32⟩
  | 105 => ⟨S1x16384x8x64, .f32⟩
  | 106 => ⟨S_, .f32⟩
  | 107 => ⟨S1x16384x8, .f32⟩
  | 108 => ⟨S1x16384x8x1, .f32⟩
  | 109 => ⟨S_, .f32⟩
  | 110 => ⟨S1x16384x8x1, .f32⟩
  | 111 => ⟨S1x16384x8x1, .f32⟩
  | 112 => ⟨S1x16384x8x64, .f32⟩
  | 113 => ⟨S1x16384x8x64, .f32⟩
  | 114 => ⟨S_, .f32⟩
  | 115 => ⟨S1x16384x8x1, .f32⟩
  | 116 => ⟨S1x16384x8x1, .f32⟩
  | 117 => ⟨S1x16384x8x1, .f32⟩
  | 118 => ⟨S1x16384x8x64, .f32⟩
  | 119 => ⟨S1x16384x8x64, .f32⟩
  | 120 => ⟨S1x16384x512, .f32⟩
  | 121 => ⟨S1x1x512, .f32⟩
  | 122 => ⟨S1x16384x512, .f32⟩
  | 123 => ⟨S1x16384x512, .f32⟩
  | 124 => ⟨S1x1x512, .f32⟩
  | 125 => ⟨S1x16384x512, .f32⟩
  | 126 => ⟨S1x16384x512, .f32⟩
  | 127 => ⟨S1x16384x512, .f32⟩
  | _ => ⟨S16384x512, .bf16⟩

abbrev hbmTy0_3 (i : Nat) : BufTy := match i % 128 with
  | 0 => ⟨S1x16384x512, .f32⟩
  | 1 => ⟨S_, .f32⟩
  | 2 => ⟨S1x16384x512, .f32⟩
  | 3 => ⟨S1x16384x512, .f32⟩
  | 4 => ⟨S_, .f32⟩
  | 5 => ⟨S1x16384x512, .f32⟩
  | 6 => ⟨S1x16384x512, .f32⟩
  | 7 => ⟨S1x16384x512, .f32⟩
  | 8 => ⟨S512, .f32⟩
  | 9 => ⟨S512, .f32⟩
  | 10 => ⟨S1024x1024, .f32⟩
  | 11 => ⟨S1x16384x512, .f32⟩
  | 12 => ⟨S_, .f32⟩
  | 13 => ⟨S1x16384, .f32⟩
  | 14 => ⟨S1x16384x1, .f32⟩
  | 15 => ⟨S_, .f32⟩
  | 16 => ⟨S1x16384x1, .f32⟩
  | 17 => ⟨S1x16384x1, .f32⟩
  | 18 => ⟨S_, .f32⟩
  | 19 => ⟨S1x16384x1, .f32⟩
  | 20 => ⟨S1x16384x1, .f32⟩
  | 21 => ⟨S1x16384x1, .f32⟩
  | 22 => ⟨S1x16384x512, .f32⟩
  | 23 => ⟨S1x16384x512, .f32⟩
  | 24 => ⟨S1x1x512, .f32⟩
  | 25 => ⟨S1x16384x512, .f32⟩
  | 26 => ⟨S1x16384x512, .f32⟩
  | 27 => ⟨S1x16384x512, .f32⟩
  | 28 => ⟨S_, .f32⟩
  | 29 => ⟨S1x16384, .f32⟩
  | 30 => ⟨S1x16384x1, .f32⟩
  | 31 => ⟨S_, .f32⟩
  | 32 => ⟨S1x16384x1, .f32⟩
  | 33 => ⟨S1x16384x1, .f32⟩
  | 34 => ⟨S_, .f32⟩
  | 35 => ⟨S1x16384x1, .f32⟩
  | 36 => ⟨S1x16384x1, .f32⟩
  | 37 => ⟨S1x16384x1, .f32⟩
  | 38 => ⟨S1x16384x512, .f32⟩
  | 39 => ⟨S1x16384x512, .f32⟩
  | 40 => ⟨S1x1x512, .f32⟩
  | 41 => ⟨S1x16384x512, .f32⟩
  | 42 => ⟨S1x16384x512, .f32⟩
  | 43 => ⟨S1x16384x1024, .f32⟩
  | 44 => ⟨S1x16384x1024, .f32⟩
  | 45 => ⟨S16384x1024, .f32⟩
  | 46 => ⟨S1024, .f32⟩
  | 47 => ⟨S16384x1024, .f32⟩
  | 48 => ⟨S_, .f32⟩
  | 49 => ⟨S16384, .f32⟩
  | 50 => ⟨S16384x1, .f32⟩
  | 51 => ⟨S_, .f32⟩
  | 52 => ⟨S16384x1, .f32⟩
  | 53 => ⟨S16384x1, .f32⟩
  | 54 => ⟨S_, .f32⟩
  | 55 => ⟨S16384x1, .f32⟩
  | 56 => ⟨S16384x1, .f32⟩
  | 57 => ⟨S16384x1, .f32⟩
  | 58 => ⟨S16384x1024, .f32⟩
  | 59 => ⟨S16384x1024, .f32⟩
  | 60 => ⟨S1x1024, .f32⟩
  | 61 => ⟨S16384x1024, .f32⟩
  | 62 => ⟨S16384x1024, .f32⟩
  | 63 => ⟨S16384x1024, .f32⟩
  | _ => ⟨S16384x512, .bf16⟩

abbrev hbmTy (i : Nat) : BufTy := match i / 128 with
  | 0 => hbmTy0_0 i
  | 1 => hbmTy0_1 i
  | 2 => hbmTy0_2 i
  | 3 => hbmTy0_3 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_v0 : Ref sig .tc := ⟨.hbm, 19, rfl⟩
abbrev main_v4 : Ref sig .tc := ⟨.hbm, 20, rfl⟩
abbrev main_c_0 : Ref sig .tc := ⟨.hbm, 21, rfl⟩
abbrev main_call1_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_c_1 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v81 : Ref sig .tc := ⟨.hbm, 104, rfl⟩
abbrev main_cst_2 : Ref sig .tc := ⟨.hbm, 105, rfl⟩
abbrev main_v82 : Ref sig .tc := ⟨.hbm, 106, rfl⟩
abbrev main_cst_3 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_4 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_c_5 : Ref sig .tc := ⟨.hbm, 123, rfl⟩
abbrev main_call3_v0 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_6 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_v241 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_v266 : Ref sig .tc := ⟨.hbm, 295, rfl⟩
abbrev main_v267 : Ref sig .tc := ⟨.hbm, 296, rfl⟩
abbrev main_v268 : Ref sig .tc := ⟨.hbm, 297, rfl⟩
abbrev main_v269 : Ref sig .tc := ⟨.hbm, 298, rfl⟩
abbrev main_v270 : Ref sig .tc := ⟨.hbm, 299, rfl⟩
abbrev main_v271 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_v280 : Ref sig .tc := ⟨.hbm, 309, rfl⟩
abbrev main_v281 : Ref sig .tc := ⟨.hbm, 310, rfl⟩
abbrev main_v282 : Ref sig .tc := ⟨.hbm, 311, rfl⟩
abbrev main_v283 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_v292 : Ref sig .tc := ⟨.hbm, 321, rfl⟩
abbrev main_v293 : Ref sig .tc := ⟨.hbm, 322, rfl⟩
abbrev main_v294 : Ref sig .tc := ⟨.hbm, 323, rfl⟩
abbrev main_v295 : Ref sig .tc := ⟨.hbm, 324, rfl⟩
abbrev main_v296 : Ref sig .tc := ⟨.hbm, 325, rfl⟩
abbrev main_v297 : Ref sig .tc := ⟨.hbm, 326, rfl⟩
abbrev main_v298 : Ref sig .tc := ⟨.hbm, 327, rfl⟩
abbrev main_v299 : Ref sig .tc := ⟨.hbm, 328, rfl⟩
abbrev main_v300 : Ref sig .tc := ⟨.hbm, 329, rfl⟩
abbrev main_v301 : Ref sig .tc := ⟨.hbm, 330, rfl⟩
abbrev main_v302 : Ref sig .tc := ⟨.hbm, 331, rfl⟩
abbrev main_v303 : Ref sig .tc := ⟨.hbm, 332, rfl⟩
abbrev main_v304 : Ref sig .tc := ⟨.hbm, 333, rfl⟩
abbrev main_v305 : Ref sig .tc := ⟨.hbm, 334, rfl⟩
abbrev main_v306 : Ref sig .tc := ⟨.hbm, 335, rfl⟩
abbrev main_v307 : Ref sig .tc := ⟨.hbm, 336, rfl⟩
abbrev main_v308 : Ref sig .tc := ⟨.hbm, 337, rfl⟩
abbrev main_v309 : Ref sig .tc := ⟨.hbm, 338, rfl⟩
abbrev main_v310 : Ref sig .tc := ⟨.hbm, 339, rfl⟩
abbrev main_v311 : Ref sig .tc := ⟨.hbm, 340, rfl⟩
abbrev main_v312 : Ref sig .tc := ⟨.hbm, 341, rfl⟩
abbrev main_v313 : Ref sig .tc := ⟨.hbm, 342, rfl⟩
abbrev main_v314 : Ref sig .tc := ⟨.hbm, 343, rfl⟩
abbrev main_v315 : Ref sig .tc := ⟨.hbm, 344, rfl⟩
abbrev main_v316 : Ref sig .tc := ⟨.hbm, 345, rfl⟩
abbrev main_v317 : Ref sig .tc := ⟨.hbm, 346, rfl⟩
abbrev main_v318 : Ref sig .tc := ⟨.hbm, 347, rfl⟩
abbrev main_v319 : Ref sig .tc := ⟨.hbm, 348, rfl⟩
abbrev main_v320 : Ref sig .tc := ⟨.hbm, 349, rfl⟩
abbrev main_v321 : Ref sig .tc := ⟨.hbm, 350, rfl⟩
abbrev main_v322 : Ref sig .tc := ⟨.hbm, 351, rfl⟩
abbrev main_v323 : Ref sig .tc := ⟨.hbm, 352, rfl⟩
abbrev main_cst_7 : Ref sig .tc := ⟨.hbm, 353, rfl⟩
abbrev main_v324 : Ref sig .tc := ⟨.hbm, 354, rfl⟩
abbrev main_v325 : Ref sig .tc := ⟨.hbm, 355, rfl⟩
abbrev main_cst_8 : Ref sig .tc := ⟨.hbm, 356, rfl⟩
abbrev main_v326 : Ref sig .tc := ⟨.hbm, 357, rfl⟩
abbrev main_v327 : Ref sig .tc := ⟨.hbm, 358, rfl⟩
abbrev main_v328 : Ref sig .tc := ⟨.hbm, 359, rfl⟩
abbrev main_v329 : Ref sig .tc := ⟨.hbm, 360, rfl⟩
abbrev main_v330 : Ref sig .tc := ⟨.hbm, 361, rfl⟩
abbrev main_cst_9 : Ref sig .tc := ⟨.hbm, 362, rfl⟩
abbrev main_v331 : Ref sig .tc := ⟨.hbm, 363, rfl⟩
abbrev main_v332 : Ref sig .tc := ⟨.hbm, 364, rfl⟩
abbrev main_cst_10 : Ref sig .tc := ⟨.hbm, 365, rfl⟩
abbrev main_v333 : Ref sig .tc := ⟨.hbm, 366, rfl⟩
abbrev main_v334 : Ref sig .tc := ⟨.hbm, 367, rfl⟩
abbrev main_v335 : Ref sig .tc := ⟨.hbm, 368, rfl⟩
abbrev main_v336 : Ref sig .tc := ⟨.hbm, 369, rfl⟩
abbrev main_cst_11 : Ref sig .tc := ⟨.hbm, 370, rfl⟩
abbrev main_v337 : Ref sig .tc := ⟨.hbm, 371, rfl⟩
abbrev main_v338 : Ref sig .tc := ⟨.hbm, 372, rfl⟩
abbrev main_v339 : Ref sig .tc := ⟨.hbm, 373, rfl⟩
abbrev main_v340 : Ref sig .tc := ⟨.hbm, 374, rfl⟩
abbrev main_v341 : Ref sig .tc := ⟨.hbm, 375, rfl⟩
abbrev main_v342 : Ref sig .tc := ⟨.hbm, 376, rfl⟩
abbrev main_v343 : Ref sig .tc := ⟨.hbm, 377, rfl⟩
abbrev main_v344 : Ref sig .tc := ⟨.hbm, 378, rfl⟩
abbrev main_v345 : Ref sig .tc := ⟨.hbm, 379, rfl⟩
abbrev main_v346 : Ref sig .tc := ⟨.hbm, 380, rfl⟩
abbrev main_v347 : Ref sig .tc := ⟨.hbm, 381, rfl⟩
abbrev main_v348 : Ref sig .tc := ⟨.hbm, 382, rfl⟩
abbrev main_call4_v0 : Ref sig .tc := ⟨.hbm, 383, rfl⟩
abbrev main_call4_v1 : Ref sig .tc := ⟨.hbm, 384, rfl⟩
abbrev main_call4_cst : Ref sig .tc := ⟨.hbm, 385, rfl⟩
abbrev main_call4_v2 : Ref sig .tc := ⟨.hbm, 386, rfl⟩
abbrev main_call4_v3 : Ref sig .tc := ⟨.hbm, 387, rfl⟩
abbrev main_call4_cst_0 : Ref sig .tc := ⟨.hbm, 388, rfl⟩
abbrev main_call4_v4 : Ref sig .tc := ⟨.hbm, 389, rfl⟩
abbrev main_call4_v5 : Ref sig .tc := ⟨.hbm, 390, rfl⟩
abbrev main_v349 : Ref sig .tc := ⟨.hbm, 391, rfl⟩
abbrev main_v350 : Ref sig .tc := ⟨.hbm, 392, rfl⟩
abbrev main_v351 : Ref sig .tc := ⟨.hbm, 393, rfl⟩
abbrev main_v352 : Ref sig .tc := ⟨.hbm, 394, rfl⟩
abbrev main_v353 : Ref sig .tc := ⟨.hbm, 395, rfl⟩
abbrev main_cst_12 : Ref sig .tc := ⟨.hbm, 396, rfl⟩
abbrev main_v354 : Ref sig .tc := ⟨.hbm, 397, rfl⟩
abbrev main_v355 : Ref sig .tc := ⟨.hbm, 398, rfl⟩
abbrev main_cst_13 : Ref sig .tc := ⟨.hbm, 399, rfl⟩
abbrev main_v356 : Ref sig .tc := ⟨.hbm, 400, rfl⟩
abbrev main_v357 : Ref sig .tc := ⟨.hbm, 401, rfl⟩
abbrev main_cst_14 : Ref sig .tc := ⟨.hbm, 402, rfl⟩
abbrev main_v358 : Ref sig .tc := ⟨.hbm, 403, rfl⟩
abbrev main_v359 : Ref sig .tc := ⟨.hbm, 404, rfl⟩
abbrev main_v360 : Ref sig .tc := ⟨.hbm, 405, rfl⟩
abbrev main_v361 : Ref sig .tc := ⟨.hbm, 406, rfl⟩
abbrev main_v362 : Ref sig .tc := ⟨.hbm, 407, rfl⟩
abbrev main_v363 : Ref sig .tc := ⟨.hbm, 408, rfl⟩
abbrev main_v364 : Ref sig .tc := ⟨.hbm, 409, rfl⟩
abbrev main_v365 : Ref sig .tc := ⟨.hbm, 410, rfl⟩
abbrev main_v366 : Ref sig .tc := ⟨.hbm, 411, rfl⟩
abbrev main_cst_15 : Ref sig .tc := ⟨.hbm, 412, rfl⟩
abbrev main_v367 : Ref sig .tc := ⟨.hbm, 413, rfl⟩
abbrev main_v368 : Ref sig .tc := ⟨.hbm, 414, rfl⟩
abbrev main_cst_16 : Ref sig .tc := ⟨.hbm, 415, rfl⟩
abbrev main_v369 : Ref sig .tc := ⟨.hbm, 416, rfl⟩
abbrev main_v370 : Ref sig .tc := ⟨.hbm, 417, rfl⟩
abbrev main_cst_17 : Ref sig .tc := ⟨.hbm, 418, rfl⟩
abbrev main_v371 : Ref sig .tc := ⟨.hbm, 419, rfl⟩
abbrev main_v372 : Ref sig .tc := ⟨.hbm, 420, rfl⟩
abbrev main_v373 : Ref sig .tc := ⟨.hbm, 421, rfl⟩
abbrev main_v374 : Ref sig .tc := ⟨.hbm, 422, rfl⟩
abbrev main_v375 : Ref sig .tc := ⟨.hbm, 423, rfl⟩
abbrev main_v376 : Ref sig .tc := ⟨.hbm, 424, rfl⟩
abbrev main_v377 : Ref sig .tc := ⟨.hbm, 425, rfl⟩
abbrev main_v378 : Ref sig .tc := ⟨.hbm, 426, rfl⟩
abbrev main_v379 : Ref sig .tc := ⟨.hbm, 427, rfl⟩
abbrev main_v380 : Ref sig .tc := ⟨.hbm, 428, rfl⟩
abbrev main_v381 : Ref sig .tc := ⟨.hbm, 429, rfl⟩
abbrev main_v382 : Ref sig .tc := ⟨.hbm, 430, rfl⟩
abbrev main_v383 : Ref sig .tc := ⟨.hbm, 431, rfl⟩
abbrev main_cst_18 : Ref sig .tc := ⟨.hbm, 432, rfl⟩
abbrev main_v384 : Ref sig .tc := ⟨.hbm, 433, rfl⟩
abbrev main_v385 : Ref sig .tc := ⟨.hbm, 434, rfl⟩
abbrev main_cst_19 : Ref sig .tc := ⟨.hbm, 435, rfl⟩
abbrev main_v386 : Ref sig .tc := ⟨.hbm, 436, rfl⟩
abbrev main_v387 : Ref sig .tc := ⟨.hbm, 437, rfl⟩
abbrev main_cst_20 : Ref sig .tc := ⟨.hbm, 438, rfl⟩
abbrev main_v388 : Ref sig .tc := ⟨.hbm, 439, rfl⟩
abbrev main_v389 : Ref sig .tc := ⟨.hbm, 440, rfl⟩
abbrev main_v390 : Ref sig .tc := ⟨.hbm, 441, rfl⟩
abbrev main_v391 : Ref sig .tc := ⟨.hbm, 442, rfl⟩
abbrev main_v392 : Ref sig .tc := ⟨.hbm, 443, rfl⟩
abbrev main_v393 : Ref sig .tc := ⟨.hbm, 444, rfl⟩
abbrev main_v394 : Ref sig .tc := ⟨.hbm, 445, rfl⟩
abbrev main_v395 : Ref sig .tc := ⟨.hbm, 446, rfl⟩
abbrev main_v396 : Ref sig .tc := ⟨.hbm, 447, rfl⟩

abbrev nD : Nat := 1
abbrev τ : Topo := Topo.v7x

variable {F : FTy → Type} [FloatOps F]

def κ : String → Option EReal := fun
  | "mask" => some ⊥
  | _ => none
-- ==== MixSample.lean ====
abbrev S128x512 : Shape := ⟨2, ![128, 512]⟩
abbrev S128x1024 : Shape := ⟨2, ![128, 1024]⟩
abbrev S1x8x512x8x64 : Shape := ⟨5, ![1, 8, 512, 8, 64]⟩
abbrev S1x8x30x512 : Shape := ⟨4, ![1, 8, 30, 512]⟩
abbrev S8x64x576 : Shape := ⟨3, ![8, 64, 576]⟩
abbrev S512x512 : Shape := ⟨2, ![512, 512]⟩
abbrev S1x31x512 : Shape := ⟨3, ![1, 31, 512]⟩
abbrev S1x512 : Shape := ⟨2, ![1, 512]⟩
abbrev S1x1024x1024 : Shape := ⟨3, ![1, 1024, 1024]⟩
abbrev S1x1024 : Shape := ⟨2, ![1, 1024]⟩
abbrev S8x512x8x64 : Shape := ⟨4, ![8, 512, 8, 64]⟩
abbrev S8x512x512 : Shape := ⟨3, ![8, 512, 512]⟩
abbrev S8x30x512 : Shape := ⟨3, ![8, 30, 512]⟩
abbrev S31x512 : Shape := ⟨2, ![31, 512]⟩
abbrev S512 : Shape := ⟨1, ![512]⟩
abbrev S1024x1024 : Shape := ⟨2, ![1024, 1024]⟩
abbrev S1024 : Shape := ⟨1, ![1024]⟩
abbrev S16x512 : Shape := ⟨2, ![16, 512]⟩
abbrev S1x512x512 : Shape := ⟨3, ![1, 512, 512]⟩
abbrev S1x30x512 : Shape := ⟨3, ![1, 30, 512]⟩
abbrev S16x1024 : Shape := ⟨2, ![16, 1024]⟩
abbrev S46x512 : Shape := ⟨2, ![46, 512]⟩
abbrev S528x512 : Shape := ⟨2, ![528, 512]⟩
abbrev S16x64 : Shape := ⟨2, ![16, 64]⟩
abbrev S528x64 : Shape := ⟨2, ![528, 64]⟩
abbrev S16x528 : Shape := ⟨2, ![16, 528]⟩
abbrev S1x16x528 : Shape := ⟨3, ![1, 16, 528]⟩
abbrev S16 : Shape := ⟨1, ![16]⟩
abbrev S16x1 : Shape := ⟨2, ![16, 1]⟩
abbrev S30x512 : Shape := ⟨2, ![30, 512]⟩
abbrev S512x1024 : Shape := ⟨2, ![512, 1024]⟩

abbrev nBuf : Space → Nat
  | .hbm => 39
  | .vmem => 29
  | .smem => 0
  | _ => 0

abbrev bufTy : (tb : Table) → Fin (tcTables nBuf tb) → BufTy
  | .hbm, ⟨0, _⟩ => ⟨S128x512, .bf16⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x1024, .f32⟩
  | .hbm, ⟨5, _⟩ => ⟨S1x8x512x8x64, .f32⟩
  | .hbm, ⟨6, _⟩ => ⟨S1x8x512x8x64, .f32⟩
  | .hbm, ⟨7, _⟩ => ⟨S1x8x30x512, .f32⟩
  | .hbm, ⟨8, _⟩ => ⟨S8x64x576, .f32⟩
  | .hbm, ⟨9, _⟩ => ⟨S512x512, .bf16⟩
  | .hbm, ⟨10, _⟩ => ⟨S1x31x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x1024x1024, .f32⟩
  | .hbm, ⟨17, _⟩ => ⟨S1x1024, .f32⟩
  | .hbm, ⟨18, _⟩ => ⟨S8x512x8x64, .f32⟩
  | .hbm, ⟨19, _⟩ => ⟨S8x512x512, .f32⟩
  | .hbm, ⟨20, _⟩ => ⟨S8x512x8x64, .f32⟩
  | .hbm, ⟨21, _⟩ => ⟨S8x512x512, .f32⟩
  | .hbm, ⟨22, _⟩ => ⟨S8x30x512, .f32⟩
  | .hbm, ⟨23, _⟩ => ⟨S31x512, .f32⟩
  | .hbm, ⟨24, _⟩ => ⟨S512, .f32⟩
  | .hbm, ⟨25, _⟩ => ⟨S1x512, .f32⟩
  | .hbm, ⟨26, _⟩ => ⟨S512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S512, .f32⟩
  | .hbm, ⟨31, _⟩ => ⟨S1x512, .f32⟩
  | .hbm, ⟨32, _⟩ => ⟨S512, .f32⟩
  | .hbm, ⟨33, _⟩ => ⟨S1x512, .f32⟩
  | .hbm, ⟨34, _⟩ => ⟨S1024x1024, .f32⟩
  | .hbm, ⟨35, _⟩ => ⟨S1024x1024, .bf16⟩
  | .hbm, ⟨36, _⟩ => ⟨S1024, .f32⟩
  | .hbm, ⟨37, _⟩ => ⟨S1x1024, .f32⟩
  | .hbm, ⟨38, _⟩ => ⟨S128x1024, .f32⟩
  | .local _ .vmem, ⟨0, _⟩ => ⟨S16x512, .bf16⟩
  | .local _ .vmem, ⟨1, _⟩ => ⟨S16x512, .bf16⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S16x512, .f32⟩
  | .local _ .vmem, ⟨11, _⟩ => ⟨S16x512, .f32⟩
  | .local _ .vmem, ⟨12, _⟩ => ⟨S1x30x512, .f32⟩
  | .local _ .vmem, ⟨13, _⟩ => ⟨S1x30x512, .f32⟩
  | .local _ .vmem, ⟨14, _⟩ => ⟨S16x1024, .f32⟩
  | .local _ .vmem, ⟨15, _⟩ => ⟨S16x1024, .f32⟩
  | .local _ .vmem, ⟨16, _⟩ => ⟨S8x64x576, .f32⟩
  | .local _ .vmem, ⟨17, _⟩ => ⟨S512x512, .bf16⟩
  | .local _ .vmem, ⟨18, _⟩ => ⟨S31x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1024x1024, .bf16⟩
  | .local _ .vmem, ⟨25, _⟩ => ⟨S1x1024, .f32⟩
  | .local _ .vmem, ⟨26, _⟩ => ⟨S16x1024, .f32⟩
  | .local _ .vmem, ⟨27, _⟩ => ⟨S16x1024, .f32⟩
  | .local _ .vmem, ⟨28, _⟩ => ⟨S46x512, .f32⟩
  | _, _ => ⟨S128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x30x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x64x576 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S31x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S16x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MixSampleRefIdeal.lean ====
abbrev S128x512 : Shape := ⟨2, ![128, 512]⟩
abbrev S128x1024 : Shape := ⟨2, ![128, 1024]⟩
abbrev S1x8x512x8x64 : Shape := ⟨5, ![1, 8, 512, 8, 64]⟩
abbrev S1x8x30x512 : Shape := ⟨4, ![1, 8, 30, 512]⟩
abbrev S8x64x576 : Shape := ⟨3, ![8, 64, 576]⟩
abbrev S1x31x512 : Shape := ⟨3, ![1, 31, 512]⟩
abbrev S1x512 : Shape := ⟨2, ![1, 512]⟩
abbrev S1x1024x1024 : Shape := ⟨3, ![1, 1024, 1024]⟩
abbrev S1x1024 : Shape := ⟨2, ![1, 1024]⟩
abbrev S8x512x8x64 : Shape := ⟨4, ![8, 512, 8, 64]⟩
abbrev S8x16x8x64 : Shape := ⟨4, ![8, 16, 8, 64]⟩
abbrev S8x528x8x64 : Shape := ⟨4, ![8, 528, 8, 64]⟩
abbrev S8x16x528 : Shape := ⟨3, ![8, 16, 528]⟩
abbrev S8x8x16x528 : Shape := ⟨4, ![8, 8, 16, 528]⟩
abbrev S1x8x16x528 : Shape := ⟨4, ![1, 8, 16, 528]⟩
abbrev S_ : Shape := ⟨0, ![]⟩
abbrev S8x8x16 : Shape := ⟨3, ![8, 8, 16]⟩
abbrev S8x8x16x1 : Shape := ⟨4, ![8, 8, 16, 1]⟩
abbrev S8x8x64x16 : Shape := ⟨4, ![8, 8, 64, 16]⟩
abbrev S8x16x512 : Shape := ⟨3, ![8, 16, 512]⟩
abbrev S8x30x512 : Shape := ⟨3, ![8, 30, 512]⟩
abbrev S8x46x512 : Shape := ⟨3, ![8, 46, 512]⟩
abbrev S31x512 : Shape := ⟨2, ![31, 512]⟩
abbrev S512 : Shape := ⟨1, ![512]⟩
abbrev S1x1x512 : Shape := ⟨3, ![1, 1, 512]⟩
abbrev S8x16x8 : Shape := ⟨3, ![8, 16, 8]⟩
abbrev S8x16x8x1 : Shape := ⟨4, ![8, 16, 8, 1]⟩
abbrev S8x16x1024 : Shape := ⟨3, ![8, 16, 1024]⟩
abbrev S1024x1024 : Shape := ⟨2, ![1024, 1024]⟩
abbrev S8x16 : Shape := ⟨2, ![8, 16]⟩
abbrev S8x16x1 : Shape := ⟨3, ![8, 16, 1]⟩
abbrev S1024 : Shape := ⟨1, ![1024]⟩
abbrev S1x1x1024 : Shape := ⟨3, ![1, 1, 1024]⟩

abbrev nBuf : Space → Nat
  | .hbm => 373
  | .vmem => 0
  | .smem => 0
  | _ => 0

abbrev hbmTy0_0 (i : Nat) : BufTy := match i % 128 with
  | 0 => ⟨S128x512, .bf16⟩
  | 1 => ⟨S128x512, .f32⟩
  | 2 => ⟨S128x512, .f32⟩
  | 3 => ⟨S128x512, .f32⟩
  | 4 => ⟨S128x1024, .f32⟩
  | 5 => ⟨S1x8x512x8x64, .f32⟩
  | 6 => ⟨S1x8x512x8x64, .f32⟩
  | 7 => ⟨S1x8x30x512, .f32⟩
  | 8 => ⟨S8x64x576, .f32⟩
  | 9 => ⟨S1x31x512, .f32⟩
  | 10 => ⟨S1x512, .f32⟩
  | 11 => ⟨S1x512, .f32⟩
  | 12 => ⟨S1x512, .f32⟩
  | 13 => ⟨S1x512, .f32⟩
  | 14 => ⟨S1x512, .f32⟩
  | 15 => ⟨S1x1024x1024, .f32⟩
  | 16 => ⟨S1x1024, .f32⟩
  | 17 => ⟨S8x512x8x64, .f32⟩
  | 18 => ⟨S8x16x8x64, .f32⟩
  | 19 => ⟨S8x528x8x64, .f32⟩
  | 20 => ⟨S8x512x8x64, .f32⟩
  | 21 => ⟨S8x16x8x64, .f32⟩
  | 22 => ⟨S8x528x8x64, .f32⟩
  | 23 => ⟨S128x512, .f32⟩
  | 24 => ⟨S8x16x8x64, .f32⟩
  | 25 => ⟨S8x16x528, .f32⟩
  | 26 => ⟨S8x8x16x528, .f32⟩
  | 27 => ⟨S1x8x16x528, .f32⟩
  | 28 => ⟨S8x8x16x528, .f32⟩
  | 29 => ⟨S8x8x16x528, .f32⟩
  | 30 => ⟨S_, .f32⟩
  | 31 => ⟨S8x8x16, .f32⟩
  | 32 => ⟨S_, .f32⟩
  | 33 => ⟨S8x8x16, .f32⟩
  | 34 => ⟨S8x8x16, .f32⟩
  | 35 => ⟨S8x8x16x1, .f32⟩
  | 36 => ⟨S8x8x16x528, .f32⟩
  | 37 => ⟨S8x8x16x528, .f32⟩
  | 38 => ⟨S8x8x16x528, .f32⟩
  | 39 => ⟨S_, .f32⟩
  | 40 => ⟨S8x8x16, .f32⟩
  | 41 => ⟨S8x8x16x1, .f32⟩
  | 42 => ⟨S8x8x16x528, .f32⟩
  | 43 => ⟨S8x8x16x528, .f32⟩
  | 44 => ⟨S8x8x64x16, .f32⟩
  | 45 => ⟨S8x16x8x64, .f32⟩
  | 46 => ⟨S8x16x512, .f32⟩
  | 47 => ⟨S8x30x512, .f32⟩
  | 48 => ⟨S8x16x512, .f32⟩
  | 49 => ⟨S8x46x512, .f32⟩
  | 50 => ⟨S31x512, .f32⟩
  | 51 => ⟨S512, .f32⟩
  | 52 => ⟨S512, .f32⟩
  | 53 => ⟨S512, .f32⟩
  | 54 => ⟨S8x16x512, .f32⟩
  | 55 => ⟨S1x512, .f32⟩
  | 56 => ⟨S512, .f32⟩
  | 57 => ⟨S1x1x512, .f32⟩
  | 58 => ⟨S8x16x512, .f32⟩
  | 59 => ⟨S8x16x512, .f32⟩
  | 60 => ⟨S_, .f32⟩
  | 61 => ⟨S8x16x512, .f32⟩
  | 62 => ⟨S8x16x512, .f32⟩
  | 63 => ⟨S8x16x512, .f32⟩
  | 64 => ⟨S1x512, .f32⟩
  | 65 => ⟨S512, .f32⟩
  | 66 => ⟨S1x1x512, .f32⟩
  | 67 => ⟨S8x16x512, .f32⟩
  | 68 => ⟨S8x16x512, .f32⟩
  | 69 => ⟨S8x16x512, .f32⟩
  | 70 => ⟨S8x16x512, .f32⟩
  | 71 => ⟨S1x512, .f32⟩
  | 72 => ⟨S512, .f32⟩
  | 73 => ⟨S1x1x512, .f32⟩
  | 74 => ⟨S8x16x512, .f32⟩
  | 75 => ⟨S8x16x512, .f32⟩
  | 76 => ⟨S8x16x512, .f32⟩
  | 77 => ⟨S8x16x512, .f32⟩
  | 78 => ⟨S1x512, .f32⟩
  | 79 => ⟨S512, .f32⟩
  | 80 => ⟨S1x1x512, .f32⟩
  | 81 => ⟨S8x16x512, .f32⟩
  | 82 => ⟨S8x16x512, .f32⟩
  | 83 => ⟨S8x16x512, .f32⟩
  | 84 => ⟨S8x16x512, .f32⟩
  | 85 => ⟨S1x512, .f32⟩
  | 86 => ⟨S512, .f32⟩
  | 87 => ⟨S1x1x512, .f32⟩
  | 88 => ⟨S8x16x512, .f32⟩
  | 89 => ⟨S8x16x512, .f32⟩
  | 90 => ⟨S8x16x512, .f32⟩
  | 91 => ⟨S8x16x512, .f32⟩
  | 92 => ⟨S1x512, .f32⟩
  | 93 => ⟨S512, .f32⟩
  | 94 => ⟨S1x1x512, .f32⟩
  | 95 => ⟨S8x16x512, .f32⟩
  | 96 => ⟨S8x16x512, .f32⟩
  | 97 => ⟨S8x16x512, .f32⟩
  | 98 => ⟨S8x16x512, .f32⟩
  | 99 => ⟨S1x512, .f32⟩
  | 100 => ⟨S512, .f32⟩
  | 101 => ⟨S1x1x512, .f32⟩
  | 102 => ⟨S8x16x512, .f32⟩
  | 103 => ⟨S8x16x512, .f32⟩
  | 104 => ⟨S8x16x512, .f32⟩
  | 105 => ⟨S8x16x512, .f32⟩
  | 106 => ⟨S1x512, .f32⟩
  | 107 => ⟨S512, .f32⟩
  | 108 => ⟨S1x1x512, .f32⟩
  | 109 => ⟨S8x16x512, .f32⟩
  | 110 => ⟨S8x16x512, .f32⟩
  | 111 => ⟨S8x16x512, .f32⟩
  | 112 => ⟨S8x16x512, .f32⟩
  | 113 => ⟨S1x512, .f32⟩
  | 114 => ⟨S512, .f32⟩
  | 115 => ⟨S1x1x512, .f32⟩
  | 116 => ⟨S8x16x512, .f32⟩
  | 117 => ⟨S8x16x512, .f32⟩
  | 118 => ⟨S8x16x512, .f32⟩
  | 119 => ⟨S8x16x512, .f32⟩
  | 120 => ⟨S1x512, .f32⟩
  | 121 => ⟨S512, .f32⟩
  | 122 => ⟨S1x1x512, .f32⟩
  | 123 => ⟨S8x16x512, .f32⟩
  | 124 => ⟨S8x16x512, .f32⟩
  | 125 => ⟨S8x16x512, .f32⟩
  | 126 => ⟨S8x16x512, .f32⟩
  | 127 => ⟨S1x512, .f32⟩
  | _ => ⟨S128x512, .bf16⟩

abbrev hbmTy0_1 (i : Nat) : BufTy := match i % 128 with
  | 0 => ⟨S512, .f32⟩
  | 1 => ⟨S1x1x512, .f32⟩
  | 2 => ⟨S8x16x512, .f32⟩
  | 3 => ⟨S8x16x512, .f32⟩
  | 4 => ⟨S8x16x512, .f32⟩
  | 5 => ⟨S8x16x512, .f32⟩
  | 6 => ⟨S1x512, .f32⟩
  | 7 => ⟨S512, .f32⟩
  | 8 => ⟨S1x1x512, .f32⟩
  | 9 => ⟨S8x16x512, .f32⟩
  | 10 => ⟨S8x16x512, .f32⟩
  | 11 => ⟨S8x16x512, .f32⟩
  | 12 => ⟨S8x16x512, .f32⟩
  | 13 => ⟨S1x512, .f32⟩
  | 14 => ⟨S512, .f32⟩
  | 15 => ⟨S1x1x512, .f32⟩
  | 16 => ⟨S8x16x512, .f32⟩
  | 17 => ⟨S8x16x512, .f32⟩
  | 18 => ⟨S8x16x512, .f32⟩
  | 19 => ⟨S8x16x512, .f32⟩
  | 20 => ⟨S1x512, .f32⟩
  | 21 => ⟨S512, .f32⟩
  | 22 => ⟨S1x1x512, .f32⟩
  | 23 => ⟨S8x16x512, .f32⟩
  | 24 => ⟨S8x16x512, .f32⟩
  | 25 => ⟨S8x16x512, .f32⟩
  | 26 => ⟨S8x16x512, .f32⟩
  | 27 => ⟨S1x512, .f32⟩
  | 28 => ⟨S512, .f32⟩
  | 29 => ⟨S1x1x512, .f32⟩
  | 30 => ⟨S8x16x512, .f32⟩
  | 31 => ⟨S8x16x512, .f32⟩
  | 32 => ⟨S8x16x512, .f32⟩
  | 33 => ⟨S8x16x512, .f32⟩
  | 34 => ⟨S1x512, .f32⟩
  | 35 => ⟨S512, .f32⟩
  | 36 => ⟨S1x1x512, .f32⟩
  | 37 => ⟨S8x16x512, .f32⟩
  | 38 => ⟨S8x16x512, .f32⟩
  | 39 => ⟨S8x16x512, .f32⟩
  | 40 => ⟨S8x16x512, .f32⟩
  | 41 => ⟨S1x512, .f32⟩
  | 42 => ⟨S512, .f32⟩
  | 43 => ⟨S1x1x512, .f32⟩
  | 44 => ⟨S8x16x512, .f32⟩
  | 45 => ⟨S8x16x512, .f32⟩
  | 46 => ⟨S8x16x512, .f32⟩
  | 47 => ⟨S8x16x512, .f32⟩
  | 48 => ⟨S1x512, .f32⟩
  | 49 => ⟨S512, .f32⟩
  | 50 => ⟨S1x1x512, .f32⟩
  | 51 => ⟨S8x16x512, .f32⟩
  | 52 => ⟨S8x16x512, .f32⟩
  | 53 => ⟨S8x16x512, .f32⟩
  | 54 => ⟨S8x16x512, .f32⟩
  | 55 => ⟨S1x512, .f32⟩
  | 56 => ⟨S512, .f32⟩
  | 57 => ⟨S1x1x512, .f32⟩
  | 58 => ⟨S8x16x512, .f32⟩
  | 59 => ⟨S8x16x512, .f32⟩
  | 60 => ⟨S8x16x512, .f32⟩
  | 61 => ⟨S8x16x512, .f32⟩
  | 62 => ⟨S1x512, .f32⟩
  | 63 => ⟨S512, .f32⟩
  | 64 => ⟨S1x1x512, .f32⟩
  | 65 => ⟨S8x16x512, .f32⟩
  | 66 => ⟨S8x16x512, .f32⟩
  | 67 => ⟨S8x16x512, .f32⟩
  | 68 => ⟨S8x16x512, .f32⟩
  | 69 => ⟨S1x512, .f32⟩
  | 70 => ⟨S512, .f32⟩
  | 71 => ⟨S1x1x512, .f32⟩
  | 72 => ⟨S8x16x512, .f32⟩
  | 73 => ⟨S8x16x512, .f32⟩
  | 74 => ⟨S8x16x512, .f32⟩
  | 75 => ⟨S8x16x512, .f32⟩
  | 76 => ⟨S1x512, .f32⟩
  | 77 => ⟨S512, .f32⟩
  | 78 => ⟨S1x1x512, .f32⟩
  | 79 => ⟨S8x16x512, .f32⟩
  | 80 => ⟨S8x16x512, .f32⟩
  | 81 => ⟨S8x16x512, .f32⟩
  | 82 => ⟨S8x16x512, .f32⟩
  | 83 => ⟨S1x512, .f32⟩
  | 84 => ⟨S512, .f32⟩
  | 85 => ⟨S1x1x512, .f32⟩
  | 86 => ⟨S8x16x512, .f32⟩
  | 87 => ⟨S8x16x512, .f32⟩
  | 88 => ⟨S8x16x512, .f32⟩
  | 89 => ⟨S8x16x512, .f32⟩
  | 90 => ⟨S1x512, .f32⟩
  | 91 => ⟨S512, .f32⟩
  | 92 => ⟨S1x1x512, .f32⟩
  | 93 => ⟨S8x16x512, .f32⟩
  | 94 => ⟨S8x16x512, .f32⟩
  | 95 => ⟨S8x16x512, .f32⟩
  | 96 => ⟨S8x16x512, .f32⟩
  | 97 => ⟨S1x512, .f32⟩
  | 98 => ⟨S512, .f32⟩
  | 99 => ⟨S1x1x512, .f32⟩
  | 100 => ⟨S8x16x512, .f32⟩
  | 101 => ⟨S8x16x512, .f32⟩
  | 102 => ⟨S8x16x512, .f32⟩
  | 103 => ⟨S8x16x512, .f32⟩
  | 104 => ⟨S1x512, .f32⟩
  | 105 => ⟨S512, .f32⟩
  | 106 => ⟨S1x1x512, .f32⟩
  | 107 => ⟨S8x16x512, .f32⟩
  | 108 => ⟨S8x16x512, .f32⟩
  | 109 => ⟨S8x16x512, .f32⟩
  | 110 => ⟨S8x16x512, .f32⟩
  | 111 => ⟨S1x512, .f32⟩
  | 112 => ⟨S512, .f32⟩
  | 113 => ⟨S1x1x512, .f32⟩
  | 114 => ⟨S8x16x512, .f32⟩
  | 115 => ⟨S8x16x512, .f32⟩
  | 116 => ⟨S8x16x512, .f32⟩
  | 117 => ⟨S8x16x512, .f32⟩
  | 118 => ⟨S1x512, .f32⟩
  | 119 => ⟨S512, .f32⟩
  | 120 => ⟨S1x1x512, .f32⟩
  | 121 => ⟨S8x16x512, .f32⟩
  | 122 => ⟨S8x16x512, .f32⟩
  | 123 => ⟨S8x16x512, .f32⟩
  | 124 => ⟨S8x16x512, .f32⟩
  | 125 => ⟨S1x512, .f32⟩
  | 126 => ⟨S512, .f32⟩
  | 127 => ⟨S1x1x512, .f32⟩
  | _ => ⟨S128x512, .bf16⟩

abbrev hbmTy0_2 (i : Nat) : BufTy := match i % 128 with
  | 0 => ⟨S8x16x512, .f32⟩
  | 1 => ⟨S8x16x512, .f32⟩
  | 2 => ⟨S8x16x512, .f32⟩
  | 3 => ⟨S8x16x512, .f32⟩
  | 4 => ⟨S1x512, .f32⟩
  | 5 => ⟨S512, .f32⟩
  | 6 => ⟨S1x1x512, .f32⟩
  | 7 => ⟨S8x16x512, .f32⟩
  | 8 => ⟨S8x16x512, .f32⟩
  | 9 => ⟨S8x16x512, .f32⟩
  | 10 => ⟨S8x16x512, .f32⟩
  | 11 => ⟨S1x512, .f32⟩
  | 12 => ⟨S512, .f32⟩
  | 13 => ⟨S1x1x512, .f32⟩
  | 14 => ⟨S8x16x512, .f32⟩
  | 15 => ⟨S8x16x512, .f32⟩
  | 16 => ⟨S8x16x512, .f32⟩
  | 17 => ⟨S1x1x512, .f32⟩
  | 18 => ⟨S8x16x512, .f32⟩
  | 19 => ⟨S8x16x512, .f32⟩
  | 20 => ⟨S8x16x8x64, .f32⟩
  | 21 => ⟨S_, .f32⟩
  | 22 => ⟨S8x16x8, .f32⟩
  | 23 => ⟨S8x16x8x1, .f32⟩
  | 24 => ⟨S_, .f32⟩
  | 25 => ⟨S8x16x8x1, .f32⟩
  | 26 => ⟨S8x16x8x1, .f32⟩
  | 27 => ⟨S8x16x8x64, .f32⟩
  | 28 => ⟨S8x16x8x64, .f32⟩
  | 29 => ⟨S8x16x8x64, .f32⟩
  | 30 => ⟨S_, .f32⟩
  | 31 => ⟨S8x16x8, .f32⟩
  | 32 => ⟨S8x16x8x1, .f32⟩
  | 33 => ⟨S_, .f32⟩
  | 34 => ⟨S8x16x8x1, .f32⟩
  | 35 => ⟨S8x16x8x1, .f32⟩
  | 36 => ⟨S8x16x8x64, .f32⟩
  | 37 => ⟨S8x16x8x64, .f32⟩
  | 38 => ⟨S_, .f32⟩
  | 39 => ⟨S8x16x8x1, .f32⟩
  | 40 => ⟨S8x16x8x1, .f32⟩
  | 41 => ⟨S8x16x8x1, .f32⟩
  | 42 => ⟨S8x16x8x64, .f32⟩
  | 43 => ⟨S8x16x8x64, .f32⟩
  | 44 => ⟨S8x16x512, .f32⟩
  | 45 => ⟨S1x1x512, .f32⟩
  | 46 => ⟨S8x16x512, .f32⟩
  | 47 => ⟨S8x16x512, .f32⟩
  | 48 => ⟨S1x1x512, .f32⟩
  | 49 => ⟨S8x16x512, .f32⟩
  | 50 => ⟨S8x16x512, .f32⟩
  | 51 => ⟨S8x16x512, .f32⟩
  | 52 => ⟨S8x16x512, .f32⟩
  | 53 => ⟨S_, .f32⟩
  | 54 => ⟨S8x16x512, .f32⟩
  | 55 => ⟨S8x16x512, .f32⟩
  | 56 => ⟨S_, .f32⟩
  | 57 => ⟨S8x16x512, .f32⟩
  | 58 => ⟨S8x16x512, .f32⟩
  | 59 => ⟨S8x16x512, .f32⟩
  | 60 => ⟨S8x16x1024, .f32⟩
  | 61 => ⟨S512, .f32⟩
  | 62 => ⟨S512, .f32⟩
  | 63 => ⟨S1024x1024, .f32⟩
  | 64 => ⟨S8x16x512, .f32⟩
  | 65 => ⟨S_, .f32⟩
  | 66 => ⟨S8x16, .f32⟩
  | 67 => ⟨S8x16x1, .f32⟩
  | 68 => ⟨S_, .f32⟩
  | 69 => ⟨S8x16x1, .f32⟩
  | 70 => ⟨S8x16x1, .f32⟩
  | 71 => ⟨S_, .f32⟩
  | 72 => ⟨S8x16x1, .f32⟩
  | 73 => ⟨S8x16x1, .f32⟩
  | 74 => ⟨S8x16x1, .f32⟩
  | 75 => ⟨S8x16x512, .f32⟩
  | 76 => ⟨S8x16x512, .f32⟩
  | 77 => ⟨S1x1x512, .f32⟩
  | 78 => ⟨S8x16x512, .f32⟩
  | 79 => ⟨S8x16x512, .f32⟩
  | 80 => ⟨S8x16x512, .f32⟩
  | 81 => ⟨S_, .f32⟩
  | 82 => ⟨S8x16, .f32⟩
  | 83 => ⟨S8x16x1, .f32⟩
  | 84 => ⟨S_, .f32⟩
  | 85 => ⟨S8x16x1, .f32⟩
  | 86 => ⟨S8x16x1, .f32⟩
  | 87 => ⟨S_, .f32⟩
  | 88 => ⟨S8x16x1, .f32⟩
  | 89 => ⟨S8x16x1, .f32⟩
  | 90 => ⟨S8x16x1, .f32⟩
  | 91 => ⟨S8x16x512, .f32⟩
  | 92 => ⟨S8x16x512, .f32⟩
  | 93 => ⟨S1x1x512, .f32⟩
  | 94 => ⟨S8x16x512, .f32⟩
  | 95 => ⟨S8x16x512, .f32⟩
  | 96 => ⟨S8x16x1024, .f32⟩
  | 97 => ⟨S8x16x1024, .f32⟩
  | 98 => ⟨S1024, .f32⟩
  | 99 => ⟨S8x16x1024, .f32⟩
  | 100 => ⟨S_, .f32⟩
  | 101 => ⟨S8x16, .f32⟩
  | 102 => ⟨S8x16x1, .f32⟩
  | 103 => ⟨S_, .f32⟩
  | 104 => ⟨S8x16x1, .f32⟩
  | 105 => ⟨S8x16x1, .f32⟩
  | 106 => ⟨S_, .f32⟩
  | 107 => ⟨S8x16x1, .f32⟩
  | 108 => ⟨S8x16x1, .f32⟩
  | 109 => ⟨S8x16x1, .f32⟩
  | 110 => ⟨S8x16x1024, .f32⟩
  | 111 => ⟨S8x16x1024, .f32⟩
  | 112 => ⟨S1x1x1024, .f32⟩
  | 113 => ⟨S8x16x1024, .f32⟩
  | 114 => ⟨S8x16x1024, .f32⟩
  | 115 => ⟨S8x16x1024, .f32⟩
  | 116 => ⟨S128x1024, .f32⟩
  | _ => ⟨S128x512, .bf16⟩

abbrev hbmTy (i : Nat) : BufTy := match i / 128 with
  | 0 => hbmTy0_0 i
  | 1 => hbmTy0_1 i
  | 2 => hbmTy0_2 i
  | _ => ⟨S128x512, .bf16⟩

abbrev bufTy : (tb : Table) → Fin (tcTables nBuf tb) → BufTy
  | .hbm, ⟨i, _⟩ => hbmTy i
  | _, _ => ⟨S128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_2 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_v251 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_v255 : Ref sig .tc := ⟨.hbm, 276, rfl⟩
abbrev main_cst_3 : Ref sig .tc := ⟨.hbm, 277, rfl⟩
abbrev main_v256 : Ref sig .tc := ⟨.hbm, 278, rfl⟩
abbrev main_v257 : Ref sig .tc := ⟨.hbm, 279, rfl⟩
abbrev main_cst_4 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_cst_5 : Ref sig .tc := ⟨.hbm, 286, rfl⟩
abbrev main_v263 : Ref sig .tc := ⟨.hbm, 287, rfl⟩
abbrev main_v264 : Ref sig .tc := ⟨.hbm, 288, rfl⟩
abbrev main_cst_6 : Ref sig .tc := ⟨.hbm, 289, rfl⟩
abbrev main_v265 : Ref sig .tc := ⟨.hbm, 290, rfl⟩
abbrev main_v266 : Ref sig .tc := ⟨.hbm, 291, rfl⟩
abbrev main_v267 : Ref sig .tc := ⟨.hbm, 292, rfl⟩
abbrev main_v268 : Ref sig .tc := ⟨.hbm, 293, rfl⟩
abbrev main_cst_7 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_v273 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_v277 : Ref sig .tc := ⟨.hbm, 303, rfl⟩
abbrev main_v278 : Ref sig .tc := ⟨.hbm, 304, rfl⟩
abbrev main_v279 : Ref sig .tc := ⟨.hbm, 305, rfl⟩
abbrev main_v280 : Ref sig .tc := ⟨.hbm, 306, rfl⟩
abbrev main_call0_v0 : Ref sig .tc := ⟨.hbm, 307, rfl⟩
abbrev main_call0_v1 : Ref sig .tc := ⟨.hbm, 308, rfl⟩
abbrev main_call0_cst : Ref sig .tc := ⟨.hbm, 309, rfl⟩
abbrev main_call0_v2 : Ref sig .tc := ⟨.hbm, 310, rfl⟩
abbrev main_call0_v3 : Ref sig .tc := ⟨.hbm, 311, rfl⟩
abbrev main_call0_cst_0 : Ref sig .tc := ⟨.hbm, 312, rfl⟩
abbrev main_call0_v4 : Ref sig .tc := ⟨.hbm, 313, rfl⟩
abbrev main_call0_v5 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_cst_8 : Ref sig .tc := ⟨.hbm, 321, rfl⟩
abbrev main_v287 : Ref sig .tc := ⟨.hbm, 322, rfl⟩
abbrev main_v288 : Ref sig .tc := ⟨.hbm, 323, rfl⟩
abbrev main_cst_9 : Ref sig .tc := ⟨.hbm, 324, rfl⟩
abbrev main_v289 : Ref sig .tc := ⟨.hbm, 325, rfl⟩
abbrev main_v290 : Ref sig .tc := ⟨.hbm, 326, rfl⟩
abbrev main_cst_10 : Ref sig .tc := ⟨.hbm, 327, rfl⟩
abbrev main_v291 : Ref sig .tc := ⟨.hbm, 328, rfl⟩
abbrev main_v292 : Ref sig .tc := ⟨.hbm, 329, rfl⟩
abbrev main_v293 : Ref sig .tc := ⟨.hbm, 330, rfl⟩
abbrev main_v294 : Ref sig .tc := ⟨.hbm, 331, rfl⟩
abbrev main_v295 : Ref sig .tc := ⟨.hbm, 332, rfl⟩
abbrev main_v296 : Ref sig .tc := ⟨.hbm, 333, rfl⟩
abbrev main_v297 : Ref sig .tc := ⟨.hbm, 334, rfl⟩
abbrev main_v298 : Ref sig .tc := ⟨.hbm, 335, rfl⟩
abbrev main_v299 : Ref sig .tc := ⟨.hbm, 336, rfl⟩
abbrev main_cst_11 : Ref sig .tc := ⟨.hbm, 337, rfl⟩
abbrev main_v300 : Ref sig .tc := ⟨.hbm, 338, rfl⟩
abbrev main_v301 : Ref sig .tc := ⟨.hbm, 339, rfl⟩
abbrev main_cst_12 : Ref sig .tc := ⟨.hbm, 340, rfl⟩
abbrev main_v302 : Ref sig .tc := ⟨.hbm, 341, rfl⟩
abbrev main_v303 : Ref sig .tc := ⟨.hbm, 342, rfl⟩
abbrev main_cst_13 : Ref sig .tc := ⟨.hbm, 343, rfl⟩
abbrev main_v304 : Ref sig .tc := ⟨.hbm, 344, rfl⟩
abbrev main_v305 : Ref sig .tc := ⟨.hbm, 345, rfl⟩
abbrev main_v306 : Ref sig .tc := ⟨.hbm, 346, rfl⟩
abbrev main_v307 : Ref sig .tc := ⟨.hbm, 347, rfl⟩
abbrev main_v308 : Ref sig .tc := ⟨.hbm, 348, rfl⟩
abbrev main_v309 : Ref sig .tc := ⟨.hbm, 349, rfl⟩
abbrev main_v310 : Ref sig .tc := ⟨.hbm, 350, rfl⟩
abbrev main_v311 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_cst_14 : Ref sig .tc := ⟨.hbm, 356, rfl⟩
abbrev main_v316 : Ref sig .tc := ⟨.hbm, 357, rfl⟩
abbrev main_v317 : Ref sig .tc := ⟨.hbm, 358, rfl⟩
abbrev main_cst_15 : Ref sig .tc := ⟨.hbm, 359, rfl⟩
abbrev main_v318 : Ref sig .tc := ⟨.hbm, 360, rfl⟩
abbrev main_v319 : Ref sig .tc := ⟨.hbm, 361, rfl⟩
abbrev main_cst_16 : Ref sig .tc := ⟨.hbm, 362, rfl⟩
abbrev main_v320 : Ref sig .tc := ⟨.hbm, 363, rfl⟩
abbrev main_v321 : Ref sig .tc := ⟨.hbm, 364, rfl⟩
abbrev main_v322 : Ref sig .tc := ⟨.hbm, 365, rfl⟩
abbrev main_v323 : Ref sig .tc := ⟨.hbm, 366, rfl⟩
abbrev main_v324 : Ref sig .tc := ⟨.hbm, 367, rfl⟩
abbrev main_v325 : Ref sig .tc := ⟨.hbm, 368, rfl⟩
abbrev main_v326 : Ref sig .tc := ⟨.hbm, 369, rfl⟩
abbrev main_v327 : Ref sig .tc := ⟨.hbm, 370, rfl⟩
abbrev main_v328 : Ref sig .tc := ⟨.hbm, 371, rfl⟩
abbrev main_v329 : Ref sig .tc := ⟨.hbm, 372, rfl⟩

abbrev nD : Nat := 1
abbrev τ : Topo := Topo.v7x

variable {F : FTy → Type} [FloatOps F]
-- ==== Proof.MlpValue.lean ====
module

public import proofs.«01_k».proof.Proof.Gen.MlpIdeal.Frame
public import proofs.«01_k».proof.Proof.Gen.MlpRefIdeal.Run
public import Idealize.ShloMosaic.Lib.Pipeline.ValueKit
public import Idealize.ShloMosaic.Lib.Pointwise
public import Idealize.ShloMosaic.Lib.Claim

/-! The feed-forward block: the call's four column chunks of the hidden layer add up to the whole
    product, so the array it leaves is the reference's. -/

@[expose] public section

set_option maxRecDepth 16384

noncomputable section

open Idealize.ShloMosaic Idealize.ShloMosaic.TcCoe Idealize.SL.Sem
open Idealize.ShloMosaic.Pipeline (Dat)

namespace Cert.MlpRefIdeal.Value
open Cert.MlpRefIdeal Cert.MlpRefIdeal.Gen

/-- Root-mean-square normalisation of every row, with a gain: the reference's term. -/
def normed (X : FVec Ideal S16384x1024 .f32) (G : FVec Ideal S1x1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ G shapeCasts_S1x1024_S1024)))

/-- The hidden layer, cut off below at zero: the reference's term. -/
def relu (X : FVec Ideal S16384x1024 .f32) (G : FVec Ideal S1x1024 .f32) (W : FVec Ideal S1x1024x4096 .f32) :
    FVec Ideal S16384x4096 .f32 :=
  maximumf (Host.dotGeneral dot_S16384x1024_S1024x4096_S16384x4096_1_0_0_1_n_n none (normed X G)
    (shapeCast S1024x4096 W shapeCasts_S1x1024x4096_S1024x4096)) (broadcastInDim S16384x4096 ![] bcast_S_S16384x4096 (constant S_ .f32 0x00000000#32))

/-- The squared hidden layer times the second weight: the reference's term. -/
def down (X : FVec Ideal S16384x1024 .f32) (G : FVec Ideal S1x1024 .f32) (W : FVec Ideal S1x1024x4096 .f32)
    (D : FVec Ideal S1x4096x1024 .f32) : FVec Ideal S16384x1024 .f32 :=
  Host.dotGeneral dot_S16384x4096_S4096x1024_S16384x1024_1_0_0_1_n_n none (mulf (relu X G W) (relu X G W))
    (shapeCast S4096x1024 D shapeCasts_S1x4096x1024_S4096x1024)

/-- The block's result, with the residual: the reference's term. -/
def REF (X : FVec Ideal S16384x1024 .f32) (G : FVec Ideal S1x1024 .f32) (W : FVec Ideal S1x1024x4096 .f32)
    (D : FVec Ideal S1x4096x1024 .f32) (P : FVec Ideal S1x1024 .f32) : FVec Ideal S16384x1024 .f32 :=
  addf X (normed (down X G W D) P)

/-- A sum over the hidden layer is the sum of its four chunks' sums. -/
theorem sum_chunks (f : Fin 4096 → EReal) : ∑ k, f k
    = (((∑ k : Fin 1024, f ⟨0 + ↑k, by omega⟩) + ∑ k : Fin 1024, f ⟨1024 + ↑k, by omega⟩)
        + ∑ k : Fin 1024, f ⟨2048 + ↑k, by omega⟩) + ∑ k : Fin 1024, f ⟨3072 + ↑k, by omega⟩ := by
  rw [Fin.sum_univ_tiles 4 1024 rfl f, Fin.sum_univ_four]
  rfl

/-- The reference's composed term is the staged one. -/
theorem res_eq (m : (ℓ : Loc nD τ sig) → Buf (Elt Ideal) ℓ) (c : Dev nD) : res_out0 m c
    = REF (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := rfl

end Cert.MlpRefIdeal.Value

namespace Cert.MlpIdeal.Value
open Cert.MlpIdeal Cert.MlpIdeal.Gen
open Cert.MlpRefIdeal.Value (REF normed relu down sum_chunks)

variable (m : (ℓ : Loc nD τ sig) → Buf (Elt Ideal) ℓ)

/-- Block indices: the rows' windows move with the point, gains and weights stay. -/
theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![t.val, 0] :=
  (by decide +kernel : ∀ t : Fin grid0.N, _)

set_option maxHeartbeats 1600000 in
/-- The result array holds the reference's. -/
theorem final (c : Dev nD) : (dats m 0 c).arrAt 5 (cfgs 0).N
    = REF (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  refine (dats m 0 c).arrAt_eq_of_covers 5 _ (by decide +kernel) fun t _ y => ?_
  blk_simp; rw [after0_5]; frame_out
  pointwise [k0_pay1, k0_pay2, k0_pay3, k0_pay4, k0_pay5, REF, down, relu, normed, sum_chunks]
  blk_point [iblk, V, idx t]

end Cert.MlpIdeal.Value
-- ==== Proof.Scalars.lean ====
module

public import Idealize.ShloMosaic.Lib.Pointwise

/-! Extended-real arithmetic of one row: which values are real numbers, root-mean-square
    normalisation, and the two ways of writing a softmax-weighted sum. -/

@[expose] public section

set_option maxRecDepth 16384

noncomputable section

open Idealize.ShloMosaic

namespace Cert.Scalars

/-- The value is a real number (neither infinity). -/
def Fin' (x : EReal) : Prop := ∃ r : ℝ, x = (r : EReal)

theorem Fin'.mul {x y : EReal} (hx : Fin' x) (hy : Fin' y) : Fin' (x * y) := by
  obtain ⟨a, rfl⟩ := hx; obtain ⟨b, rfl⟩ := hy; exact ⟨a * b, by push_cast; rfl⟩

theorem Fin'.add {x y : EReal} (hx : Fin' x) (hy : Fin' y) : Fin' (x + y) := by
  obtain ⟨a, rfl⟩ := hx; obtain ⟨b, rfl⟩ := hy; exact ⟨a + b, by push_cast; rfl⟩

theorem Fin'.sum {n : ℕ} {f : Fin n → EReal} (h : ∀ k, Fin' (f k)) : Fin' (∑ k, f k) := by
  choose g hg using h
  refine ⟨∑ k, g k, ?_⟩
  simp only [hg]
  induction (Finset.univ : Finset (Fin n)) using Finset.induction_on with
  | empty => simp
  | insert a s ha ih => rw [Finset.sum_insert ha, Finset.sum_insert ha, EReal.coe_add, ih]

/-- An absolute value below plus infinity is that of a real number. -/
theorem fin_of_abs_lt {x : EReal} (h : max x (-x) < ⊤) : Fin' x := by
  induction x with
  | bot => simp at h
  | top => simp at h
  | coe r => exact ⟨r, rfl⟩

/-- A nonnegative real factor moves out of a sum. -/
theorem mul_sum_real {n : ℕ} {c : ℝ} (hc : 0 ≤ c) (f : Fin n → EReal) :
    (c : EReal) * ∑ k, f k = ∑ k, (c : EReal) * f k := by
  induction (Finset.univ : Finset (Fin n)) using Finset.induction_on with
  | empty => simp
  | insert a s ha ih =>
    rw [Finset.sum_insert ha, Finset.sum_insert ha, ← ih]
    exact EReal.left_distrib_of_nonneg_of_ne_top (by exact_mod_cast hc) (EReal.coe_ne_top _) _ _

/-- The constant under the root. -/
abbrev eps : EReal := Ideal.ofBits FTy.f32 0x358637BD#32
/-- The number of columns. -/
abbrev cols : EReal := Ideal.ofBits FTy.f32 0x44800000#32
/-- Minus infinity, as a maximum starts. -/
abbrev ninf : EReal := Ideal.ofBits FTy.f32 0xFF800000#32

theorem ninf_eq : ninf = ⊥ := by simp [Ideal.ofBits, Ideal.ieee]
theorem max_ninf (x : EReal) : max (Ideal.ofBits FTy.f32 0xFF800000#32) x = x := by
  rw [show Ideal.ofBits FTy.f32 0xFF800000#32 = ⊥ from ninf_eq, max_eq_right bot_le]
theorem cols_eq : cols = ((1024 : ℝ) : EReal) := by
  simp [Ideal.ofBits, Ideal.ieee, -EReal.coe_mul]; norm_num
theorem eps_pos : ∃ e : ℝ, 0 < e ∧ eps = (e : EReal) := by
  have h : eps = ((8796093 * 2 ^ (-43 : ℤ) : ℝ) : EReal) := by
    simp [Ideal.ofBits, Ideal.ieee, -EReal.coe_mul]
  exact ⟨_, by positivity, h⟩

/-- A row, normalised by its root mean square over `n`, times a gain. -/
def nrm {w : ℕ} (n : EReal) (x g : Fin w → EReal) (i : Fin w) : EReal :=
  x i * Ideal.rsqrt (Ideal.div (∑ k, x k * x k) n + eps) * g i

/-- The mean of a row's squares plus the constant is plus infinity or a positive real number. -/
theorem ms_cases {w : ℕ} (x : Fin w → EReal) :
    (∃ r : ℝ, 0 < r ∧ Ideal.div (∑ k, x k * x k) cols + eps = (r : EReal))
      ∧ (∀ k, Fin' (x k)) ∨ Ideal.div (∑ k, x k * x k) cols + eps = ⊤ := by
  obtain ⟨e, he, hee⟩ := eps_pos
  rw [hee, cols_eq, Ideal.div_coe (by norm_num)]
  by_cases h : ∀ k, Fin' (x k)
  · left
    refine ⟨?_, h⟩
    choose g hg using h
    have : ∑ k, x k * x k = ((∑ k, g k * g k : ℝ) : EReal) := by
      simp only [hg]
      induction (Finset.univ : Finset (Fin w)) using Finset.induction_on with
      | empty => simp
      | insert a s ha ih => rw [Finset.sum_insert ha, Finset.sum_insert ha, EReal.coe_add, ih, EReal.coe_mul]
    refine ⟨(∑ k, g k * g k) * (1 / 1024) + e, ?_, by rw [this]; push_cast; rfl⟩
    have : 0 ≤ ∑ k, g k * g k := Finset.sum_nonneg fun k _ => mul_self_nonneg _
    positivity
  · right
    push Not at h
    obtain ⟨k, hk⟩ := h
    have hsq : ∀ y : EReal, 0 ≤ y * y := fun y => by
      induction y with
      | bot => simp
      | top => simp
      | coe r => exact_mod_cast mul_self_nonneg r
    have htop : x k * x k = ⊤ := by
      generalize x k = y at hk
      induction y with
      | bot => simp
      | top => simp
      | coe r => exact absurd ⟨r, rfl⟩ hk
    have : ∑ k, x k * x k = ⊤ := by
      refine top_le_iff.1 ?_
      rw [← htop]
      exact Finset.single_le_sum (f := fun k => x k * x k) (fun i _ => hsq _) (Finset.mem_univ k)
    rw [this, EReal.top_mul_coe_of_pos (by norm_num)]
    rfl

/-- A normalised row is real wherever the gain is, whatever the row. -/
theorem fin_nrm {w : ℕ} {x g : Fin w → EReal} {i : Fin w} (hg : Fin' (g i)) : Fin' (nrm cols x g i) := by
  rcases ms_cases x with ⟨⟨r, hr, e⟩, hx⟩ | e
  · refine ((hx i).mul ?_).mul hg
    rw [e]
    refine ⟨(Real.sqrt r)⁻¹, ?_⟩
    show (if r < 0 then ⊥ else if r = 0 then ⊤ else (((Real.sqrt r)⁻¹ : ℝ) : EReal)) = _
    rw [if_neg (not_lt.2 hr.le), if_neg hr.ne']
  · rw [nrm, e, show Ideal.rsqrt ⊤ = 0 from rfl, mul_zero, zero_mul]
    exact ⟨0, rfl⟩

/-- The largest of a row's entries. -/
def rmax {n : ℕ} (s : Fin n → EReal) : EReal := Finset.univ.fold max ninf s

/-- The kernel's weighted sum: the exponentials' sum divided out at the end. -/
def softK {n : ℕ} (s v : Fin n → EReal) : EReal :=
  Ideal.div (∑ k, Ideal.exp (s k - rmax s) * v k) (∑ k, Ideal.exp (s k - rmax s))

/-- The reference's weighted sum: every weight divided first. -/
def softR {n : ℕ} (s v : Fin n → EReal) : EReal :=
  ∑ k, Ideal.div (Ideal.exp (s k - rmax s)) (∑ k, Ideal.exp (s k - rmax s)) * v k

/-- A row whose entries are below plus infinity, one of them real, has a real maximum. -/
theorem fin_rmax {n : ℕ} {s : Fin n → EReal} (h : ∀ k, s k ≠ ⊤) {k₀ : Fin n} (h₀ : s k₀ ≠ ⊥) : Fin' (rmax s) := by
  have h1 : rmax s ≠ ⊤ := by
    rw [rmax, ninf_eq]
    refine ne_of_lt (Finset.fold_max_lt _ |>.2 ⟨bot_lt_top, fun k _ => lt_top_iff_ne_top.2 (h k)⟩)
  have h2 : rmax s ≠ ⊥ := by
    have : s k₀ ≤ rmax s := (Finset.le_fold_max _).2 (Or.inr ⟨k₀, Finset.mem_univ _, le_rfl⟩)
    exact fun e => h₀ (le_bot_iff.1 (e ▸ this))
  generalize rmax s = y at h1 h2
  induction y with
  | bot => exact absurd rfl h2
  | top => exact absurd rfl h1
  | coe r => exact ⟨r, rfl⟩

/-- The exponential of such an entry less the maximum is a nonnegative real number, positive at a real entry. -/
theorem exp_sub {x : EReal} (hx : x ≠ ⊤) (M : ℝ) :
    ∃ e : ℝ, 0 ≤ e ∧ (x ≠ ⊥ → 0 < e) ∧ Ideal.exp (x - (M : EReal)) = (e : EReal) := by
  induction x with
  | bot => exact ⟨0, le_rfl, fun h => absurd rfl h, by rw [EReal.bot_sub]; rfl⟩
  | top => exact absurd rfl hx
  | coe r => exact ⟨Real.exp (r - M), (Real.exp_pos _).le, fun _ => Real.exp_pos _, by rw [← EReal.coe_sub]; rfl⟩

/-- The two ways of writing the weighted sum agree, whatever is summed, when the scores are below plus
    infinity and one of them is real. -/
theorem soft_eq {n : ℕ} {s v : Fin n → EReal} (h : ∀ k, s k ≠ ⊤) {k₀ : Fin n} (h₀ : s k₀ ≠ ⊥) :
    softK s v = softR s v := by
  obtain ⟨M, hM⟩ := fin_rmax h h₀
  have he := fun k => exp_sub (h k) M
  choose e he0 hepos hee using he
  rw [softK, softR, hM]
  simp only [hee]
  have hsum : ∑ k, (e k : EReal) = ((∑ k, e k : ℝ) : EReal) := by
    induction (Finset.univ : Finset (Fin n)) using Finset.induction_on with
    | empty => simp
    | insert a s ha ih => rw [Finset.sum_insert ha, Finset.sum_insert ha, EReal.coe_add, ih]
  have hpos : 0 < ∑ k, e k :=
    Finset.sum_pos' (fun k _ => he0 k) ⟨k₀, Finset.mem_univ _, hepos k₀ h₀⟩
  rw [hsum]
  simp only [Ideal.div_coe hpos.ne']
  rw [mul_comm, mul_sum_real (by positivity)]
  refine Finset.sum_congr rfl fun k _ => ?_
  rw [← mul_assoc, mul_comm ((1 / _ : ℝ) : EReal)]

end Cert.Scalars
-- ==== Proof.CrossBody.lean ====
module

public import proofs.«01_k».proof.Proof.Gen.CrossIdeal.Skeleton
public import proofs.«01_k».proof.Proof.Scalars

/-! The memory attention's body, read at a row and a column of a block of rows. -/

@[expose] public section

set_option maxRecDepth 16384

noncomputable section

open Idealize.ShloMosaic Idealize.ShloMosaic.TcCoe Idealize.SL.Sem
open Idealize.ShloMosaic.Pipeline (Dat)

namespace Cert.Scalars

/-- A row times a matrix. -/
def proj {k n : ℕ} (x : Fin k → EReal) (w : Fin k → Fin n → EReal) (j : Fin n) : EReal := ∑ i, x i * w i j

/-- The score of one memory token under the head that column `i` belongs to. -/
def memScore (q : Fin 1024 → EReal) (k : Fin 256 → Fin 1024 → EReal) (i : Fin 1024) (t : Fin 256) : EReal :=
  ∑ d : Fin 256, q ⟨i.val / 256 * 256 + d.val, by omega⟩ * k t ⟨i.val / 256 * 256 + d.val, by omega⟩

end Cert.Scalars

namespace Cert.CrossIdeal.Value
open Cert.CrossIdeal Cert.CrossIdeal.Gen Cert.Scalars

/-- The scale of the scores. -/
abbrev scale : EReal := Ideal.ofBits FTy.f32 0x3D800000#32

/-- The queries of a block's row: the normalised row times the weight, scaled. -/
theorem q_at (v0 : FVec Ideal S512x1024 .f32) (v1 : FVec Ideal S1x1024 .f32) (v16 : FVec Ideal S1024x1024 .bf16) (r : Fin 512) (j : Fin 1024) :
    k0_pay2 (F := Ideal) v0 v1 v16 (ix2 r j)
      = proj (nrm cols (fun k => v0 (ix2 r k)) (fun k => v1 (ix2 0 k))) (fun k j => v16 (ix2 k j)) j * scale := by
  pointwise [k0_pay2]
  rfl

/-- The four heads side by side, as the body joins them. -/
def heads (v0 : FVec Ideal S512x1024 .f32) (v1 : FVec Ideal S1x1024 .f32) (v16 : FVec Ideal S1024x1024 .bf16)
    (v22 v25 : FVec Ideal S1x256x1024 .f32) : FVec Ideal S512x1024 .bf16 :=
  have q := k0_pay2 v0 v1 v16
  have k := k0_pay3 v22
  have v := k0_pay4 v25
  concatenate S512x1024 1 [⟨S512x256, k0_pay8 (k0_pay5 v25) (k0_pay6 v0 v1 v16 v22) (k0_pay7 v0 v1 v16 v22)⟩,
    ⟨S512x256, k0_pay9 q k v⟩, ⟨S512x256, k0_pay10 q k v⟩,
    ⟨S512x256, truncf .bf16 (divf (matmul dot_S512x256_S256x256_S512x256_1_0_0_1_n_n none (truncf .bf16 (k0_pay12 q k) bitsLt_bf16_f32) (k0_pay11 v) (constant S512x256 .f32 0x00000000#32)) (broadcastTo S512x256 (k0_pay13 q k) broadcasts_S512x1_S512x256)) bitsLt_bf16_f32⟩]
    concatenates_S512x256_S512x256_S512x256_S512x256_S512x1024_d1

/-- The joined heads at a row and a column: the softmax-weighted values of the column's head. -/
theorem heads_at (v0 : FVec Ideal S512x1024 .f32) (v1 : FVec Ideal S1x1024 .f32) (v16 : FVec Ideal S1024x1024 .bf16)
    (v22 v25 : FVec Ideal S1x256x1024 .f32) (r : Fin 512) (i : Fin 1024) :
    heads v0 v1 v16 v22 v25 (ix2 r i)
      = softK (memScore (fun j => k0_pay2 (F := Ideal) v0 v1 v16 (ix2 r j)) (fun t j => v22 (ix3 0 t j)) i)
          (fun t => v25 (ix3 0 t i)) := by
  have hi := i.isLt
  by_cases h0 : i.val < 256
  · have k : i.val / 256 * 256 = 0 := by omega
    pointwise [heads, k0_pay8, k0_pay5, k0_pay6, k0_pay7, k0_pay3, k0_pay4]
    rw [dif_pos h0]
    unfold softK rmax memScore
    simp only [k, Nat.zero_add]
  · by_cases h1 : i.val - 256 < 256
    · have k : i.val / 256 * 256 = 256 := by omega
      have e : (⟨256 + (i.val - 256), by omega⟩ : Fin 1024) = i := Fin.ext (by simp; omega)
      pointwise [heads, k0_pay9, k0_pay3, k0_pay4]
      rw [dif_neg h0, dif_pos h1]
      unfold softK rmax memScore
      simp only [k, e]
    · by_cases h2 : i.val - 256 - 256 < 256
      · have k : i.val / 256 * 256 = 512 := by omega
        have e : (⟨512 + (i.val - 256 - 256), by omega⟩ : Fin 1024) = i := Fin.ext (by simp; omega)
        pointwise [heads, k0_pay10, k0_pay3, k0_pay4]
        rw [dif_neg h0, dif_neg h1, dif_pos h2]
        unfold softK rmax memScore
        simp only [k, e]
      · have k : i.val / 256 * 256 = 768 := by omega
        have e : (⟨768 + (i.val - 256 - 256 - 256), by omega⟩ : Fin 1024) = i := Fin.ext (by simp; omega)
        pointwise [heads, k0_pay11, k0_pay12, k0_pay13, k0_pay3, k0_pay4]
        rw [dif_neg h0, dif_neg h1, dif_neg h2]
        unfold softK rmax memScore
        simp only [k, e]

/-- What follows the heads: their merge, its normalisation and the row itself added. -/
def tail (v0 : FVec Ideal S512x1024 .f32) (a : FVec Ideal S512x1024 .bf16) (w : FVec Ideal S1024x1024 .bf16) (p : FVec Ideal S1x1024 .f32) :
    FVec Ideal S512x1024 .f32 :=
  have v95 := matmul dot_S512x1024_S1024x1024_S512x1024_1_0_0_1_n_n none a (shapeCast S1024x1024 w shapeCasts_S1024x1024_S1024x1024) (constant S512x1024 .f32 0x00000000#32)
  have v100 := shapeCast S512x1 (multiReduction .add [1] S512 (mulf v95 v95) 0x00000000#32 reduces_S512x1024_S512 (.inl rfl) rfl) shapeCasts_S512_S512x1
  have v105 := rsqrt (addf (divf v100 (broadcast S512x1 (Scalar.ofBits .f32 0x44800000#32))) (broadcast S512x1 (Scalar.ofBits .f32 0x358637BD#32)))
  addf v0 (mulf (mulf v95 (broadcastTo S512x1024 v105 broadcasts_S512x1_S512x1024))
    (broadcastTo S512x1024 (shapeCast S1x1024 p shapeCasts_S1x1024_S1x1024) broadcasts_S1x1024_S512x1024))

/-- It at a row and a column. -/
theorem tail_at (v0 : FVec Ideal S512x1024 .f32) (a : FVec Ideal S512x1024 .bf16) (w : FVec Ideal S1024x1024 .bf16) (p : FVec Ideal S1x1024 .f32)
    (r : Fin 512) (j : Fin 1024) :
    tail v0 a w p (ix2 r j)
      = v0 (ix2 r j) + nrm cols (proj (fun i => a (ix2 r i)) (fun i j => w (ix2 i j))) (fun k => p (ix2 0 k)) j := by
  pointwise [tail]
  rfl

/-- The body's result is the heads' tail. -/
theorem pay_eq (v0 : FVec Ideal S512x1024 .f32) (v1 : FVec Ideal S1x1024 .f32) (v16 : FVec Ideal S1024x1024 .bf16)
    (v22 v25 : FVec Ideal S1x256x1024 .f32) (w : FVec Ideal S1024x1024 .bf16) (p : FVec Ideal S1x1024 .f32) :
    k0_pay1 (F := Ideal) v0 (k0_pay8 (k0_pay5 v25) (k0_pay6 v0 v1 v16 v22) (k0_pay7 v0 v1 v16 v22))
      (k0_pay9 (k0_pay2 v0 v1 v16) (k0_pay3 v22) (k0_pay4 v25)) (k0_pay10 (k0_pay2 v0 v1 v16) (k0_pay3 v22) (k0_pay4 v25))
      (k0_pay11 (k0_pay4 v25)) (k0_pay12 (k0_pay2 v0 v1 v16) (k0_pay3 v22)) (k0_pay13 (k0_pay2 v0 v1 v16) (k0_pay3 v22)) w p
      = tail v0 (heads v0 v1 v16 v22 v25) w p := rfl

end Cert.CrossIdeal.Value
-- ==== Proof.CrossRef.lean ====
module

public import proofs.«01_k».proof.Proof.Gen.CrossRefIdeal.Run
public import proofs.«01_k».proof.Proof.CrossBody

/-! The memory attention's reference, in stages, each read at a row and a column. -/

@[expose] public section

set_option maxRecDepth 16384

noncomputable section

open Idealize.ShloMosaic Idealize.ShloMosaic.TcCoe Idealize.SL.Sem
open Idealize.ShloMosaic.Pipeline (Dat)

namespace Cert.CrossRefIdeal.Value
open Cert.CrossRefIdeal Cert.CrossRefIdeal.Gen Cert.Scalars

/-- The array under a leading axis of one. -/
def lift (x : FVec Ideal S16384x1024 .f32) : FVec Ideal S1x16384x1024 .f32 :=
  broadcastInDim S1x16384x1024 ![1, 2] bcast_S16384x1024_S1x16384x1024_1_2 x

/-- Every row over its root mean square, times a gain. -/
def rms (y : FVec Ideal S1x16384x1024 .f32) (g : FVec Ideal S1x1024 .f32) : FVec Ideal S1x16384x1024 .f32 :=
  mulf (mulf (y) (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf (y) (y)) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 (shapeCast _ g shapeCasts_S1x1024_S1024)))

theorem rms_at (y : FVec Ideal S1x16384x1024 .f32) (g : FVec Ideal S1x1024 .f32) (r : Fin 16384) (j : Fin 1024) :
    rms y g (ix3 0 r j) = nrm cols (fun k => y (ix3 0 r k)) (fun k => g (ix2 0 k)) j := by
  pointwise [rms]
  rfl

/-- The scores, scaled. -/
def scores (x : FVec Ideal S16384x1024 .f32) (k : FVec Ideal S1x256x1024 .f32) (g : FVec Ideal S1x1024 .f32) (wq : FVec Ideal S1x1024x1024 .f32) : FVec Ideal S1x4x16384x256 .f32 :=
  mulf (Host.dotGeneral dot_S1x16384x4x256_S1x256x4x256_S1x4x16384x256_3_3_1_1_02_02 none (shapeCast _ (Host.dotGeneral dot_S1x16384x1024_S1024x1024_S1x16384x1024_2_0_01_1_n_n none (rms (lift x) g) (shapeCast _ wq shapeCasts_S1x1024x1024_S1024x1024)) shapeCasts_S1x16384x1024_S1x16384x4x256) (shapeCast _ k shapeCasts_S1x256x1024_S1x256x4x256)) (broadcastInDim S1x4x16384x256 ![] bcast_S_S1x4x16384x256 (constant S_ .f32 0x3D800000#32))

/-- A score: the head's sum of products of query and key, times the scale. -/
theorem scores_at (x : FVec Ideal S16384x1024 .f32) (k : FVec Ideal S1x256x1024 .f32) (g : FVec Ideal S1x1024 .f32) (wq : FVec Ideal S1x1024x1024 .f32) (h : Fin 4) (r : Fin 16384) (t : Fin 256) :
    scores x k g wq (ix4 0 h r t)
      = (∑ d : Fin 256, proj (nrm cols (fun k => x (ix2 r k)) (fun k => g (ix2 0 k))) (fun a b => wq (ix3 0 a b)) ⟨h.val * 256 + d.val, by omega⟩
          * k (ix3 0 t ⟨h.val * 256 + d.val, by omega⟩)) * Ideal.ofBits FTy.f32 0x3D800000#32 := by
  pointwise [scores, rms, lift]
  rfl

/-- Every row's largest entry. -/
def most (s : FVec Ideal S1x4x16384x256 .f32) : FVec Ideal S1x4x16384 .f32 :=
  Host.reduce FloatOps.maximumf s (constant S_ .f32 0xFF800000#32) reducesTo_S1x4x16384x256_S1x4x16384_d3 h_S_

theorem most_at (s : FVec Ideal S1x4x16384x256 .f32) (h : Fin 4) (r : Fin 16384) :
    most s (ix3 0 h r) = rmax (fun t => s (ix4 0 h r t)) := by
  pointwise [most]
  unfold rmax
  with_reducible rfl

/-- An entry for each row, spread over the row. -/
def spread (s : FVec Ideal S1x4x16384 .f32) : FVec Ideal S1x4x16384x256 .f32 :=
  broadcastInDim S1x4x16384x256 ![0, 1, 2, 3] bcast_S1x4x16384x1_S1x4x16384x256_0_1_2_3 (broadcastInDim S1x4x16384x1 ![0, 1, 2] bcast_S1x4x16384_S1x4x16384x1_0_1_2 (maximumf (broadcastInDim S1x4x16384 ![] bcast_S_S1x4x16384 (constant S_ .f32 0xFF800000#32)) s))

theorem spread_at (s : FVec Ideal S1x4x16384 .f32) (h : Fin 4) (r : Fin 16384) (t : Fin 256) :
    spread s (ix4 0 h r t) = s (ix3 0 h r) := by
  pointwise [spread]
  rw [max_ninf]

/-- The exponentials of the scores less their row's largest. -/
def expo (s : FVec Ideal S1x4x16384x256 .f32) : FVec Ideal S1x4x16384x256 .f32 := Host.exp (subf s (spread (most s)))

theorem expo_at (s : FVec Ideal S1x4x16384x256 .f32) (h : Fin 4) (r : Fin 16384) (t : Fin 256) :
    expo s (ix4 0 h r t) = Ideal.exp (s (ix4 0 h r t) - rmax (fun t => s (ix4 0 h r t))) := by
  rw [← most_at s h r, ← spread_at (most s) h r t]
  rfl

/-- The attention of scores and values, its heads side by side. -/
def att (s : FVec Ideal S1x4x16384x256 .f32) (v : FVec Ideal S1x256x1024 .f32) : FVec Ideal S1x16384x1024 .f32 :=
  shapeCast _ (transpose S1x16384x4x256 [0, 3, 1, 2] (Host.dotGeneral dot_S1x256x4x256_S1x4x16384x256_S1x4x256x16384_1_3_3_2_02_01 none (shapeCast _ v shapeCasts_S1x256x1024_S1x256x4x256) (Host.divf (expo s) (broadcastInDim S1x4x16384x256 ![0, 1, 2, 3] bcast_S1x4x16384x1_S1x4x16384x256_0_1_2_3 (broadcastInDim S1x4x16384x1 ![0, 1, 2] bcast_S1x4x16384_S1x4x16384x1_0_1_2 (Host.reduceAdd (expo s) (constant S_ .f32 0x00000000#32) reducesTo_S1x4x16384x256_S1x4x16384_d3 h_S_))))) transposes_S1x4x256x16384_S1x16384x4x256_0_3_1_2) shapeCasts_S1x16384x4x256_S1x16384x1024

theorem att_at (s : FVec Ideal S1x4x16384x256 .f32) (v : FVec Ideal S1x256x1024 .f32) (r : Fin 16384) (i : Fin 1024) :
    att s v (ix3 0 r i)
      = softR (fun t => s (ix4 0 ⟨i.val / 256, by omega⟩ r t)) (fun t => v (ix3 0 t i)) := by
  pointwise [att]
  simp only [expo_at]
  unfold softR
  exact Finset.sum_congr rfl fun t _ => mul_comm (v (ix3 0 t i)) _

/-- The merge of the heads. -/
def merge (x : FVec Ideal S16384x1024 .f32) (k v : FVec Ideal S1x256x1024 .f32) (g : FVec Ideal S1x1024 .f32) (wq : FVec Ideal S1x1024x1024 .f32) (wo : FVec Ideal S1x1024x1024 .f32) : FVec Ideal S1x16384x1024 .f32 :=
  Host.dotGeneral dot_S1x16384x1024_S1024x1024_S1x16384x1024_2_0_01_1_n_n none (att (scores x k g wq) v) (shapeCast _ wo shapeCasts_S1x1024x1024_S1024x1024)

/-- The whole of the reference. -/
def REF (x : FVec Ideal S16384x1024 .f32) (k v : FVec Ideal S1x256x1024 .f32) (g : FVec Ideal S1x1024 .f32) (wq : FVec Ideal S1x1024x1024 .f32) (wo : FVec Ideal S1x1024x1024 .f32) (p : FVec Ideal S1x1024 .f32) : FVec Ideal S16384x1024 .f32 :=
  shapeCast _ (addf (lift x) (rms (merge x k v g wq wo) p)) shapeCasts_S1x16384x1024_S16384x1024

theorem REF_at (x : FVec Ideal S16384x1024 .f32) (k v : FVec Ideal S1x256x1024 .f32) (g : FVec Ideal S1x1024 .f32) (wq : FVec Ideal S1x1024x1024 .f32) (wo : FVec Ideal S1x1024x1024 .f32) (p : FVec Ideal S1x1024 .f32) (r : Fin 16384) (j : Fin 1024) :
    REF x k v g wq wo p (ix2 r j)
      = x (ix2 r j) + nrm cols (proj (fun i => att (scores x k g wq) v (ix3 0 r i)) (fun a b => wo (ix3 0 a b))) (fun k => p (ix2 0 k)) j := by
  pointwise [REF, rms, merge, lift]
  rfl

/-- The reference's result is `REF` of its arguments. -/
theorem res_eq (m : (ℓ : Loc nD τ sig) → Buf (Elt Ideal) ℓ) (c : Dev nD) :
    res_out0 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

end Cert.CrossRefIdeal.Value
-- ==== Proof.CrossValue.lean ====
module

public import proofs.«01_k».proof.Proof.Gen.CrossIdeal.Frame
public import proofs.«01_k».proof.Proof.CrossRef
public import proofs.«01_k».proof.Pre_mem_scores_finite
public import Idealize.ShloMosaic.Lib.Pipeline.ValueKit
public import Idealize.ShloMosaic.Lib.ReduceAll
public import Idealize.ShloMosaic.Lib.Claim

/-! The memory attention: with finite keys, gain and query weight, the call's array is the reference's. -/

@[expose] public section

set_option maxRecDepth 16384

noncomputable section

open Idealize.ShloMosaic Idealize.ShloMosaic.TcCoe Idealize.SL.Sem
open Idealize.ShloMosaic.Pipeline (Dat)

namespace Cert.CrossIdeal.Value
open Cert.CrossIdeal Cert.CrossIdeal.Gen Cert.Scalars

/-- One row of the result, from the row, the weights and the memory. -/
def row (x g : Fin 1024 → EReal) (wq : Fin 1024 → Fin 1024 → EReal) (k v : Fin 256 → Fin 1024 → EReal)
    (wo : Fin 1024 → Fin 1024 → EReal) (p : Fin 1024 → EReal) (j : Fin 1024) : EReal :=
  x j + nrm cols (proj (fun i => softK (memScore (fun j => proj (nrm cols x g) wq j * scale) k i) (fun t => v t i)) wo) p j

theorem scale_real : ∃ c : ℝ, 0 ≤ c ∧ scale = (c : EReal) := by
  have h : scale = ((1 / 16 : ℝ) : EReal) := by
    simp [Ideal.ofBits, Ideal.ieee, -EReal.coe_mul]
    norm_num
  exact ⟨_, by positivity, h⟩

/-- The scale moved from the scores to the queries. -/
theorem score_eq (q : Fin 1024 → EReal) (k : Fin 256 → Fin 1024 → EReal) (i : Fin 1024) (t : Fin 256) :
    memScore q k i t * scale = memScore (fun j => q j * scale) k i t := by
  obtain ⟨c, hc, e⟩ := scale_real
  unfold memScore
  rw [e, mul_comm, mul_sum_real hc]
  refine Finset.sum_congr rfl fun d _ => ?_
  rw [← mul_assoc, mul_comm (c : EReal)]

/-- The body's result at a row and a column is that row's. -/
theorem body_row (v0 : FVec Ideal S512x1024 .f32) (v1 : FVec Ideal S1x1024 .f32) (v16 : FVec Ideal S1024x1024 .bf16)
    (v22 v25 : FVec Ideal S1x256x1024 .f32) (w : FVec Ideal S1024x1024 .bf16) (p : FVec Ideal S1x1024 .f32) (r : Fin 512) (j : Fin 1024) :
    tail v0 (heads v0 v1 v16 v22 v25) w p (ix2 r j)
      = row (fun k => v0 (ix2 r k)) (fun k => v1 (ix2 0 k)) (fun a b => v16 (ix2 a b)) (fun t j => v22 (ix3 0 t j))
          (fun t j => v25 (ix3 0 t j)) (fun a b => w (ix2 a b)) (fun k => p (ix2 0 k)) j := by
  rw [tail_at]
  simp only [heads_at, q_at]
  rfl

/-- The reference's result at a row and a column is that row's, when keys, gain and query weight are real. -/
theorem ref_row (x : FVec Ideal CrossRefIdeal.S16384x1024 .f32) (k v : FVec Ideal CrossRefIdeal.S1x256x1024 .f32) (g : FVec Ideal CrossRefIdeal.S1x1024 .f32)
    (wq wo : FVec Ideal CrossRefIdeal.S1x1024x1024 .f32) (p : FVec Ideal CrossRefIdeal.S1x1024 .f32)
    (hk : ∀ t j, Fin' (k (ix3 0 t j))) (hg : ∀ j, Fin' (g (ix2 0 j))) (hw : ∀ a b, Fin' (wq (ix3 0 a b))) (r : Fin 16384) (j : Fin 1024) :
    CrossRefIdeal.Value.REF x k v g wq wo p (ix2 r j)
      = row (fun k => x (ix2 r k)) (fun k => g (ix2 0 k)) (fun a b => wq (ix3 0 a b)) (fun t j => k (ix3 0 t j))
          (fun t j => v (ix3 0 t j)) (fun a b => wo (ix3 0 a b)) (fun k => p (ix2 0 k)) j := by
  have hs : ∀ i t, CrossRefIdeal.Value.scores x k g wq (ix4 0 ⟨i.val / 256, by omega⟩ r t)
      = memScore (fun j => proj (nrm cols (fun k => x (ix2 r k)) (fun k => g (ix2 0 k))) (fun a b => wq (ix3 0 a b)) j * scale) (fun t j => k (ix3 0 t j)) i t := by
    intro i t
    rw [← score_eq, CrossRefIdeal.Value.scores_at]
    rfl
  have hf : ∀ i t, Fin' (memScore (fun j => proj (nrm cols (fun k => x (ix2 r k)) (fun k => g (ix2 0 k))) (fun a b => wq (ix3 0 a b)) j * scale) (fun t j => k (ix3 0 t j)) i t) := by
    intro i t
    obtain ⟨c, -, e⟩ := scale_real
    exact Fin'.sum fun d => ((Fin'.sum fun a => (fin_nrm (hg _)).mul (hw _ _)).mul ⟨c, e⟩).mul (hk _ _)
  rw [CrossRefIdeal.Value.REF_at]
  unfold row
  congr 2
  refine congrArg (fun f => proj f (fun a b => wo (ix3 0 a b))) (funext fun i => ?_)
  rw [CrossRefIdeal.Value.att_at]
  simp only [hs]
  refine (soft_eq (fun t => ?_) (k₀ := 0) ?_).symm
  · obtain ⟨a, e⟩ := hf i t
    rw [e]; exact EReal.coe_ne_top a
  · obtain ⟨a, e⟩ := hf i 0
    rw [e]; exact EReal.coe_ne_bot a

/-- The offsets of every window's block. -/
theorem idx : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![0, 0] ∧ win0_6.index t = ![0, 0]
    ∧ win0_7.index t = ![t.val, 0] :=
  (by decide +kernel : ∀ t : Fin grid0.N, _)

variable (m : (ℓ : Loc nD τ sig) → Buf (Elt Ideal) ℓ) (c : Dev nD)

abbrev xArr : FVec Ideal S16384x1024 .f32 := m ((c.tc : Thread nD τ).loc main_arg0)
abbrev kArr : FVec Ideal S1x256x1024 .f32 := m ((c.tc : Thread nD τ).loc main_arg1)
abbrev vArr : FVec Ideal S1x256x1024 .f32 := m ((c.tc : Thread nD τ).loc main_arg2)
abbrev gArr : FVec Ideal S1x1024 .f32 := m ((c.tc : Thread nD τ).loc main_arg3)
abbrev wqArr : FVec Ideal S1x1024x1024 .f32 := m ((c.tc : Thread nD τ).loc main_arg4)
abbrev woArr : FVec Ideal S1x1024x1024 .f32 := m ((c.tc : Thread nD τ).loc main_arg5)
abbrev pArr : FVec Ideal S1x1024 .f32 := m ((c.tc : Thread nD τ).loc main_arg6)

/-- The array the call leaves is the reference's, when keys, gain and query weight are real. -/
theorem final (hk : ∀ t j, Fin' (kArr m c (ix3 0 t j))) (hg : ∀ j, Fin' (gArr m c (ix2 0 j))) (hw : ∀ a b, Fin' (wqArr m c (ix3 0 a b))) :
    (dats m 0 c).arrAt 7 (cfgs 0).N
      = CrossRefIdeal.Value.REF (xArr m c) (kArr m c) (vArr m c) (gArr m c) (wqArr m c) (woArr m c) (pArr m c) := by
  refine (dats m 0 c).arrAt_eq_of_covers 7 _ (by decide +kernel) fun t _ y => ?_
  blk_simp
  rw [after0_7]
  unfold out0_7 k0_pay14 k0_pay15 k0_pay16
  frame_out
  obtain ⟨r, j, rfl⟩ : ∃ (r : Fin 512) (j : Fin 1024), y = ix2 r j := ⟨y 0, y 1, eq_ix2 y⟩
  have ht : t.val < 32 := t.isLt
  have e : (((View.whole main_v8).slice (win0_7.rect t)).emb (ix2 r j)) = (ix2 (⟨t.val * 512 + r.val, by omega⟩ : Fin 16384) j) := by
    blk_ext [idx t]
  rw [e]
  refine Eq.trans ?_ (ref_row (xArr m c) (kArr m c) (vArr m c) (gArr m c) (wqArr m c) (woArr m c) (pArr m c) hk hg hw _ j).symm
  refine (congrFun (pay_eq (iblk m c 0 t) (iblk m c 1 t) (iblk m c 2 t) (iblk m c 3 t) (iblk m c 4 t) (iblk m c 5 t) (iblk m c 6 t)) _).trans ?_
  rw [body_row]
  congr 1
  · exact funext fun _ => by blk_point [iblk, V, idx t]
  · exact funext fun _ => by blk_point [iblk, V, idx t]
  · exact funext fun _ => funext fun _ => by blk_point [iblk, idx t]
  · exact funext fun _ => funext fun _ => by blk_point [iblk, V, idx t]
  · exact funext fun _ => funext fun _ => by blk_point [iblk, V, idx t]
  · exact funext fun _ => funext fun _ => by blk_point [iblk, idx t]
  · exact funext fun _ => by blk_point [iblk, V, idx t]

end Cert.CrossIdeal.Value
-- ==== Proof.InProjValue.lean ====
module

public import proofs.«01_k».proof.Proof.Gen.InProjIdeal.Frame
public import proofs.«01_k».proof.Proof.Gen.InProjRefIdeal.Run
public import Idealize.ShloMosaic.Lib.Pipeline.ValueKit
public import Idealize.ShloMosaic.Lib.Pointwise
public import Idealize.ShloMosaic.Lib.Claim

/-! The input projection: the queries, keys, values and gated channels the call leaves are the
    column groups of the normalised rows times the weight, as the reference computes them. -/

@[expose] public section

set_option maxRecDepth 16384

noncomputable section

open Idealize.ShloMosaic Idealize.ShloMosaic.TcCoe Idealize.SL.Sem
open Idealize.ShloMosaic.Pipeline (Dat)

namespace Cert.InProjRefIdeal.Value
open Cert.InProjRefIdeal Cert.InProjRefIdeal.Gen

/-- All columns of the projection of the normalised rows: the reference's term. -/
def proj (X : FVec Ideal S1x16384x1024 .f32) (G : FVec Ideal S1x1024 .f32) (W : FVec Ideal S1x1024x2560 .f32) : FVec Ideal S16384x2560 .f32 :=
  Host.dotGeneral dot_S16384x1024_S1024x2560_S16384x2560_1_0_0_1_n_n none
    (mulf (mulf (shapeCast _ X shapeCasts_S1x16384x1024_S16384x1024) (broadcastInDim S16384x1024 ![0, 1] bcast_S16384x1_S16384x1024_0_1 (Host.rsqrt (addf (Host.divf (broadcastInDim S16384x1 ![0] bcast_S16384_S16384x1_0 (Host.reduceAdd (mulf (shapeCast _ X shapeCasts_S1x16384x1024_S16384x1024) (shapeCast _ X shapeCasts_S1x16384x1024_S16384x1024)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ G shapeCasts_S1x1024_S1024))))
    (shapeCast S1024x2560 W shapeCasts_S1x1024x2560_S1024x2560)

/-- The scaled queries: the reference's term. -/
def refQ (X : FVec Ideal S1x16384x1024 .f32) (G : FVec Ideal S1x1024 .f32) (W : FVec Ideal S1x1024x2560 .f32) : FVec Ideal S16384x512 .bf16 :=
  truncf .bf16 (mulf (extractStridedSlice S16384x512 ![0, 0] (proj X G W) slices_S16384x2560_S16384x512_0_0) (broadcastInDim S16384x512 ![] bcast_S_S16384x512 (constant S_ .f32 0x3E000000#32))) bitsLt_bf16_f32

/-- The keys: the reference's term. -/
def refK (X : FVec Ideal S1x16384x1024 .f32) (G : FVec Ideal S1x1024 .f32) (W : FVec Ideal S1x1024x2560 .f32) : FVec Ideal S16384x512 .f32 :=
  extractStridedSlice S16384x512 ![0, 512] (proj X G W) slices_S16384x2560_S16384x512_0_512

/-- The values: the reference's term. -/
def refV (X : FVec Ideal S1x16384x1024 .f32) (G : FVec Ideal S1x1024 .f32) (W : FVec Ideal S1x1024x2560 .f32) : FVec Ideal S16384x512 .f32 :=
  extractStridedSlice S16384x512 ![0, 1024] (proj X G W) slices_S16384x2560_S16384x512_0_1024

/-- The gated channels: the reference's term. -/
def refU (X : FVec Ideal S1x16384x1024 .f32) (G : FVec Ideal S1x1024 .f32) (W : FVec Ideal S1x1024x2560 .f32) : FVec Ideal S16384x512 .f32 :=
  mulf (extractStridedSlice S16384x512 ![0, 1536] (proj X G W) slices_S16384x2560_S16384x512_0_1536)
    (Host.divf (broadcastInDim S16384x512 ![] bcast_S_S16384x512 (constant S_ .f32 0x3F800000#32)) (addf (broadcastInDim S16384x512 ![] bcast_S_S16384x512 (constant S_ .f32 0x3F800000#32)) (Host.exp (Host.negf (extractStridedSlice S16384x512 ![0, 2048] (proj X G W) slices_S16384x2560_S16384x512_0_2048)))))

end Cert.InProjRefIdeal.Value

namespace Cert.InProjIdeal.Value
open Cert.InProjIdeal Cert.InProjIdeal.Gen
open Cert.InProjRefIdeal.Value (proj refQ refK refV refU)

variable (m : (ℓ : Loc nD τ sig) → Buf (Elt Ideal) ℓ)

/-- Block indices: the rows' windows move with the point, gain and weight stay. -/
theorem idx : ∀ t : Fin cfg0.N, win0_0.index t = ![t.val, 0] ∧ win0_1.index t = ![0, 0]
    ∧ win0_2.index t = ![0, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The array of the scaled queries holds the reference's. -/
theorem final_q (c : Dev nD) : (dats m 0 c).arrAt 3 (cfgs 0).N
    = refQ (m ((c.tc : Thread nD τ).loc main_arg0)) (m ((c.tc : Thread nD τ).loc main_arg1))
        (m ((c.tc : Thread nD τ).loc main_arg2)) := by
  refine (dats m 0 c).arrAt_eq_of_covers 3 _ (by decide +kernel) fun t _ y => ?_
  blk_simp; rw [after0_3]; frame_out
  pointwise [k0_pay3, k0_pay2, refQ, proj]
  blk_point [iblk, idx t]

/-- The array of the keys holds the reference's. -/
theorem final_k (c : Dev nD) : (dats m 0 c).arrAt 4 (cfgs 0).N
    = refK (m ((c.tc : Thread nD τ).loc main_arg0)) (m ((c.tc : Thread nD τ).loc main_arg1))
        (m ((c.tc : Thread nD τ).loc main_arg2)) := by
  refine (dats m 0 c).arrAt_eq_of_covers 4 _ (by decide +kernel) fun t _ y => ?_
  blk_simp; rw [after0_4]; frame_out
  pointwise [k0_pay4, k0_pay2, refK, proj]
  blk_point [iblk, idx t]

/-- The array of the values holds the reference's. -/
theorem final_v (c : Dev nD) : (dats m 0 c).arrAt 5 (cfgs 0).N
    = refV (m ((c.tc : Thread nD τ).loc main_arg0)) (m ((c.tc : Thread nD τ).loc main_arg1))
        (m ((c.tc : Thread nD τ).loc main_arg2)) := by
  refine (dats m 0 c).arrAt_eq_of_covers 5 _ (by decide +kernel) fun t _ y => ?_
  blk_simp; rw [after0_5]; frame_out
  pointwise [k0_pay5, k0_pay2, refV, proj]
  blk_point [iblk, idx t]

/-- The array of the gated channels holds the reference's. -/
theorem final_u (c : Dev nD) : (dats m 0 c).arrAt 6 (cfgs 0).N
    = refU (m ((c.tc : Thread nD τ).loc main_arg0)) (m ((c.tc : Thread nD τ).loc main_arg1))
        (m ((c.tc : Thread nD τ).loc main_arg2)) := by
  refine (dats m 0 c).arrAt_eq_of_covers 6 _ (by decide +kernel) fun t _ y => ?_
  blk_simp; rw [after0_6]; frame_out
  pointwise [Ideal.logistic, k0_pay1, k0_pay2, refU, proj]
  blk_point [iblk, idx t]

end Cert.InProjIdeal.Value
-- ==== Proof.MemKvValue.lean ====
module

public import proofs.«01_k».proof.Proof.Gen.MemKvIdeal.Frame
public import proofs.«01_k».proof.Proof.Gen.MemKvRefIdeal.Run
public import Idealize.ShloMosaic.Lib.Pipeline.ValueKit
public import Idealize.ShloMosaic.Lib.Pointwise
public import Idealize.ShloMosaic.Lib.Claim

/-! The memory's keys and values: the two result arrays of the call hold the normalised memory times
    each of the two weights, which is what the reference computes. -/

@[expose] public section

set_option maxRecDepth 16384

noncomputable section

open Idealize.ShloMosaic Idealize.ShloMosaic.TcCoe Idealize.SL.Sem
open Idealize.ShloMosaic.Pipeline (Dat)

namespace Cert.MemKvRefIdeal.Value
open Cert.MemKvRefIdeal Cert.MemKvRefIdeal.Gen

/-- The memory, normalised row by row: the reference's term. -/
def normed (X : FVec Ideal S1x256x1024 .f32) (G : FVec Ideal S1x1024 .f32) : FVec Ideal S256x1024 .f32 :=
  mulf (mulf (shapeCast _ X shapeCasts_S1x256x1024_S256x1024) (broadcastInDim S256x1024 ![0, 1] bcast_S256x1_S256x1024_0_1 (Host.rsqrt (addf (Host.divf (broadcastInDim S256x1 ![0] bcast_S256_S256x1_0 (Host.reduceAdd (mulf (shapeCast _ X shapeCasts_S1x256x1024_S256x1024) (shapeCast _ X shapeCasts_S1x256x1024_S256x1024)) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (broadcastInDim S1x1024 ![1] bcast_S1024_S1x1024_1 (shapeCast _ G shapeCasts_S1x1024_S1024)))

/-- The normalised memory times one weight: the reference's term for either result. -/
def REF (X : FVec Ideal S1x256x1024 .f32) (G : FVec Ideal S1x1024 .f32) (W : FVec Ideal S1x1024x1024 .f32) :
    FVec Ideal S256x1024 .f32 :=
  Host.dotGeneral dot_S256x1024_S1024x1024_S256x1024_1_0_0_1_n_n none (normed X G)
    (shapeCast S1024x1024 W shapeCasts_S1x1024x1024_S1024x1024)

end Cert.MemKvRefIdeal.Value

namespace Cert.MemKvIdeal.Value
open Cert.MemKvIdeal Cert.MemKvIdeal.Gen
open Cert.MemKvRefIdeal.Value (REF normed)

variable (m : (ℓ : Loc nD τ sig) → Buf (Elt Ideal) ℓ)

/-- Every window of the call is its whole array: block index zero. -/
theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, 0] :=
  (by decide +kernel : ∀ t : Fin grid0.N, _)

/-- The keys' array holds the normalised memory times the first weight. -/
theorem final_keys (c : Dev nD) : (dats m 0 c).arrAt 4 (cfgs 0).N
    = REF (m ((c.tc : Thread nD τ).loc main_arg0)) (m ((c.tc : Thread nD τ).loc main_arg1))
        (m ((c.tc : Thread nD τ).loc main_arg2)) := by
  refine (dats m 0 c).arrAt_eq_of_after_last 4 t0_0 (by decide +kernel) _ fun j => ?_
  blk_simp; rw [after0_4]; frame_out
  pointwise [k0_pay2, k0_pay1, REF, normed]
  blk_point [iblk, idx t0_0]

/-- The values' array holds the normalised memory times the second weight. -/
theorem final_values (c : Dev nD) : (dats m 0 c).arrAt 5 (cfgs 0).N
    = REF (m ((c.tc : Thread nD τ).loc main_arg0)) (m ((c.tc : Thread nD τ).loc main_arg1))
        (m ((c.tc : Thread nD τ).loc main_arg3)) := by
  refine (dats m 0 c).arrAt_eq_of_after_last 5 t0_0 (by decide +kernel) _ fun j => ?_
  blk_simp; rw [after0_5]; frame_out
  pointwise [k0_pay3, k0_pay1, REF, normed]
  blk_point [iblk, idx t0_0]

end Cert.MemKvIdeal.Value
-- ==== Proof.RelBiasValue.lean ====
module

public import proofs.«01_k».proof.Proof.Gen.RelBiasIdeal.Frame
public import proofs.«01_k».proof.Proof.Gen.RelBiasRefIdeal.Run
public import Idealize.ShloMosaic.Lib.Pipeline.ValueKit
public import Idealize.ShloMosaic.Lib.Pointwise
public import Idealize.ShloMosaic.Lib.Claim

/-! The relative-position bias: after the loop over the table's columns each entry holds the table at the clipped
    distance of its query and key, which is what the reference gathers. -/

@[expose] public section

set_option maxRecDepth 16384

noncomputable section

open Idealize.ShloMosaic Idealize.ShloMosaic.TcCoe Idealize.SL.Sem
open Idealize.ShloMosaic.Pipeline (Dat)

/-- The table's column for key `j` of the band seen from query `i`: the clipped distance. -/
def Cert.RelBias.col (i j : ℕ) : ℕ := min 256 (i + 640 - j)

/-- The clip in words, over every distance that occurs. -/
theorem Cert.RelBias.word_core : ∀ n : Fin 640, IntOp.addi (IntOp.minsi 128#32 (IntOp.maxsi 4294967168#32 (BitVec.ofNat 32 n.val - 64#32))) 128#32 = BitVec.ofNat 32 (min 256 (n.val + 64)) := by
  decide +kernel

/-- The column as the programs compute it in 32-bit words. -/
theorem Cert.RelBias.word (i j : ℕ) (hi : i < 64) (hj : j < 576) :
    IntOp.addi (IntOp.minsi 128#32 (IntOp.maxsi 4294967168#32 (IntOp.subi (IntOp.addi (BitVec.ofNat 32 i) 512#32) (BitVec.ofNat 32 j)))) 128#32
      = BitVec.ofNat 32 (Cert.RelBias.col i j) := by
  have h : IntOp.subi (IntOp.addi (BitVec.ofNat 32 i) 512#32) (BitVec.ofNat 32 j) = BitVec.ofNat 32 (i + 576 - j) - 64#32 := by
    show BitVec.ofNat 32 i + 512#32 - BitVec.ofNat 32 j = _
    apply BitVec.eq_of_toNat_eq
    simp only [BitVec.toNat_sub, BitVec.toNat_add, BitVec.toNat_ofNat]
    omega
  rw [h, Cert.RelBias.word_core ⟨i + 576 - j, by omega⟩]
  unfold Cert.RelBias.col
  congr 2
  show i + 576 - j + 64 = i + 640 - j
  omega

namespace Cert.RelBiasIdeal.Value
open Cert.RelBiasIdeal Cert.RelBiasIdeal.Gen Cert.RelBias

/-- One trip of the loop over the table's columns. -/
theorem pay2_at (k : Fin k0_t1_loop.trips) (acc : FVec Ideal S64x576 .f32) (v : EReal) (i : Fin 64) (j : Fin 576) :
    k0_pay2 (F := Ideal) k acc v (ix2 i j) = if col i.val j.val = 65 + k.val then v else acc (ix2 i j) := by
  have hk : k.val < 192 := Nat.lt_of_lt_of_le k.isLt k0_t1_abs.2.1
  have hw := word i.val j.val i.isLt j.isLt
  unfold k0_pay2
  pointwise []
  rw [hw]
  have hiv : Scf.iv 65#32 1#32 k.val = BitVec.ofNat 32 (65 + k.val) := by
    apply BitVec.eq_of_toNat_eq
    simp [Scf.iv]
  rw [hiv]
  show (if (BitVec.ofBool (BitVec.ofNat 32 (col i.val j.val) == BitVec.ofNat 32 (65 + k.val))) = 1#1 then v else acc (ix2 i j)) = _
  have hc : col i.val j.val < 257 := by unfold col; omega
  by_cases h : col i.val j.val = 65 + k.val
  · rw [h]; simp
  · have : ¬ BitVec.ofNat 32 (col i.val j.val) = BitVec.ofNat 32 (65 + k.val) := by
      intro e
      have e' := congrArg BitVec.toNat e
      simp only [BitVec.toNat_ofNat] at e'
      omega
    rw [if_neg h, beq_eq_false_iff_ne.mpr this]
    exact if_neg (by decide)

/-- What the trip reads: the table's entry of the point's head and the trip's column. -/
theorem trip_at (𝒱 : Variants) (c : Dev nD) (bd : Option 𝒱.V) (i : grid0.Coords) (arg1 : Memref sig .tc .smem S8x257 .f32) (harg1 : arg1.IsWhole) (arg2 : Memref sig .tc .vmem S1x64x576 .f32) (harg2 : arg2.IsWhole) (X : Vec Ideal S8x257 .f32) (k : Fin k0_t1_loop.trips) (acc : FVec Ideal S64x576 .f32)
    (h : Fin 8) (hh : (i 0).val = h.val) (hk : k.val < 192) :
    tripR_k0_t1 (F := Ideal) 𝒱 c bd i arg1 harg1 arg2 harg2 (harg1.unread X) k acc
      = k0_pay2 k acc (X (ix2 h ⟨65 + k.val, by omega⟩)) := by
  unfold tripR_k0_t1 trip_k0_t1
  dsimp only
  sl_unfold_words
  rw [View.readAt_eq_ld, harg1.read_unread]
  congr 1
  unfold View.ld
  congr 1
  funext a
  apply Fin.ext
  have h8 : (i 0).val < 8 := by rw [hh]; exact h.isLt
  match a with
  | ⟨0, _⟩ =>
    show (BitVec.ofNat 32 (i 0).val).toNat + 0 = h.val
    rw [BitVec.toNat_ofNat]; omega
  | ⟨1, _⟩ =>
    show (Scf.iv 65#32 1#32 k.val).toNat + 0 = 65 + k.val
    simp [Scf.iv]
    omega

variable (c : Dev nD) (i : grid0.Coords) (a1 : Memref sig .tc .smem S8x257 .f32) (h1 : a1.IsWhole) (a2 : Memref sig .tc .vmem S1x64x576 .f32) (h2 : a2.IsWhole)

/-- The columns filled by the trips before `k`. -/
theorem state_at (X : Vec Ideal S8x257 .f32) (h : Fin 8) (hh : (i 0).val = h.val) (q : Fin 64) (j : Fin 576) (hc : col q.val j.val < 257) :
    ∀ k : ℕ, k ≤ 192 → st_k0_t1 (F := Ideal) Variants.none c none i a1 h1 a2 h2 (h1.unread X) k0_pay1 k (ix2 q j)
      = if 65 ≤ col q.val j.val ∧ col q.val j.val < 65 + k then X (ix2 h ⟨col q.val j.val, hc⟩) else 0
  | 0, _ => by
    rw [st_k0_t1_zero, if_neg (by omega)]
    show Ideal.ofBits FTy.f32 0x00000000#32 = 0
    simp [Ideal.ofBits, Ideal.ieee]
  | k + 1, hk => by
    have ht : k < k0_t1_loop.trips := by rw [show k0_t1_loop.trips = 192 from by decide +kernel]; omega
    rw [st_k0_t1_succ Variants.none c none i a1 h1 a2 h2 (h1.unread X) k0_pay1 ⟨k, ht⟩,
      trip_at _ _ _ _ _ _ _ _ X ⟨k, ht⟩ _ h hh (by show k < 192; omega), pay2_at]
    by_cases e : col q.val j.val = 65 + k
    · rw [if_pos e, if_pos (by omega)]
      congr 2
      exact Fin.ext e.symm
    · rw [if_neg e, state_at X h hh q j hc k (by omega)]
      congr 1
      rw [eq_iff_iff]; omega

end Cert.RelBiasIdeal.Value

namespace Cert.RelBiasRefIdeal.Value
open Cert.RelBiasRefIdeal Cert.RelBiasRefIdeal.Gen Cert.RelBias

/-- The table's columns as words, one per query and key. -/
def words : IVec S64x576 32 :=
  (addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (broadcastInDim S64x1 ![0] bcast_S64_S64x1_0 (addi (iotaInDim S64 32 0) (broadcastInDim S64 ![] bcast_S_S64 (constantI S_ 32 512#32))))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 128#32)))

/-- The reference's result as a function of the table. -/
def REF (T : FVec Ideal S1x8x257 .f32) : FVec Ideal S8x64x576 .f32 :=
  Host.gather gather_S8x257_S64x576x1_S8x64x576_0_1_n_n_1_2_81 (shapeCast _ T shapeCasts_S1x8x257_S8x257) (broadcastInDim S64x576x1 ![0, 1] bcast_S64x576_S64x576x1_0_1 (select (cmpi .slt words (broadcastInDim S64x576 ![] bcast_S_S64x576 (constantI S_ 32 0#32))) (addi words (broadcastInDim S64x576 ![] bcast_S_S64x576 (constantI S_ 32 257#32))) words))

theorem words_at (i : Fin 64) (j : Fin 576) : words (ix2 i j) = BitVec.ofNat 32 (col i.val j.val) :=
  word i.val j.val i.isLt j.isLt

/-- No column is negative, so the reference's wrap of negative indices does nothing. -/
theorem slt_core : ∀ n : Fin 257, Scalar.select (IntOp.cmpi .slt (BitVec.ofNat 32 n.val) 0#32) (IntOp.addi (BitVec.ofNat 32 n.val) 257#32) (BitVec.ofNat 32 n.val) = BitVec.ofNat 32 n.val
    ∧ (BitVec.ofNat 32 n.val).toInt.toNat = n.val := by
  decide +kernel

theorem col_lt (i j : ℕ) : col i j < 257 := by unfold col; omega

/-- The gather at one entry: the table's row of the head, at the column the word names. -/
theorem gather_at (x : FVec Ideal S8x257 .f32) (I : IVec S64x576x1 32) (h : Fin 8) (i : Fin 64) (j : Fin 576) :
    Host.gather gather_S8x257_S64x576x1_S8x64x576_0_1_n_n_1_2_81 x I (ix3 h i j)
      = x (ix2 h ⟨min (I (ix3 i j 0)).toInt.toNat 256, by omega⟩) := by
  let G := gather_S8x257_S64x576x1_S8x64x576_0_1_n_n_1_2_81
  show x (G.operandIdx (ix3 h i j) I) = _
  congr 1
  funext a
  refine Fin.ext ?_
  show G.start (ix3 h i j) I a + G.batchCoord (ix3 h i j) a + G.offCoord (ix3 h i j) a = _
  rw [GatherDims.batchCoord_eq_zero _ _ _ List.not_mem_nil]
  obtain rfl | rfl : a = 0 ∨ a = 1 := by
    match a with
    | ⟨0, _⟩ => exact .inl rfl
    | ⟨1, _⟩ => exact .inr rfl
  · unfold GatherDims.start
    rw [dif_neg (show ¬(0 : Fin 2) ∈ G.startIndexMap from fun h => absurd (List.mem_singleton.mp h) (by decide))]
    show 0 + 0 + G.offCoord (ix3 h i j) 0 = h.val
    rw [Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ G.startIndexMap from List.mem_singleton.mpr rfl)]
    have hsi : G.siIdx (ix3 h i j) ⟨List.idxOf (1 : Fin 2) G.startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi]
    rfl

/-- The reference at one entry. -/
theorem REF_at (T : FVec Ideal S1x8x257 .f32) (h : Fin 8) (i : Fin 64) (j : Fin 576) :
    REF T (ix3 h i j) = T (ix3 0 h ⟨col i.val j.val, col_lt _ _⟩) := by
  obtain ⟨hs, hn⟩ := slt_core ⟨col i.val j.val, col_lt _ _⟩
  have hword : (select (cmpi .slt words (broadcastInDim S64x576 ![] bcast_S_S64x576 (constantI S_ 32 0#32))) (addi words (broadcastInDim S64x576 ![] bcast_S_S64x576 (constantI S_ 32 257#32))) words) (ix2 i j) = BitVec.ofNat 32 (col i.val j.val) := by
    show Scalar.select (IntOp.cmpi .slt (words (ix2 i j)) 0#32) (IntOp.addi (words (ix2 i j)) 257#32) (words (ix2 i j)) = _
    rw [words_at]
    exact hs
  unfold REF
  rw [gather_at]
  have e : ∀ w : BitVec 32, w = BitVec.ofNat 32 (col i.val j.val) → min w.toInt.toNat 256 = col i.val j.val := by
    intro w hw
    rw [hw, show (BitVec.ofNat 32 (col i.val j.val)).toInt.toNat = col i.val j.val from hn]
    exact Nat.min_eq_left (by have := col_lt i.val j.val; omega)
  have key : ∀ n : Fin 257, n.val = col i.val j.val → shapeCast S8x257 T shapeCasts_S1x8x257_S8x257 (ix2 h n)
      = T (ix3 0 h ⟨col i.val j.val, col_lt _ _⟩) := by
    intro n hn
    obtain rfl : n = ⟨col i.val j.val, col_lt _ _⟩ := Fin.ext hn
    pointwise []
  generalize select (cmpi .slt words (broadcastInDim S64x576 ![] bcast_S_S64x576 (constantI S_ 32 0#32))) (addi words (broadcastInDim S64x576 ![] bcast_S_S64x576 (constantI S_ 32 257#32))) words = W at hword ⊢
  have hb : broadcastInDim S64x576x1 ![0, 1] bcast_S64x576_S64x576x1_0_1 W (ix3 i j 0) = W (ix2 i j) := by
    pointwise []
  exact key _ (e _ (hb.trans hword))

end Cert.RelBiasRefIdeal.Value

namespace Cert.RelBiasIdeal.Value
open Cert.RelBiasIdeal Cert.RelBiasIdeal.Gen Cert.RelBias

/-- The table is one block; head `t` writes block `t`. -/
theorem idx : ∀ t : Fin cfg0.N, win0_0.index t = ![0, 0] ∧ win0_1.index t = ![t.val, 0, 0] :=
  (by decide +kernel : ∀ t : Fin grid0.N, _)

theorem coord : ∀ t : Fin cfg0.N, (grid0.coords t 0).val = t.val :=
  (by decide +kernel : ∀ t : Fin grid0.N, _)

variable (m : (ℓ : Loc nD τ sig) → Buf (Elt Ideal) ℓ) (c : Dev nD)

/-- The result array holds what the reference computes from the same table. -/
theorem final : (dats m 0 c).arrAt 1 (cfgs 0).N = Cert.RelBiasRefIdeal.Value.REF (m ((c.tc : Thread nD τ).loc main_arg0)) := by
  refine (dats m 0 c).arrAt_eq_of_covers 1 _ (by decide +kernel) fun t _ y => ?_
  have ht : t.val < 8 := t.isLt
  blk_simp
  rw [after0_1]
  unfold outsAt0 out0_A_1
  rw [View.read_writes_eq_canon _ _ _ (cover0_A_1 _ _ _ _ _ _ _)]
  unfold kernelRun0_A
  dsimp only
  sl_unfold_words
  rw [View.canon_unit_zero (S := S1x64x576) (by funext a; fin_cases a <;> rfl)]
  obtain ⟨q, j, rfl⟩ : ∃ (q : Fin 64) (j : Fin 576), y = ix3 0 q j := ⟨y 1, y 2, by
    funext a
    match a with
    | ⟨0, _⟩ => exact Subsingleton.elim (α := Fin 1) _ _
    | ⟨1, _⟩ => rfl
    | ⟨2, _⟩ => rfl⟩
  have hemb : (((View.whole main_v1).slice (win0_1.rect t)).emb (ix3 0 q j)) = ix3 ⟨t.val, ht⟩ q j := by
    blk_ext [idx t]
  rw [hemb, Cert.RelBiasRefIdeal.Value.REF_at]
  unfold k0_pay3
  have hs : ∀ v : FVec Ideal S64x576 .f32, shapeCast S1x64x576 v shapeCasts_S64x576_S1x64x576 (ix3 0 q j) = v (ix2 q j) := by
    intro v
    pointwise []
  have hc : col q.val j.val < 257 := Cert.RelBiasRefIdeal.Value.col_lt _ _
  rw [hs, show Scf.trips (65#32) (Scalar.addi 65#32 192#32) 1#32 = 192 from by decide +kernel,
    state_at c (grid0.coords t) _ _ _ _ _ ⟨t.val, ht⟩ (coord t) q j hc 192 (Nat.le_refl _),
    if_pos (by have := q.isLt; have := j.isLt; unfold col; omega)]
  blk_point [iblk, V, idx t]

end Cert.RelBiasIdeal.Value
-- ==== Proof.CachesValue.lean ====
module

public import proofs.«01_k».proof.Proof.Gen.CachesIdeal.Frame
public import proofs.«01_k».proof.Proof.Gen.CachesRefIdeal.Run
public import proofs.«01_k».proof.Proof.Scalars
public import Idealize.ShloMosaic.Lib.Pipeline.ValueKit
public import Idealize.ShloMosaic.Lib.Pointwise
public import Idealize.ShloMosaic.Lib.Claim

/-! The caches of the sample rows: the rows that the input projection of the 8 batches of 16 new rows leaves are, row
    for row, those that the reference appends to the caches. -/

@[expose] public section

set_option maxRecDepth 16384

noncomputable section

open Idealize.ShloMosaic Idealize.ShloMosaic.TcCoe Idealize.SL.Sem
open Idealize.ShloMosaic.Pipeline (Dat)

namespace Cert.CachesRefIdeal.Value
open Cert.CachesRefIdeal Cert.CachesRefIdeal.Gen Cert.Scalars

/-- All columns of the projection of the normalised new rows: the reference's term. -/
def proj (X : FVec Ideal S8x16x1024 .f32) (G : FVec Ideal S1x1024 .f32) (W : FVec Ideal S1x1024x2560 .f32) : FVec Ideal S8x16x2560 .f32 :=
  Host.dotGeneral dot_S8x16x1024_S1024x2560_S8x16x2560_2_0_01_1_n_n none (mulf (mulf X (broadcastInDim S8x16x1024 ![0, 1, 2] bcast_S8x16x1_S8x16x1024_0_1_2 (Host.rsqrt (addf (Host.divf (broadcastInDim S8x16x1 ![0, 1] bcast_S8x16_S8x16x1_0_1 (Host.reduceAdd (mulf X X) (constant S_ .f32 0x00000000#32) reducesTo_S8x16x1024_S8x16_d2 h_S_)) (broadcastInDim S8x16x1 ![] bcast_S_S8x16x1 (constant S_ .f32 0x44800000#32))) (broadcastInDim S8x16x1 ![] bcast_S_S8x16x1 (constant S_ .f32 0x358637BD#32)))))) (broadcastInDim S8x16x1024 ![0, 1, 2] bcast_S1x1x1024_S8x16x1024_0_1_2 (broadcastInDim S1x1x1024 ![2] bcast_S1024_S1x1x1024_2 (shapeCast _ G shapeCasts_S1x1024_S1024)))) (shapeCast _ W shapeCasts_S1x1024x2560_S1024x2560)

/-- The new keys: the reference's term. -/
def newK (X : FVec Ideal S8x16x1024 .f32) (G : FVec Ideal S1x1024 .f32) (W : FVec Ideal S1x1024x2560 .f32) : FVec Ideal S8x16x512 .f32 :=
  extractStridedSlice S8x16x512 ![0, 0, 512] (proj X G W) slices_S8x16x2560_S8x16x512_0_0_512

/-- The new values: the reference's term. -/
def newV (X : FVec Ideal S8x16x1024 .f32) (G : FVec Ideal S1x1024 .f32) (W : FVec Ideal S1x1024x2560 .f32) : FVec Ideal S8x16x512 .f32 :=
  extractStridedSlice S8x16x512 ![0, 0, 1024] (proj X G W) slices_S8x16x2560_S8x16x512_0_0_1024

/-- The new gated channels: the reference's term. -/
def newU (X : FVec Ideal S8x16x1024 .f32) (G : FVec Ideal S1x1024 .f32) (W : FVec Ideal S1x1024x2560 .f32) : FVec Ideal S8x16x512 .f32 :=
  mulf (extractStridedSlice S8x16x512 ![0, 0, 1536] (proj X G W) slices_S8x16x2560_S8x16x512_0_0_1536)
    (Host.divf (broadcastInDim S8x16x512 ![] bcast_S_S8x16x512 (constant S_ .f32 0x3F800000#32)) (addf (broadcastInDim S8x16x512 ![] bcast_S_S8x16x512 (constant S_ .f32 0x3F800000#32)) (Host.exp (Host.negf (extractStridedSlice S8x16x512 ![0, 0, 2048] (proj X G W) slices_S8x16x2560_S8x16x512_0_0_2048)))))

/-- The projection at a batch, a row and a column: the normalised row times the weight's column. -/
theorem proj_at (X : FVec Ideal S8x16x1024 .f32) (G : FVec Ideal S1x1024 .f32) (W : FVec Ideal S1x1024x2560 .f32) (b : Fin 8) (t : Fin 16) (j : Fin 2560) :
    proj X G W (ix3 b t j) = ∑ k, nrm cols (fun k => X (ix3 b t k)) (fun k => G (ix2 0 k)) k * W (ix3 0 k j) := by
  pointwise [proj]
  rfl

/-- A new key: its column of the projection. -/
theorem newK_at (X : FVec Ideal S8x16x1024 .f32) (G : FVec Ideal S1x1024 .f32) (W : FVec Ideal S1x1024x2560 .f32) (b : Fin 8) (t : Fin 16) (j : Fin 512) :
    newK X G W (ix3 b t j) = proj X G W (ix3 b t ⟨512 + j.val, by omega⟩) := by
  unfold newK
  generalize proj X G W = P
  pointwise []

/-- A new value: its column of the projection. -/
theorem newV_at (X : FVec Ideal S8x16x1024 .f32) (G : FVec Ideal S1x1024 .f32) (W : FVec Ideal S1x1024x2560 .f32) (b : Fin 8) (t : Fin 16) (j : Fin 512) :
    newV X G W (ix3 b t j) = proj X G W (ix3 b t ⟨1024 + j.val, by omega⟩) := by
  unfold newV
  generalize proj X G W = P
  pointwise []

/-- The gate of a channel: one over one plus the exponential of the negated column. -/
abbrev gate (z : EReal) : EReal := Ideal.div 1 (1 + Ideal.exp (-z))

/-- A new gated channel: its column of the projection times the gate of the other. -/
theorem newU_at (X : FVec Ideal S8x16x1024 .f32) (G : FVec Ideal S1x1024 .f32) (W : FVec Ideal S1x1024x2560 .f32) (b : Fin 8) (t : Fin 16) (j : Fin 512) :
    newU X G W (ix3 b t j) = proj X G W (ix3 b t ⟨1536 + j.val, by omega⟩) * gate (proj X G W (ix3 b t ⟨2048 + j.val, by omega⟩)) := by
  unfold newU
  generalize proj X G W = P
  pointwise []

end Cert.CachesRefIdeal.Value

namespace Cert.CachesIdeal.Value
open Cert.CachesIdeal Cert.CachesIdeal.Gen Cert.Scalars
open Cert.CachesRefIdeal.Value (proj proj_at newK newV newU newK_at newV_at newU_at gate)

/-- Batches and rows of one batch, as rows of one table. -/
theorem flat : Cert.CachesRefIdeal.S8x16x512.ShapeCasts S128x512 := by decide

variable (m : (ℓ : Loc nD τ sig) → Buf (Elt Ideal) ℓ)

/-- The grid has one point, and every window lies at the start of its array. -/
theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, 0] ∧ win0_6.index t = ![0, 0] :=
  (by decide +kernel : ∀ t : Fin grid0.N, _)

/-- The normalised rows of the block. -/
theorem rows_at (v0 : FVec Ideal S128x1024 .f32) (v2 : FVec Ideal S1x1024 .f32) (r : Fin 128) (k : Fin 1024) :
    k0_pay2 (F := Ideal) v0 v2 (ix2 r k) = nrm cols (fun k => v0 (ix2 r k)) (fun k => v2 (ix2 0 k)) k := by
  pointwise [k0_pay2]
  rfl

/-- The block's columns of keys. -/
theorem keys_at (v0 : FVec Ideal S128x1024 .f32) (v2 : FVec Ideal S1x1024 .f32) (w : FVec Ideal S1024x512 .bf16) (r : Fin 128) (j : Fin 512) :
    k0_pay4 (F := Ideal) v0 v2 w (ix2 r j) = ∑ k, k0_pay2 (F := Ideal) v0 v2 (ix2 r k) * w (ix2 k j) := by
  pointwise [k0_pay4]

/-- The block's columns of values. -/
theorem values_at (v0 : FVec Ideal S128x1024 .f32) (v2 : FVec Ideal S1x1024 .f32) (w : FVec Ideal S1024x512 .bf16) (r : Fin 128) (j : Fin 512) :
    k0_pay5 (F := Ideal) v0 v2 w (ix2 r j) = ∑ k, k0_pay2 (F := Ideal) v0 v2 (ix2 r k) * w (ix2 k j) := by
  pointwise [k0_pay5]

/-- The block's gated channels. -/
theorem gated_at (a : FVec Ideal S128x1024 .bf16) (w w' : FVec Ideal S1024x512 .bf16) (r : Fin 128) (j : Fin 512) :
    k0_pay1 (F := Ideal) a w w' (ix2 r j) = (∑ k, a (ix2 r k) * w (ix2 k j)) * gate (∑ k, a (ix2 r k) * w' (ix2 k j)) := by
  pointwise [Ideal.logistic, k0_pay1]

/-- Rows of one table, read as the rows of the batches. -/
theorem flat_at (N : FVec Ideal Cert.CachesRefIdeal.S8x16x512 .f32) (r : Fin 128) (j : Fin 512) :
    shapeCast S128x512 N flat (ix2 r j) = N (ix3 (⟨r.val / 16, by omega⟩ : Fin 8) (⟨r.val % 16, by omega⟩ : Fin 16) j) := by
  refine shapeCast_apply _ _ _ _ ?_
  rw [Shape.rowMajor_val_three, Shape.rowMajor_val_two]
  show (r.val / 16 * 16 + r.val % 16) * 512 + j.val = r.val * 512 + j.val
  omega

/-- The block's rows are the batches' rows. -/
theorem x_at (c : Dev nD) (t : Fin cfg0.N) (r : Fin 128) (k : Fin 1024) :
    iblk m c 0 t (ix2 r k) = m ((c.tc : Thread nD τ).loc main_arg0) (ix3 (⟨r.val / 16, by omega⟩ : Fin 8) (⟨r.val % 16, by omega⟩ : Fin 16) k) := by
  have e : V m c main_v0 = shapeCast S128x1024 (m ((c.tc : Thread nD τ).loc main_arg0)) shapeCasts_S8x16x1024_S128x1024 := by
    show StableHlo.after hostOps0 _ _ = _
    after_results_simp
    rfl
  refine Eq.trans ?_ (shapeCast_apply _ shapeCasts_S8x16x1024_S128x1024 (ix2 r k) _ ?_)
  · rw [← e]
    blk_point [iblk, idx t]
  · rw [Shape.rowMajor_val_three, Shape.rowMajor_val_two]
    show (r.val / 16 * 16 + r.val % 16) * 1024 + k.val = r.val * 1024 + k.val
    omega

/-- The gain, in the block as in the argument. -/
theorem g_at (c : Dev nD) (t : Fin cfg0.N) (k : Fin 1024) :
    iblk m c 1 t (ix2 0 k) = m ((c.tc : Thread nD τ).loc main_arg4) (ix2 0 k) := by
  have e : V m c main_v2 = shapeCast S1x1024 (shapeCast S1024 (m ((c.tc : Thread nD τ).loc main_arg4)) shapeCasts_S1x1024_S1024) shapeCasts_S1024_S1x1024 := by
    show StableHlo.after hostOps0 _ _ = _
    after_results_simp
    rfl
  have e' : V m c main_v2 (ix2 0 k) = m ((c.tc : Thread nD τ).loc main_arg4) (ix2 0 k) := by
    rw [e, shapeCast_shapeCast]
  rw [← e']
  blk_point [iblk, idx t]

/-- The weight without its leading axis. -/
theorem cast_w (W : FVec Ideal S1x1024x2560 .f32) (k : Fin 1024) (j : Fin 2560) :
    truncf (F := Ideal) .bf16 (shapeCast S1024x2560 W shapeCasts_S1x1024x2560_S1024x2560 : FVec Ideal S1024x2560 .f32) bitsLt_bf16_f32 (ix2 k j) = W (ix3 0 k j) := by
  refine shapeCast_apply W _ _ _ ?_
  rw [Shape.rowMajor_val_three, Shape.rowMajor_val_two]
  show (0 * 1024 + k.val) * 2560 + j.val = k.val * 2560 + j.val
  omega

/-- The weight, in the block as in the argument. -/
theorem w_at (c : Dev nD) (t : Fin cfg0.N) (k : Fin 1024) (j : Fin 2560) :
    iblk m c 2 t (ix2 k j) = m ((c.tc : Thread nD τ).loc main_arg5) (ix3 0 k j) := by
  have e : V m c main_v4 = truncf (F := Ideal) .bf16 (shapeCast S1024x2560 (m ((c.tc : Thread nD τ).loc main_arg5)) shapeCasts_S1x1024x2560_S1024x2560 : FVec Ideal S1024x2560 .f32) bitsLt_bf16_f32 := by
    show StableHlo.after hostOps0 _ _ = _
    after_results_simp
    rfl
  have e' : V m c main_v4 (ix2 k j) = m ((c.tc : Thread nD τ).loc main_arg5) (ix3 0 k j) := by
    rw [e]
    exact cast_w _ k j
  rw [← e']
  blk_point [iblk, idx t]

/-- A group of 512 columns of the weight, starting at column `o`. -/
theorem ld_at (o : ℕ) (ho : o + 512 ≤ 2560) (h : ∀ a : Fin S1024x2560.rank, (![0, o] : Fin 2 → ℕ) a + S1024x512.size a ≤ S1024x2560.size a) (k : Fin 1024) (j : Fin 512) :
    (Rect.unit (s := S1024x2560) ![0, o] S1024x512.size h).idx (ix2 k j) = ix2 k (⟨o + j.val, by omega⟩ : Fin 2560) := by
  funext a
  match a with
  | 0 => exact Fin.ext (by show 0 + 1 * k.val = k.val; omega)
  | 1 => exact Fin.ext (by show o + 1 * j.val = o + j.val; omega)

/-- A row of the block, normalised, against a column of the weight: the reference's projection. -/
theorem sum_at (c : Dev nD) (t : Fin cfg0.N) (r : Fin 128) (j : Fin 2560) :
    ∑ k, k0_pay2 (F := Ideal) (iblk m c 0 t) (iblk m c 1 t) (ix2 r k) * iblk m c 2 t (ix2 k j)
      = proj (m ((c.tc : Thread nD τ).loc main_arg0)) (m ((c.tc : Thread nD τ).loc main_arg4)) (m ((c.tc : Thread nD τ).loc main_arg5))
          (ix3 (⟨r.val / 16, by omega⟩ : Fin 8) (⟨r.val % 16, by omega⟩ : Fin 16) j) := by
  rw [proj_at]
  refine Finset.sum_congr rfl fun k _ => ?_
  rw [rows_at (iblk m c 0 t) (iblk m c 1 t), w_at]
  simp only [x_at, g_at]

/-- The array of the keys holds the reference's new keys. -/
theorem final_k (c : Dev nD) : (dats m 0 c).arrAt 4 (cfgs 0).N
    = shapeCast S128x512 (newK (m ((c.tc : Thread nD τ).loc main_arg0)) (m ((c.tc : Thread nD τ).loc main_arg4))
        (m ((c.tc : Thread nD τ).loc main_arg5))) flat := by
  refine (dats m 0 c).arrAt_eq_of_covers 4 _ (by decide +kernel) fun t _ y => ?_
  blk_simp; rw [after0_4]; frame_out
  obtain ⟨r, j, rfl⟩ : ∃ (r : Fin 128) (j : Fin 512), y = ix2 r j := ⟨y 0, y 1, eq_ix2 y⟩
  have e : (((View.whole main_v5_1).slice (win0_4.rect t)).emb (ix2 r j)) = ix2 r j := by
    blk_ext [idx t]
  rw [e, flat_at, newK_at, ← sum_at m c t]
  refine (keys_at (iblk m c 0 t) (iblk m c 1 t) (View.ld (iblk m c 2 t) r0_4) r j).trans ?_
  refine Finset.sum_congr rfl fun k _ => congrArg _ ?_
  exact congrArg (iblk m c 2 t) (ld_at 512 (by omega) inb_S1024x2560_S1024x512_0_512 k j)

/-- The array of the values holds the reference's new values. -/
theorem final_v (c : Dev nD) : (dats m 0 c).arrAt 5 (cfgs 0).N
    = shapeCast S128x512 (newV (m ((c.tc : Thread nD τ).loc main_arg0)) (m ((c.tc : Thread nD τ).loc main_arg4))
        (m ((c.tc : Thread nD τ).loc main_arg5))) flat := by
  refine (dats m 0 c).arrAt_eq_of_covers 5 _ (by decide +kernel) fun t _ y => ?_
  blk_simp; rw [after0_5]; frame_out
  obtain ⟨r, j, rfl⟩ : ∃ (r : Fin 128) (j : Fin 512), y = ix2 r j := ⟨y 0, y 1, eq_ix2 y⟩
  have e : (((View.whole main_v5_2).slice (win0_5.rect t)).emb (ix2 r j)) = ix2 r j := by
    blk_ext [idx t]
  rw [e, flat_at, newV_at, ← sum_at m c t]
  refine (values_at (iblk m c 0 t) (iblk m c 1 t) (View.ld (iblk m c 2 t) r0_5) r j).trans ?_
  refine Finset.sum_congr rfl fun k _ => congrArg _ ?_
  exact congrArg (iblk m c 2 t) (ld_at 1024 (by omega) inb_S1024x2560_S1024x512_0_1024 k j)

/-- The array of the gated channels holds the reference's new ones. -/
theorem final_u (c : Dev nD) : (dats m 0 c).arrAt 6 (cfgs 0).N
    = shapeCast S128x512 (newU (m ((c.tc : Thread nD τ).loc main_arg0)) (m ((c.tc : Thread nD τ).loc main_arg4))
        (m ((c.tc : Thread nD τ).loc main_arg5))) flat := by
  refine (dats m 0 c).arrAt_eq_of_covers 6 _ (by decide +kernel) fun t _ y => ?_
  blk_simp; rw [after0_6]; frame_out
  obtain ⟨r, j, rfl⟩ : ∃ (r : Fin 128) (j : Fin 512), y = ix2 r j := ⟨y 0, y 1, eq_ix2 y⟩
  have e : (((View.whole main_v5_3).slice (win0_6.rect t)).emb (ix2 r j)) = ix2 r j := by
    blk_ext [idx t]
  rw [e, flat_at, newU_at, ← sum_at m c t, ← sum_at m c t]
  refine (gated_at (k0_pay2 (iblk m c 0 t) (iblk m c 1 t)) (View.ld (iblk m c 2 t) r0_6) (View.ld (iblk m c 2 t) r0_7) r j).trans ?_
  refine congr (congrArg _ ?_) (congrArg gate ?_)
  · refine Finset.sum_congr rfl fun k _ => congrArg _ ?_
    exact congrArg (iblk m c 2 t) (ld_at 1536 (by omega) inb_S1024x2560_S1024x512_0_1536 k j)
  · refine Finset.sum_congr rfl fun k _ => congrArg _ ?_
    exact congrArg (iblk m c 2 t) (ld_at 2048 (by omega) inb_S1024x2560_S1024x512_0_2048 k j)

/-- What the host lines after the call start from: the arguments, and the call's arrays. -/
abbrev left (c : Dev nD) : Valuation τ sig (Elt Ideal) :=
  Pipeline.withArrays (cfgs 0).spec c (V0 m c) fun w => (dats m 0 c).arrAt w (cfgs 0).N

theorem left_k (c : Dev nD) : left m c (Proc.tc.devRef main_v5_1) = (dats m 0 c).arrAt 4 (cfgs 0).N :=
  Pipeline.withArrays_arr (cfgs 0).spec (by decide) c _ _ 4
theorem left_v (c : Dev nD) : left m c (Proc.tc.devRef main_v5_2) = (dats m 0 c).arrAt 5 (cfgs 0).N :=
  Pipeline.withArrays_arr (cfgs 0).spec (by decide) c _ _ 5
theorem left_u (c : Dev nD) : left m c (Proc.tc.devRef main_v5_3) = (dats m 0 c).arrAt 6 (cfgs 0).N :=
  Pipeline.withArrays_arr (cfgs 0).spec (by decide) c _ _ 6
theorem left_1 (c : Dev nD) : left m c (Proc.tc.devRef main_arg1) = m ((c.tc : Thread nD τ).loc main_arg1) :=
  (Pipeline.withArrays_of_ne _ _ _ _ _ (by decide)).trans (V_main_arg1 m c)
theorem left_2 (c : Dev nD) : left m c (Proc.tc.devRef main_arg2) = m ((c.tc : Thread nD τ).loc main_arg2) :=
  (Pipeline.withArrays_of_ne _ _ _ _ _ (by decide)).trans (V_main_arg2 m c)
theorem left_3 (c : Dev nD) : left m c (Proc.tc.devRef main_arg3) = m ((c.tc : Thread nD τ).loc main_arg3) :=
  (Pipeline.withArrays_of_ne _ _ _ _ _ (by decide)).trans (V_main_arg3 m c)

/-- New rows, flattened into one table and read again by batches and heads. -/
theorem heads_of_flat (N : FVec Ideal Cert.CachesRefIdeal.S8x16x512 .f32) :
    shapeCast S8x16x8x64 (shapeCast S128x512 N flat) shapeCasts_S128x512_S8x16x8x64
      = shapeCast S8x16x8x64 N Cert.CachesRefIdeal.Gen.shapeCasts_S8x16x512_S8x16x8x64 :=
  shapeCast_comp ..

/-- A cache of keys or values with the new rows behind it and its oldest rows dropped: the reference's term. -/
def shifted (A : FVec Ideal S1x8x512x8x64 .f32) (N : FVec Ideal Cert.CachesRefIdeal.S8x16x512 .f32) : FVec Ideal S1x8x512x8x64 .f32 :=
  broadcastInDim S1x8x512x8x64 ![1, 2, 3, 4] bcast_S8x512x8x64_S1x8x512x8x64_1_2_3_4 (extractStridedSlice S8x512x8x64 ![0, 16, 0, 0] (concatenate S8x528x8x64 1 [⟨S8x512x8x64, shapeCast S8x512x8x64 A shapeCasts_S1x8x512x8x64_S8x512x8x64⟩, ⟨S8x16x8x64, shapeCast S8x16x8x64 N Cert.CachesRefIdeal.Gen.shapeCasts_S8x16x512_S8x16x8x64⟩] concatenates_S8x512x8x64_S8x16x8x64_S8x528x8x64_d1) slices_S8x528x8x64_S8x512x8x64_0_16_0_0)

/-- The cache of channels, likewise. -/
def shiftedU (A : FVec Ideal S1x8x30x512 .f32) (N : FVec Ideal Cert.CachesRefIdeal.S8x16x512 .f32) : FVec Ideal S1x8x30x512 .f32 :=
  broadcastInDim S1x8x30x512 ![1, 2, 3] bcast_S8x30x512_S1x8x30x512_1_2_3 (extractStridedSlice S8x30x512 ![0, 16, 0] (concatenate S8x46x512 1 [⟨S8x30x512, shapeCast S8x30x512 A shapeCasts_S1x8x30x512_S8x30x512⟩, ⟨S8x16x512, N⟩] concatenates_S8x30x512_S8x16x512_S8x46x512_d1) slices_S8x46x512_S8x30x512_0_16_0)

/-- The new cache of keys. -/
theorem res_k (c : Dev nD) : Pipeline.afterTail₀ cfgs (dats m) 0 (V0 m) [hostOps1] c main_v18
    = shifted (m ((c.tc : Thread nD τ).loc main_arg1)) (newK (m ((c.tc : Thread nD τ).loc main_arg0)) (m ((c.tc : Thread nD τ).loc main_arg4))
        (m ((c.tc : Thread nD τ).loc main_arg5))) := by
  show StableHlo.after hostOps1 (left m c) _ = _
  unfold shifted
  rw [← heads_of_flat, ← final_k m c, ← left_k m c, ← left_1 m c]
  generalize left m c = F
  after_results_simp
  rfl

/-- The new cache of values. -/
theorem res_v (c : Dev nD) : Pipeline.afterTail₀ cfgs (dats m) 0 (V0 m) [hostOps1] c main_v19
    = shifted (m ((c.tc : Thread nD τ).loc main_arg2)) (newV (m ((c.tc : Thread nD τ).loc main_arg0)) (m ((c.tc : Thread nD τ).loc main_arg4))
        (m ((c.tc : Thread nD τ).loc main_arg5))) := by
  show StableHlo.after hostOps1 (left m c) _ = _
  unfold shifted
  rw [← heads_of_flat, ← final_v m c, ← left_v m c, ← left_2 m c]
  generalize left m c = F
  after_results_simp
  rfl

/-- The new cache of channels. -/
theorem res_u (c : Dev nD) : Pipeline.afterTail₀ cfgs (dats m) 0 (V0 m) [hostOps1] c main_v20
    = shiftedU (m ((c.tc : Thread nD τ).loc main_arg3)) (newU (m ((c.tc : Thread nD τ).loc main_arg0)) (m ((c.tc : Thread nD τ).loc main_arg4))
        (m ((c.tc : Thread nD τ).loc main_arg5))) := by
  show StableHlo.after hostOps1 (left m c) _ = _
  unfold shiftedU
  rw [← shapeCast_shapeCast (newU _ _ _) flat shapeCasts_S128x512_S8x16x512, ← final_u m c, ← left_u m c, ← left_3 m c]
  generalize left m c = F
  after_results_simp
  rfl

end Cert.CachesIdeal.Value
-- ==== Proof.MlpSampleValue.lean ====
module

public import proofs.«01_k».proof.Proof.Gen.MlpSampleIdeal.Frame
public import proofs.«01_k».proof.Proof.Gen.MlpSampleRefIdeal.Run
public import proofs.«01_k».proof.Proof.MlpValue
public import Idealize.ShloMosaic.Lib.Pipeline.ValueKit
public import Idealize.ShloMosaic.Lib.Pointwise
public import Idealize.ShloMosaic.Lib.Claim

/-! The feed-forward block of the 128 sample rows, which are one block of the call: the array it leaves
    is the reference's, the hidden layer's four chunks added as for the prompt's rows. -/

@[expose] public section

set_option maxRecDepth 16384

noncomputable section

open Idealize.ShloMosaic Idealize.ShloMosaic.TcCoe Idealize.SL.Sem
open Idealize.ShloMosaic.Pipeline (Dat)

namespace Cert.MlpSampleRefIdeal.Value
open Cert.MlpSampleRefIdeal Cert.MlpSampleRefIdeal.Gen

/-- Root-mean-square normalisation of every row, with a gain: the reference's term. -/
def normed (X : FVec Ideal S128x1024 .f32) (G : FVec Ideal S1x1024 .f32) : FVec Ideal S128x1024 .f32 :=
  mulf (mulf X (broadcastInDim S128x1024 ![0, 1] bcast_S128x1_S128x1024_0_1 (Host.rsqrt (addf (Host.divf (broadcastInDim S128x1 ![0] bcast_S128_S128x1_0 (Host.reduceAdd (mulf X X) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 (shapeCast _ G shapeCasts_S1x1024_S1024)))

/-- The hidden layer, cut off below at zero: the reference's term. -/
def relu (X : FVec Ideal S128x1024 .f32) (G : FVec Ideal S1x1024 .f32) (W : FVec Ideal S1x1024x4096 .f32) :
    FVec Ideal S128x4096 .f32 :=
  maximumf (Host.dotGeneral dot_S128x1024_S1024x4096_S128x4096_1_0_0_1_n_n none (normed X G)
    (shapeCast S1024x4096 W shapeCasts_S1x1024x4096_S1024x4096)) (broadcastInDim S128x4096 ![] bcast_S_S128x4096 (constant S_ .f32 0x00000000#32))

/-- The squared hidden layer times the second weight: the reference's term. -/
def down (X : FVec Ideal S128x1024 .f32) (G : FVec Ideal S1x1024 .f32) (W : FVec Ideal S1x1024x4096 .f32)
    (D : FVec Ideal S1x4096x1024 .f32) : FVec Ideal S128x1024 .f32 :=
  Host.dotGeneral dot_S128x4096_S4096x1024_S128x1024_1_0_0_1_n_n none (mulf (relu X G W) (relu X G W))
    (shapeCast S4096x1024 D shapeCasts_S1x4096x1024_S4096x1024)

/-- The block's result, with the residual: the reference's term. -/
def REF (X : FVec Ideal S128x1024 .f32) (G : FVec Ideal S1x1024 .f32) (W : FVec Ideal S1x1024x4096 .f32)
    (D : FVec Ideal S1x4096x1024 .f32) (P : FVec Ideal S1x1024 .f32) : FVec Ideal S128x1024 .f32 :=
  addf X (normed (down X G W D) P)

/-- The reference's composed term is the staged one. -/
theorem res_eq (m : (ℓ : Loc nD τ sig) → Buf (Elt Ideal) ℓ) (c : Dev nD) : res_out0 m c
    = REF (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := rfl

end Cert.MlpSampleRefIdeal.Value

namespace Cert.MlpSampleIdeal.Value
open Cert.MlpSampleIdeal Cert.MlpSampleIdeal.Gen
open Cert.MlpSampleRefIdeal.Value (REF normed relu down)
open Cert.MlpRefIdeal.Value (sum_chunks)

variable (m : (ℓ : Loc nD τ sig) → Buf (Elt Ideal) ℓ)

/-- Block indices: the rows are one block, and so are gains and weights. -/
theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![t.val, 0] :=
  (by decide +kernel : ∀ t : Fin grid0.N, _)

set_option maxHeartbeats 1600000 in
/-- The result array holds the reference's. -/
theorem final (c : Dev nD) : (dats m 0 c).arrAt 5 (cfgs 0).N
    = REF (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  refine (dats m 0 c).arrAt_eq_of_covers 5 _ (by decide +kernel) fun t _ y => ?_
  blk_simp; rw [after0_5]; frame_out
  pointwise [k0_pay1, k0_pay2, k0_pay3, k0_pay4, k0_pay5, REF, down, relu, normed, sum_chunks]
  blk_point [iblk, V, idx t]

end Cert.MlpSampleIdeal.Value
-- ==== Proof.CrossSampleBody.lean ====
module

public import proofs.«01_k».proof.Proof.Gen.CrossSampleIdeal.Skeleton
public import proofs.«01_k».proof.Proof.CrossValue

/-! The memory attention's body for the sample rows, read at a row and a column of one stream's 16 rows. -/

@[expose] public section

set_option maxRecDepth 16384

noncomputable section

open Idealize.ShloMosaic Idealize.ShloMosaic.TcCoe Idealize.SL.Sem
open Idealize.ShloMosaic.Pipeline (Dat)

namespace Cert.CrossSampleIdeal.Value
open Cert.CrossSampleIdeal Cert.CrossSampleIdeal.Gen Cert.Scalars
open Cert.CrossIdeal.Value (scale row scale_real score_eq)

/-- The queries of a block's row: the normalised row times the weight, scaled. -/
theorem q_at (v0 : FVec Ideal S16x1024 .f32) (v1 : FVec Ideal S1x1024 .f32) (v16 : FVec Ideal S1024x1024 .bf16) (r : Fin 16) (j : Fin 1024) :
    k0_pay2 (F := Ideal) v0 v1 v16 (ix2 r j)
      = proj (nrm cols (fun k => v0 (ix2 r k)) (fun k => v1 (ix2 0 k))) (fun k j => v16 (ix2 k j)) j * scale := by
  pointwise [k0_pay2]
  rfl

/-- The four heads side by side, as the body joins them. -/
def heads (v0 : FVec Ideal S16x1024 .f32) (v1 : FVec Ideal S1x1024 .f32) (v16 : FVec Ideal S1024x1024 .bf16)
    (v22 v25 : FVec Ideal S1x256x1024 .f32) : FVec Ideal S16x1024 .bf16 :=
  have q := k0_pay2 v0 v1 v16
  have k := k0_pay3 v22
  have v := k0_pay4 v25
  concatenate S16x1024 1 [⟨S16x256, k0_pay8 (k0_pay5 v25) (k0_pay6 v0 v1 v16 v22) (k0_pay7 v0 v1 v16 v22)⟩,
    ⟨S16x256, k0_pay9 q k v⟩, ⟨S16x256, k0_pay10 q k v⟩,
    ⟨S16x256, truncf .bf16 (divf (matmul dot_S16x256_S256x256_S16x256_1_0_0_1_n_n none (truncf .bf16 (k0_pay12 q k) bitsLt_bf16_f32) (k0_pay11 v) (constant S16x256 .f32 0x00000000#32)) (broadcastTo S16x256 (k0_pay13 q k) broadcasts_S16x1_S16x256)) bitsLt_bf16_f32⟩]
    concatenates_S16x256_S16x256_S16x256_S16x256_S16x1024_d1

/-- The joined heads at a row and a column: the softmax-weighted values of the column's head. -/
theorem heads_at (v0 : FVec Ideal S16x1024 .f32) (v1 : FVec Ideal S1x1024 .f32) (v16 : FVec Ideal S1024x1024 .bf16)
    (v22 v25 : FVec Ideal S1x256x1024 .f32) (r : Fin 16) (i : Fin 1024) :
    heads v0 v1 v16 v22 v25 (ix2 r i)
      = softK (memScore (fun j => k0_pay2 (F := Ideal) v0 v1 v16 (ix2 r j)) (fun t j => v22 (ix3 0 t j)) i)
          (fun t => v25 (ix3 0 t i)) := by
  have hi := i.isLt
  by_cases h0 : i.val < 256
  · have k : i.val / 256 * 256 = 0 := by omega
    pointwise [heads, k0_pay8, k0_pay5, k0_pay6, k0_pay7, k0_pay3, k0_pay4]
    rw [dif_pos h0]
    unfold softK rmax memScore
    simp only [k, Nat.zero_add]
  · by_cases h1 : i.val - 256 < 256
    · have k : i.val / 256 * 256 = 256 := by omega
      have e : (⟨256 + (i.val - 256), by omega⟩ : Fin 1024) = i := Fin.ext (by simp; omega)
      pointwise [heads, k0_pay9, k0_pay3, k0_pay4]
      rw [dif_neg h0, dif_pos h1]
      unfold softK rmax memScore
      simp only [k, e]
    · by_cases h2 : i.val - 256 - 256 < 256
      · have k : i.val / 256 * 256 = 512 := by omega
        have e : (⟨512 + (i.val - 256 - 256), by omega⟩ : Fin 1024) = i := Fin.ext (by simp; omega)
        pointwise [heads, k0_pay10, k0_pay3, k0_pay4]
        rw [dif_neg h0, dif_neg h1, dif_pos h2]
        unfold softK rmax memScore
        simp only [k, e]
      · have k : i.val / 256 * 256 = 768 := by omega
        have e : (⟨768 + (i.val - 256 - 256 - 256), by omega⟩ : Fin 1024) = i := Fin.ext (by simp; omega)
        pointwise [heads, k0_pay11, k0_pay12, k0_pay13, k0_pay3, k0_pay4]
        rw [dif_neg h0, dif_neg h1, dif_neg h2]
        unfold softK rmax memScore
        simp only [k, e]

/-- What follows the heads: their merge, its normalisation and the row itself added. -/
def tail (v0 : FVec Ideal S16x1024 .f32) (a : FVec Ideal S16x1024 .bf16) (w : FVec Ideal S1024x1024 .bf16) (p : FVec Ideal S1x1024 .f32) :
    FVec Ideal S16x1024 .f32 :=
  have v95 := matmul dot_S16x1024_S1024x1024_S16x1024_1_0_0_1_n_n none a (shapeCast S1024x1024 w shapeCasts_S1024x1024_S1024x1024) (constant S16x1024 .f32 0x00000000#32)
  have v100 := shapeCast S16x1 (multiReduction .add [1] S16 (mulf v95 v95) 0x00000000#32 reduces_S16x1024_S16 (.inl rfl) rfl) shapeCasts_S16_S16x1
  have v105 := rsqrt (addf (divf v100 (broadcast S16x1 (Scalar.ofBits .f32 0x44800000#32))) (broadcast S16x1 (Scalar.ofBits .f32 0x358637BD#32)))
  addf v0 (mulf (mulf v95 (broadcastTo S16x1024 v105 broadcasts_S16x1_S16x1024))
    (broadcastTo S16x1024 (shapeCast S1x1024 p shapeCasts_S1x1024_S1x1024) broadcasts_S1x1024_S16x1024))

/-- It at a row and a column. -/
theorem tail_at (v0 : FVec Ideal S16x1024 .f32) (a : FVec Ideal S16x1024 .bf16) (w : FVec Ideal S1024x1024 .bf16) (p : FVec Ideal S1x1024 .f32)
    (r : Fin 16) (j : Fin 1024) :
    tail v0 a w p (ix2 r j)
      = v0 (ix2 r j) + nrm cols (proj (fun i => a (ix2 r i)) (fun i j => w (ix2 i j))) (fun k => p (ix2 0 k)) j := by
  pointwise [tail]
  rfl

/-- The body's result is the heads' tail. -/
theorem pay_eq (v0 : FVec Ideal S16x1024 .f32) (v1 : FVec Ideal S1x1024 .f32) (v16 : FVec Ideal S1024x1024 .bf16)
    (v22 v25 : FVec Ideal S1x256x1024 .f32) (w : FVec Ideal S1024x1024 .bf16) (p : FVec Ideal S1x1024 .f32) :
    k0_pay1 (F := Ideal) v0 (k0_pay8 (k0_pay5 v25) (k0_pay6 v0 v1 v16 v22) (k0_pay7 v0 v1 v16 v22))
      (k0_pay9 (k0_pay2 v0 v1 v16) (k0_pay3 v22) (k0_pay4 v25)) (k0_pay10 (k0_pay2 v0 v1 v16) (k0_pay3 v22) (k0_pay4 v25))
      (k0_pay11 (k0_pay4 v25)) (k0_pay12 (k0_pay2 v0 v1 v16) (k0_pay3 v22)) (k0_pay13 (k0_pay2 v0 v1 v16) (k0_pay3 v22)) w p
      = tail v0 (heads v0 v1 v16 v22 v25) w p := rfl

/-- The body's result at a row and a column is that row's. -/
theorem body_row (v0 : FVec Ideal S16x1024 .f32) (v1 : FVec Ideal S1x1024 .f32) (v16 : FVec Ideal S1024x1024 .bf16)
    (v22 v25 : FVec Ideal S1x256x1024 .f32) (w : FVec Ideal S1024x1024 .bf16) (p : FVec Ideal S1x1024 .f32) (r : Fin 16) (j : Fin 1024) :
    tail v0 (heads v0 v1 v16 v22 v25) w p (ix2 r j)
      = row (fun k => v0 (ix2 r k)) (fun k => v1 (ix2 0 k)) (fun a b => v16 (ix2 a b)) (fun t j => v22 (ix3 0 t j))
          (fun t j => v25 (ix3 0 t j)) (fun a b => w (ix2 a b)) (fun k => p (ix2 0 k)) j := by
  rw [tail_at]
  simp only [heads_at, q_at]
  rfl

end Cert.CrossSampleIdeal.Value
-- ==== Proof.CrossSampleRef.lean ====
module

public import proofs.«01_k».proof.Proof.Gen.CrossSampleRefIdeal.Run
public import proofs.«01_k».proof.Proof.CrossSampleBody

/-! The memory attention's reference, in stages, each read at a row and a column. -/

@[expose] public section

set_option maxRecDepth 16384

noncomputable section

open Idealize.ShloMosaic Idealize.ShloMosaic.TcCoe Idealize.SL.Sem
open Idealize.ShloMosaic.Pipeline (Dat)

namespace Cert.CrossSampleRefIdeal.Value
open Cert.CrossSampleRefIdeal Cert.CrossSampleRefIdeal.Gen Cert.Scalars

/-- The rows, by stream and step. -/
def lift (x : FVec Ideal S128x1024 .f32) : FVec Ideal S8x16x1024 .f32 := shapeCast _ x shapeCasts_S128x1024_S8x16x1024

theorem lift_at (x : FVec Ideal S128x1024 .f32) (b : Fin 8) (r : Fin 16) (j : Fin 1024) :
    lift x (ix3 b r j) = x (ix2 (⟨b.val * 16 + r.val, by omega⟩ : Fin 128) j) := by
  refine shapeCast_apply _ _ _ _ ?_
  rw [Shape.rowMajor_val_three, Shape.rowMajor_val_two]
  rfl

/-- The streams' memory, without the leading axis of one. -/
def memory (k : FVec Ideal S1x8x256x4x256 .f32) : FVec Ideal S8x256x4x256 .f32 := shapeCast _ k shapeCasts_S1x8x256x4x256_S8x256x4x256

theorem memory_at (k : FVec Ideal S1x8x256x4x256 .f32) (b : Fin 8) (t : Fin 256) (h : Fin 4) (d : Fin 256) :
    memory k (ix4 b t h d) = k (ix5 0 b t h d) := by
  refine shapeCast_apply _ _ _ _ ?_
  rw [Shape.rowMajor_val_five, Shape.rowMajor_val_four]
  show (((0 * 8 + b.val) * 256 + t.val) * 4 + h.val) * 256 + d.val = _
  rw [Nat.zero_mul, Nat.zero_add]
  rfl

/-- One stream's memory, its heads side by side. -/
def mem (k : FVec Ideal S8x256x4x256 .f32) (b : Fin 8) (t : Fin 256) (j : Fin 1024) : EReal :=
  k (ix4 b t (⟨j.val / 256, by omega⟩ : Fin 4) (⟨j.val % 256, by omega⟩ : Fin 256))

/-- Every row over its root mean square, times a gain. -/
def rms (y : FVec Ideal S8x16x1024 .f32) (g : FVec Ideal S1x1024 .f32) : FVec Ideal S8x16x1024 .f32 :=
  mulf (mulf (y) (broadcastInDim S8x16x1024 ![0, 1, 2] bcast_S8x16x1_S8x16x1024_0_1_2 (Host.rsqrt (addf (Host.divf (broadcastInDim S8x16x1 ![0, 1] bcast_S8x16_S8x16x1_0_1 (Host.reduceAdd (mulf (y) (y)) (constant S_ .f32 0x00000000#32) reducesTo_S8x16x1024_S8x16_d2 h_S_)) (broadcastInDim S8x16x1 ![] bcast_S_S8x16x1 (constant S_ .f32 0x44800000#32))) (broadcastInDim S8x16x1 ![] bcast_S_S8x16x1 (constant S_ .f32 0x358637BD#32)))))) (broadcastInDim S8x16x1024 ![0, 1, 2] bcast_S1x1x1024_S8x16x1024_0_1_2 (broadcastInDim S1x1x1024 ![2] bcast_S1024_S1x1x1024_2 (shapeCast _ g shapeCasts_S1x1024_S1024)))

theorem rms_at (y : FVec Ideal S8x16x1024 .f32) (g : FVec Ideal S1x1024 .f32) (b : Fin 8) (r : Fin 16) (j : Fin 1024) :
    rms y g (ix3 b r j) = nrm cols (fun k => y (ix3 b r k)) (fun k => g (ix2 0 k)) j := by
  pointwise [rms]
  rfl

/-- The scores, scaled. -/
def scores (x : FVec Ideal S8x16x1024 .f32) (k : FVec Ideal S8x256x4x256 .f32) (g : FVec Ideal S1x1024 .f32) (wq : FVec Ideal S1x1024x1024 .f32) : FVec Ideal S8x4x16x256 .f32 :=
  mulf (Host.dotGeneral dot_S8x16x4x256_S8x256x4x256_S8x4x16x256_3_3_1_1_02_02 none (shapeCast _ (Host.dotGeneral dot_S8x16x1024_S1024x1024_S8x16x1024_2_0_01_1_n_n none (rms x g) (shapeCast _ wq shapeCasts_S1x1024x1024_S1024x1024)) shapeCasts_S8x16x1024_S8x16x4x256) k) (broadcastInDim S8x4x16x256 ![] bcast_S_S8x4x16x256 (constant S_ .f32 0x3D800000#32))

/-- A score: the head's sum of products of query and key, times the scale. -/
theorem scores_at (x : FVec Ideal S8x16x1024 .f32) (k : FVec Ideal S8x256x4x256 .f32) (g : FVec Ideal S1x1024 .f32) (wq : FVec Ideal S1x1024x1024 .f32) (b : Fin 8) (h : Fin 4) (r : Fin 16) (t : Fin 256) :
    scores x k g wq (ix4 b h r t)
      = (∑ d : Fin 256, proj (nrm cols (fun k => x (ix3 b r k)) (fun k => g (ix2 0 k))) (fun a b => wq (ix3 0 a b)) ⟨h.val * 256 + d.val, by omega⟩
          * k (ix4 b t h d)) * Ideal.ofBits FTy.f32 0x3D800000#32 := by
  pointwise [scores, rms]
  rfl

/-- Every row's largest entry. -/
def most (s : FVec Ideal S8x4x16x256 .f32) : FVec Ideal S8x4x16 .f32 :=
  Host.reduce FloatOps.maximumf s (constant S_ .f32 0xFF800000#32) reducesTo_S8x4x16x256_S8x4x16_d3 h_S_

theorem most_at (s : FVec Ideal S8x4x16x256 .f32) (b : Fin 8) (h : Fin 4) (r : Fin 16) :
    most s (ix3 b h r) = rmax (fun t => s (ix4 b h r t)) := by
  pointwise [most]
  unfold rmax
  with_reducible rfl

/-- An entry for each row, spread over the row. -/
def spread (s : FVec Ideal S8x4x16 .f32) : FVec Ideal S8x4x16x256 .f32 :=
  broadcastInDim S8x4x16x256 ![0, 1, 2, 3] bcast_S8x4x16x1_S8x4x16x256_0_1_2_3 (broadcastInDim S8x4x16x1 ![0, 1, 2] bcast_S8x4x16_S8x4x16x1_0_1_2 (maximumf (broadcastInDim S8x4x16 ![] bcast_S_S8x4x16 (constant S_ .f32 0xFF800000#32)) s))

theorem spread_at (s : FVec Ideal S8x4x16 .f32) (b : Fin 8) (h : Fin 4) (r : Fin 16) (t : Fin 256) :
    spread s (ix4 b h r t) = s (ix3 b h r) := by
  pointwise [spread]
  rw [max_ninf]

/-- The exponentials of the scores less their row's largest. -/
def expo (s : FVec Ideal S8x4x16x256 .f32) : FVec Ideal S8x4x16x256 .f32 := Host.exp (subf s (spread (most s)))

theorem expo_at (s : FVec Ideal S8x4x16x256 .f32) (b : Fin 8) (h : Fin 4) (r : Fin 16) (t : Fin 256) :
    expo s (ix4 b h r t) = Ideal.exp (s (ix4 b h r t) - rmax (fun t => s (ix4 b h r t))) := by
  rw [← most_at s b h r, ← spread_at (most s) b h r t]
  rfl

/-- The attention of scores and values, its heads side by side. -/
def att (s : FVec Ideal S8x4x16x256 .f32) (v : FVec Ideal S8x256x4x256 .f32) : FVec Ideal S8x16x1024 .f32 :=
  shapeCast _ (transpose S8x16x4x256 [0, 3, 1, 2] (Host.dotGeneral dot_S8x256x4x256_S8x4x16x256_S8x4x256x16_1_3_3_2_02_01 none v (Host.divf (expo s) (broadcastInDim S8x4x16x256 ![0, 1, 2, 3] bcast_S8x4x16x1_S8x4x16x256_0_1_2_3 (broadcastInDim S8x4x16x1 ![0, 1, 2] bcast_S8x4x16_S8x4x16x1_0_1_2 (Host.reduceAdd (expo s) (constant S_ .f32 0x00000000#32) reducesTo_S8x4x16x256_S8x4x16_d3 h_S_))))) transposes_S8x4x256x16_S8x16x4x256_0_3_1_2) shapeCasts_S8x16x4x256_S8x16x1024

theorem att_at (s : FVec Ideal S8x4x16x256 .f32) (v : FVec Ideal S8x256x4x256 .f32) (b : Fin 8) (r : Fin 16) (i : Fin 1024) :
    att s v (ix3 b r i)
      = softR (fun t => s (ix4 b ⟨i.val / 256, by omega⟩ r t)) (fun t => mem v b t i) := by
  pointwise [att]
  simp only [expo_at]
  unfold softR
  exact Finset.sum_congr rfl fun t _ => mul_comm (mem v b t i) _

/-- The merge of the heads. -/
def merge (x : FVec Ideal S8x16x1024 .f32) (k v : FVec Ideal S8x256x4x256 .f32) (g : FVec Ideal S1x1024 .f32) (wq : FVec Ideal S1x1024x1024 .f32) (wo : FVec Ideal S1x1024x1024 .f32) : FVec Ideal S8x16x1024 .f32 :=
  Host.dotGeneral dot_S8x16x1024_S1024x1024_S8x16x1024_2_0_01_1_n_n none (att (scores x k g wq) v) (shapeCast _ wo shapeCasts_S1x1024x1024_S1024x1024)

/-- The whole of the reference, by stream and step. -/
def rows (x : FVec Ideal S8x16x1024 .f32) (k v : FVec Ideal S8x256x4x256 .f32) (g : FVec Ideal S1x1024 .f32) (wq : FVec Ideal S1x1024x1024 .f32) (wo : FVec Ideal S1x1024x1024 .f32) (p : FVec Ideal S1x1024 .f32) : FVec Ideal S8x16x1024 .f32 :=
  addf x (rms (merge x k v g wq wo) p)

theorem rows_at (x : FVec Ideal S8x16x1024 .f32) (k v : FVec Ideal S8x256x4x256 .f32) (g : FVec Ideal S1x1024 .f32) (wq : FVec Ideal S1x1024x1024 .f32) (wo : FVec Ideal S1x1024x1024 .f32) (p : FVec Ideal S1x1024 .f32) (b : Fin 8) (r : Fin 16) (j : Fin 1024) :
    rows x k v g wq wo p (ix3 b r j)
      = x (ix3 b r j) + nrm cols (proj (fun i => att (scores x k g wq) v (ix3 b r i)) (fun a b => wo (ix3 0 a b))) (fun k => p (ix2 0 k)) j := by
  pointwise [rows, rms, merge]
  rfl

/-- The whole of the reference, in flat rows. -/
def REF (x : FVec Ideal S128x1024 .f32) (k v : FVec Ideal S1x8x256x4x256 .f32) (g : FVec Ideal S1x1024 .f32) (wq : FVec Ideal S1x1024x1024 .f32) (wo : FVec Ideal S1x1024x1024 .f32) (p : FVec Ideal S1x1024 .f32) : FVec Ideal S128x1024 .f32 :=
  shapeCast _ (rows (lift x) (memory k) (memory v) g wq wo p) shapeCasts_S8x16x1024_S128x1024

/-- A flat row is its stream's row. -/
theorem REF_at (x : FVec Ideal S128x1024 .f32) (k v : FVec Ideal S1x8x256x4x256 .f32) (g : FVec Ideal S1x1024 .f32) (wq : FVec Ideal S1x1024x1024 .f32) (wo : FVec Ideal S1x1024x1024 .f32) (p : FVec Ideal S1x1024 .f32) (b : Fin 8) (r : Fin 16) (j : Fin 1024) :
    REF x k v g wq wo p (ix2 (⟨b.val * 16 + r.val, by omega⟩ : Fin 128) j) = rows (lift x) (memory k) (memory v) g wq wo p (ix3 b r j) := by
  refine shapeCast_apply _ _ _ _ ?_
  rw [Shape.rowMajor_val_three, Shape.rowMajor_val_two]
  rfl

/-- The reference's result is `REF` of its arguments. -/
theorem res_eq (m : (ℓ : Loc nD τ sig) → Buf (Elt Ideal) ℓ) (c : Dev nD) :
    res_out0 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

end Cert.CrossSampleRefIdeal.Value
-- ==== Proof.Finite.lean ====
module

public import proofs.«01_k».proof.Pre_mem_scores_finite
public import proofs.«01_k».proof.Proof.Scalars
public import Idealize.ShloMosaic.Lib.ReduceAll
public import Idealize.ShloMosaic.Lib.Affine

/-! What the condition on the arguments says: the arrays it names hold real numbers. -/

@[expose] public section

set_option maxRecDepth 16384

noncomputable section

open Idealize.ShloMosaic Idealize.ShloMosaic.TcCoe Idealize.SL.Sem
open Idealize.ShloMosaic.Pipeline (Dat)

namespace Cert.Scalars

theorem andi_one {a b : BitVec 1} (h : IntOp.andi a b = 1#1) : a = 1#1 ∧ b = 1#1 := by
  revert a b
  decide

/-- An absolute value compared below plus infinity, bit by bit. -/
theorem fin_of_cmp {φ : FTy} {x y : Ideal φ} (hy : y = (⊤ : EReal)) (h : FloatOps.cmpf .olt (FloatOps.absf x) y = 1#1) : Fin' x := by
  subst hy
  refine fin_of_abs_lt ?_
  by_contra hn
  have : (FloatOps.cmpf .olt (FloatOps.absf x) (⊤ : EReal) : BitVec 1) = 0#1 := by
    show BitVec.ofBool (decide (max x (-x) < (⊤ : EReal))) = 0#1
    rw [decide_eq_false hn]
    rfl
  rw [this] at h
  exact absurd h (by decide)

theorem inf_f32 : (Ideal.ofBits FTy.f32 0x7F800000#32 : EReal) = ⊤ := by simp [Ideal.ofBits, Ideal.ieee]

instance : Subsingleton Pre_mem_scores_finite.S_.Idx := ⟨fun a b => funext fun k => k.elim0⟩

/-- The condition: keys, gain and query weight are real. -/
theorem mem_finite [Pre_mem_scores_finite.Facts] (x : FVec Ideal Pre_mem_scores_finite.S16384x1024 .f32) (k v : FVec Ideal Pre_mem_scores_finite.S1x256x1024 .f32)
    (g : FVec Ideal Pre_mem_scores_finite.S1x1024 .f32) (wq wo : FVec Ideal Pre_mem_scores_finite.S1x1024x1024 .f32) (p : FVec Ideal Pre_mem_scores_finite.S1x1024 .f32)
    (h : Pre_mem_scores_finite.fn (F := Ideal) x k v g wq wo p = fun _ => 1#1) :
    (∀ i, Fin' (k i)) ∧ (∀ i, Fin' (g i)) ∧ ∀ i, Fin' (wq i) := by
  have h0 := congrFun h (fun a => a.elim0)
  obtain ⟨h1, h4⟩ := andi_one h0
  obtain ⟨h1, h3⟩ := andi_one h1
  exact ⟨fun i => fin_of_cmp inf_f32 (Host.reduce_andi_all _ _ _ _ _ h1 i), fun i => fin_of_cmp inf_f32 (Host.reduce_andi_all _ _ _ _ _ h3 i),
    fun i => fin_of_cmp inf_f32 (Host.reduce_andi_all _ _ _ _ _ h4 i)⟩

/-- The facts the condition's function asks. -/
theorem mem_facts : Pre_mem_scores_finite.Facts := by
  constructor <;> decide

end Cert.Scalars
-- ==== Proof.CrossSampleValue.lean ====
module

public import proofs.«01_k».proof.Proof.Gen.CrossSampleIdeal.Frame
public import proofs.«01_k».proof.Proof.CrossSampleRef
public import proofs.«01_k».proof.Proof.Finite
public import proofs.«01_k».proof.Pre_cache_scores_finite
public import Idealize.ShloMosaic.Lib.Pipeline.ValueKit
public import Idealize.ShloMosaic.Lib.ReduceAll
public import Idealize.ShloMosaic.Lib.Claim

/-! The memory attention of the sample rows, every stream to its own cached memory: with finite keys, gain
    and query weight, the call's array is the reference's. -/

@[expose] public section

set_option maxRecDepth 16384

noncomputable section

open Idealize.ShloMosaic Idealize.ShloMosaic.TcCoe Idealize.SL.Sem
open Idealize.ShloMosaic.Pipeline (Dat)

namespace Cert.Scalars

instance : Subsingleton Pre_cache_scores_finite.S_.Idx := ⟨fun a b => funext fun k => k.elim0⟩

/-- The condition: cached keys, gain and query weight are real. -/
theorem cache_finite [Pre_cache_scores_finite.Facts] (x : FVec Ideal Pre_cache_scores_finite.S128x1024 .f32) (k v : FVec Ideal Pre_cache_scores_finite.S1x8x256x4x256 .f32)
    (g : FVec Ideal Pre_cache_scores_finite.S1x1024 .f32) (wq wo : FVec Ideal Pre_cache_scores_finite.S1x1024x1024 .f32) (p : FVec Ideal Pre_cache_scores_finite.S1x1024 .f32)
    (h : Pre_cache_scores_finite.fn (F := Ideal) x k v g wq wo p = fun _ => 1#1) :
    (∀ i, Fin' (k i)) ∧ (∀ i, Fin' (g i)) ∧ ∀ i, Fin' (wq i) := by
  have h0 := congrFun h (fun a => a.elim0)
  obtain ⟨h1, h4⟩ := andi_one h0
  obtain ⟨h1, h3⟩ := andi_one h1
  exact ⟨fun i => fin_of_cmp inf_f32 (Host.reduce_andi_all _ _ _ _ _ h1 i), fun i => fin_of_cmp inf_f32 (Host.reduce_andi_all _ _ _ _ _ h3 i),
    fun i => fin_of_cmp inf_f32 (Host.reduce_andi_all _ _ _ _ _ h4 i)⟩

/-- The facts the condition's function asks. -/
theorem cache_facts : Pre_cache_scores_finite.Facts := by
  constructor <;> decide

end Cert.Scalars

namespace Cert.CrossSampleIdeal.Value
open Cert.CrossSampleIdeal Cert.CrossSampleIdeal.Gen Cert.Scalars
open Cert.CrossIdeal.Value (scale row scale_real score_eq)
open Cert.CrossSampleRefIdeal.Value (REF REF_at rows rows_at lift lift_at memory memory_at mem scores scores_at att_at)

/-- A score of the reference is the kernel's, the scale on the query. -/
theorem score_at (x : FVec Ideal CrossSampleRefIdeal.S8x16x1024 .f32) (k : FVec Ideal CrossSampleRefIdeal.S8x256x4x256 .f32) (g : FVec Ideal CrossSampleRefIdeal.S1x1024 .f32)
    (wq : FVec Ideal CrossSampleRefIdeal.S1x1024x1024 .f32) (b : Fin 8) (r : Fin 16) (i : Fin 1024) (t : Fin 256) :
    scores x k g wq (ix4 b ⟨i.val / 256, by omega⟩ r t)
      = memScore (fun j => proj (nrm cols (fun k => x (ix3 b r k)) (fun k => g (ix2 0 k))) (fun a b => wq (ix3 0 a b)) j * scale) (mem k b) i t := by
  rw [← score_eq, scores_at]
  refine congrArg (· * scale) (Finset.sum_congr rfl fun d _ => congrArg _ ?_)
  refine congrArg k (congrArg₂ (fun h d => ix4 b t h d) (Fin.ext ?_) (Fin.ext ?_))
  · show i.val / 256 = (i.val / 256 * 256 + d.val) / 256
    omega
  · show d.val = (i.val / 256 * 256 + d.val) % 256
    omega

/-- The reference's result at a stream, a row and a column is that row's, when keys, gain and query weight are real. -/
theorem ref_row (x : FVec Ideal CrossSampleRefIdeal.S8x16x1024 .f32) (k v : FVec Ideal CrossSampleRefIdeal.S8x256x4x256 .f32) (g : FVec Ideal CrossSampleRefIdeal.S1x1024 .f32)
    (wq wo : FVec Ideal CrossSampleRefIdeal.S1x1024x1024 .f32) (p : FVec Ideal CrossSampleRefIdeal.S1x1024 .f32)
    (hk : ∀ b t h d, Fin' (k (ix4 b t h d))) (hg : ∀ j, Fin' (g (ix2 0 j))) (hw : ∀ a b, Fin' (wq (ix3 0 a b))) (b : Fin 8) (r : Fin 16) (j : Fin 1024) :
    rows x k v g wq wo p (ix3 b r j)
      = row (fun k => x (ix3 b r k)) (fun k => g (ix2 0 k)) (fun a b => wq (ix3 0 a b)) (mem k b) (mem v b)
          (fun a b => wo (ix3 0 a b)) (fun k => p (ix2 0 k)) j := by
  have hf : ∀ i t, Fin' (memScore (fun j => proj (nrm cols (fun k => x (ix3 b r k)) (fun k => g (ix2 0 k))) (fun a b => wq (ix3 0 a b)) j * scale) (mem k b) i t) := by
    intro i t
    obtain ⟨c, -, e⟩ := scale_real
    exact Fin'.sum fun d => ((Fin'.sum fun a => (fin_nrm (hg _)).mul (hw _ _)).mul ⟨c, e⟩).mul (hk _ _ _ _)
  rw [rows_at]
  unfold row
  congr 2
  refine congrArg (fun f => proj f (fun a b => wo (ix3 0 a b))) (funext fun i => ?_)
  rw [att_at]
  simp only [score_at]
  refine (soft_eq (fun t => ?_) (k₀ := 0) ?_).symm
  · obtain ⟨a, e⟩ := hf i t
    rw [e]; exact EReal.coe_ne_top a
  · obtain ⟨a, e⟩ := hf i 0
    rw [e]; exact EReal.coe_ne_bot a

/-- The offsets of every window's block: rows and memory move with the stream. -/
theorem idx : ∀ t : Fin cfg0.N, win0_0.index t = ![t.val, 0] ∧ win0_1.index t = ![0, 0] ∧ win0_2.index t = ![0, 0]
    ∧ win0_3.index t = ![t.val, 0, 0] ∧ win0_4.index t = ![t.val, 0, 0] ∧ win0_5.index t = ![0, 0] ∧ win0_6.index t = ![0, 0]
    ∧ win0_7.index t = ![t.val, 0] :=
  (by decide +kernel : ∀ t : Fin grid0.N, _)

variable (m : (ℓ : Loc nD τ sig) → Buf (Elt Ideal) ℓ) (c : Dev nD)

abbrev xArr : FVec Ideal S128x1024 .f32 := m ((c.tc : Thread nD τ).loc main_arg0)
abbrev kArr : FVec Ideal S1x8x256x4x256 .f32 := m ((c.tc : Thread nD τ).loc main_arg1)
abbrev vArr : FVec Ideal S1x8x256x4x256 .f32 := m ((c.tc : Thread nD τ).loc main_arg2)
abbrev gArr : FVec Ideal S1x1024 .f32 := m ((c.tc : Thread nD τ).loc main_arg3)
abbrev wqArr : FVec Ideal S1x1024x1024 .f32 := m ((c.tc : Thread nD τ).loc main_arg4)
abbrev woArr : FVec Ideal S1x1024x1024 .f32 := m ((c.tc : Thread nD τ).loc main_arg5)
abbrev pArr : FVec Ideal S1x1024 .f32 := m ((c.tc : Thread nD τ).loc main_arg6)

/-- The memory with its heads joined, at a stream, a token and a column. -/
theorem joined_at (k : FVec Ideal S8x256x4x256 .f32) (b : Fin 8) (t : Fin 256) (j : Fin 1024) :
    shapeCast S8x256x1024 k shapeCasts_S8x256x4x256_S8x256x1024 (ix3 b t j) = mem k b t j := by
  refine shapeCast_apply k _ _ (ix4 b t (⟨j.val / 256, by omega⟩ : Fin 4) (⟨j.val % 256, by omega⟩ : Fin 256)) ?_
  rw [Shape.rowMajor_val_four, Shape.rowMajor_val_three]
  show ((b.val * 256 + t.val) * 4 + j.val / 256) * 256 + j.val % 256 = (b.val * 256 + t.val) * 1024 + j.val
  omega

/-- The block of keys is the stream's. -/
theorem k_at (t : Fin cfg0.N) (b : Fin 8) (hb : b.val = t.val) (i : Fin 256) (j : Fin 1024) :
    iblk m c 3 t (ix3 0 i j) = mem (memory (kArr m c)) b i j := by
  have e : V m c main_v5 = shapeCast S8x256x1024 (memory (kArr m c)) shapeCasts_S8x256x4x256_S8x256x1024 := by
    show StableHlo.after hostOps0 _ _ = _
    after_results_simp
    rfl
  rw [← joined_at, ← e]
  refine congrArg (V m c main_v5) ?_
  blk_ext [idx t]

/-- The block of values is the stream's. -/
theorem v_at (t : Fin cfg0.N) (b : Fin 8) (hb : b.val = t.val) (i : Fin 256) (j : Fin 1024) :
    iblk m c 4 t (ix3 0 i j) = mem (memory (vArr m c)) b i j := by
  have e : V m c main_v7 = shapeCast S8x256x1024 (memory (vArr m c)) shapeCasts_S8x256x4x256_S8x256x1024 := by
    show StableHlo.after hostOps0 _ _ = _
    after_results_simp
    rfl
  rw [← joined_at, ← e]
  refine congrArg (V m c main_v7) ?_
  blk_ext [idx t]

/-- Equal rows, weights and memories give equal results. -/
theorem row_congr {x x' g g' p p' : Fin 1024 → EReal} {wq wq' wo wo' : Fin 1024 → Fin 1024 → EReal} {k k' v v' : Fin 256 → Fin 1024 → EReal}
    (hx : x = x') (hg : g = g') (hq : wq = wq') (hk : k = k') (hv : v = v') (ho : wo = wo') (hp : p = p') (j : Fin 1024) :
    row x g wq k v wo p j = row x' g' wq' k' v' wo' p' j := by
  subst hx hg hq hk hv ho hp
  rfl

/-- The array the call leaves is the reference's, when keys, gain and query weight are real. -/
theorem final (hk : ∀ b t h d, Fin' (kArr m c (ix5 0 b t h d))) (hg : ∀ j, Fin' (gArr m c (ix2 0 j))) (hw : ∀ a b, Fin' (wqArr m c (ix3 0 a b))) :
    (dats m 0 c).arrAt 7 (cfgs 0).N
      = REF (xArr m c) (kArr m c) (vArr m c) (gArr m c) (wqArr m c) (woArr m c) (pArr m c) := by
  refine (dats m 0 c).arrAt_eq_of_covers 7 _ (by decide +kernel) fun t _ y => ?_
  blk_simp
  rw [after0_7]
  unfold out0_7 k0_pay14 k0_pay15 k0_pay16
  frame_out
  obtain ⟨r, j, rfl⟩ : ∃ (r : Fin 16) (j : Fin 1024), y = ix2 r j := ⟨y 0, y 1, eq_ix2 y⟩
  have ht : t.val < 8 := t.isLt
  have e : (((View.whole main_v12).slice (win0_7.rect t)).emb (ix2 r j)) = (ix2 (⟨(⟨t.val, ht⟩ : Fin 8).val * 16 + r.val, by omega⟩ : Fin 128) j) := by
    blk_ext [idx t]
  rw [e, REF_at]
  refine Eq.trans ?_ (ref_row (lift (xArr m c)) (memory (kArr m c)) (memory (vArr m c)) (gArr m c) (wqArr m c) (woArr m c) (pArr m c)
    (fun b t h d => by rw [memory_at]; exact hk b t h d) hg hw _ _ j).symm
  refine (congrFun (pay_eq (iblk m c 0 t) (iblk m c 1 t) (iblk m c 2 t) (iblk m c 3 t) (iblk m c 4 t) (iblk m c 5 t) (iblk m c 6 t)) _).trans ?_
  rw [body_row]
  simp only [lift_at]
  refine row_congr ?_ ?_ ?_ ?_ ?_ ?_ ?_ j
  · exact funext fun _ => by blk_point [iblk, V, idx t]
  · exact funext fun _ => by blk_point [iblk, V, idx t]
  · exact funext fun _ => funext fun _ => by blk_point [iblk, idx t]
  · exact funext fun _ => funext fun _ => k_at m c t _ rfl _ _
  · exact funext fun _ => funext fun _ => v_at m c t _ rfl _ _
  · exact funext fun _ => funext fun _ => by blk_point [iblk, idx t]
  · exact funext fun _ => by blk_point [iblk, V, idx t]

end Cert.CrossSampleIdeal.Value
-- ==== Proof.MixIdealRun.lean ====
module

public import proofs.«01_k».proof.Proof.Gen.MixIdeal.Frame.Runs

@[expose] public section

set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The whole-body run of the mix_prompt kernel over its printed skeleton. -/

/-- The convolution loop's stores, whatever the unused first read of the prompt-window scratch held. -/
theorem trip_dead (𝒱 : Variants) (c : Dev nD) (bd : Option 𝒱.V) (i : grid0.Coords) (arg1 : Memref sig .tc .vmem S512x512 .bf16) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S32x512 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S8x64x576 .f32) (harg9 : arg9.IsWhole) (arg10 : Memref sig .tc .vmem S512x512 .bf16) (harg10 : arg10.IsWhole) (arg11 : Memref sig .tc .vmem S31x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S512x512 .f32) (harg22 : arg22.IsWhole) (arg23 : Memref sig .tc .vmem S4x544x128 .f32) (harg23 : arg23.IsWhole) (arg24 : Memref sig .tc .vmem S512x512 .f32) (harg24 : arg24.IsWhole) (arg0 : BitVec 32) (v51 : Vec F S512x128 .f32) (v52 : Vec F S1x512x128 .f32) (X_arg11 : BufTy.Contents (Elt F) arg11.view.ty) (X_arg23 : BufTy.Contents (Elt F) arg23.view.ty) (k : Fin k0_t2_loop.trips) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v51 v52 X_arg11 X_arg23 k = tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v51 (fun _ => FloatOps.ofBits .f32 0) X_arg11 X_arg23 k := by
  unfold tripL_k0_t2 trip_k0_t2
  rfl

theorem pb_dead (𝒱 : Variants) (c : Dev nD) (bd : Option 𝒱.V) (i : grid0.Coords) (arg1 : Memref sig .tc .vmem S512x512 .bf16) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S32x512 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S8x64x576 .f32) (harg9 : arg9.IsWhole) (arg10 : Memref sig .tc .vmem S512x512 .bf16) (harg10 : arg10.IsWhole) (arg11 : Memref sig .tc .vmem S31x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S512x512 .f32) (harg22 : arg22.IsWhole) (arg23 : Memref sig .tc .vmem S4x544x128 .f32) (harg23 : arg23.IsWhole) (arg24 : Memref sig .tc .vmem S512x512 .f32) (harg24 : arg24.IsWhole) (arg0 : BitVec 32) (v51 : Vec F S512x128 .f32) (v52 : Vec F S1x512x128 .f32) (X_arg11 : BufTy.Contents (Elt F) arg11.view.ty) (X_arg23 : BufTy.Contents (Elt F) arg23.view.ty) (k : ℕ) :
    pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v51 v52 X_arg11 X_arg23 k = pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v51 (fun _ => FloatOps.ofBits .f32 0) X_arg11 X_arg23 k := by
  induction k with
  | zero => rfl
  | succ k ih =>
    rw [pb_k0_t2.eq_2, pb_k0_t2.eq_2, ih]
    unfold pb_k0_t2Step
    split
    · rw [trip_dead]
    · rfl

set_option backward.proofsInPublic true in
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S512x512 .bf16) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S32x512 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S8x64x576 .f32) (harg9 : arg9.IsWhole) (arg10 : Memref sig .tc .vmem S512x512 .bf16) (harg10 : arg10.IsWhole) (arg11 : Memref sig .tc .vmem S31x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S512x512 .f32) (harg22 : arg22.IsWhole) (arg23 : Memref sig .tc .vmem S4x544x128 .f32) (harg23 : arg23.IsWhole) (arg24 : Memref sig .tc .vmem S512x512 .f32) (harg24 : arg24.IsWhole)
    (x0 : Vec F S512x512 .bf16) (x1 : Vec F S512x512 .f32) (x2 : Vec F S512x512 .f32) (x3 : Vec F S512x512 .f32) (x4 : Vec F S512x512 .f32) (x5 : Vec F S32x512 .f32) (x6 : Vec F S512x512 .f32) (x7 : Vec F S512x1024 .f32) (x8 : Vec F S8x64x576 .f32) (x9 : Vec F S512x512 .bf16) (x10 : Vec F S31x512 .f32) (x11 : Vec F S1x512 .f32) (x12 : Vec F S1x512 .f32) (x13 : Vec F S1x512 .f32) (x14 : Vec F S1x512 .f32) (x15 : Vec F S1x512 .f32) (x16 : Vec F S1024x1024 .bf16) (x17 : Vec F S1x1024 .f32) :
    { L18 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
          ⊢ wp frame (wpE (defs₀ (F := F)) Variants.none c none) E (cc0_mix_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, fun E K => ?run⟩
  case run =>
    simp only [cc0_mix_prompt_eq_skeleton]; unfold cc0_mix_prompt_skel
    simp only [k0_part110_eq_skeleton, k0_part111_eq_skeleton, k0_part112_eq_skeleton, k0_part113_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    have hrd0 : ∀ (𝒱 : Variants) (c : Dev nD) (bd : Option 𝒱.V) (i : grid0.Coords) (arg1 : Memref sig .tc .vmem S512x512 .bf16) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S32x512 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S8x64x576 .f32) (harg9 : arg9.IsWhole) (arg10 : Memref sig .tc .vmem S512x512 .bf16) (harg10 : arg10.IsWhole) (arg11 : Memref sig .tc .vmem S31x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S512x512 .f32) (harg22 : arg22.IsWhole) (arg23 : Memref sig .tc .vmem S4x544x128 .f32) (harg23 : arg23.IsWhole) (arg24 : Memref sig .tc .vmem S512x512 .f32) (harg24 : arg24.IsWhole) (arg0 : BitVec 32) (v51 : Vec F S512x128 .f32) (v52 : Vec F S1x512x128 .f32) (X_arg11 : BufTy.Contents (Elt F) arg11.view.ty) (X_arg23 : BufTy.Contents (Elt F) arg23.view.ty) (hrdF : BufTy.Contents (Elt F) arg24.view.ty) (hrdB : LoadRect S512x512), arg24.view.readAt (Elt F) hrdB (arg24.view.writes (Elt F) hrdF (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v51 v52 X_arg11 X_arg23 (Scf.trips k0_t2_loop.lb k0_t2_loop.ub k0_t2_loop.st))) = arg24.view.readCov (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v51 (fun _ => FloatOps.ofBits .f32 0) X_arg11 X_arg23 (Scf.trips k0_t2_loop.lb k0_t2_loop.ub k0_t2_loop.st)) hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v51 v52 X_arg11 X_arg23 hrdF hrdB => by
      rw [pb_dead 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v51 v52 X_arg11 X_arg23]
      exact View.readAt_writes_of_cover _ hrdF _ hrdB (fun hrdJ => View.cover_of_tiledL (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v51 (fun _ => FloatOps.ofBits .f32 0) X_arg11 X_arg23 (Scf.trips k0_t2_loop.lb k0_t2_loop.ub k0_t2_loop.st)) S8x128.size (by sl_kernel_rfl) (hrdB.idx hrdJ))
    have hrd1 : ∀ (𝒱 : Variants) (c : Dev nD) (bd : Option 𝒱.V) (i : grid0.Coords) (arg1 : Memref sig .tc .vmem S512x512 .bf16) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S32x512 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S8x64x576 .f32) (harg9 : arg9.IsWhole) (arg10 : Memref sig .tc .vmem S512x512 .bf16) (harg10 : arg10.IsWhole) (arg11 : Memref sig .tc .vmem S31x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S512x512 .f32) (harg22 : arg22.IsWhole) (arg23 : Memref sig .tc .vmem S4x544x128 .f32) (harg23 : arg23.IsWhole) (arg24 : Memref sig .tc .vmem S512x512 .f32) (harg24 : arg24.IsWhole) (arg0 : BitVec 32) (v20 : IVec S64x576 32) (X_arg1 : BufTy.Contents (Elt F) arg1.view.ty) (X_arg9 : BufTy.Contents (Elt F) arg9.view.ty) (X_arg20 : BufTy.Contents (Elt F) arg20.view.ty) (X_arg21 : BufTy.Contents (Elt F) arg21.view.ty) (hrdF : BufTy.Contents (Elt F) arg22.view.ty) (hrdB : LoadRect S512x512), arg22.view.readAt (Elt F) hrdB (arg22.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v20 X_arg1 X_arg9 X_arg20 X_arg21 (Scf.trips k0_t1_loop.lb k0_t1_loop.ub k0_t1_loop.st))) = arg22.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v20 X_arg1 X_arg9 X_arg20 X_arg21 (Scf.trips k0_t1_loop.lb k0_t1_loop.ub k0_t1_loop.st)) hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v20 X_arg1 X_arg9 X_arg20 X_arg21 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 v20 X_arg1 X_arg9 X_arg20 X_arg21 (Scf.trips k0_t1_loop.lb k0_t1_loop.ub k0_t1_loop.st)) S64x512.size (by sl_kernel_rfl) (hrdB.idx hrdJ))
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.MixIdeal.Gen

end
-- ==== Proof.MixIdealFrame.lean ====
module

public import proofs.«01_k».proof.Proof.MixIdealRun
public import Idealize.ShloMosaic.Lib.Claim

@[expose] public section

set_option maxRecDepth 16384

noncomputable section

namespace Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 18 tile its block, so they cover it. -/
theorem cover0_A_18 (c : Dev nD) (i : grid0.Coords) (arg1 : Memref sig .tc .vmem S512x512 .bf16) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S32x512 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S8x64x576 .f32) (harg9 : arg9.IsWhole) (arg10 : Memref sig .tc .vmem S512x512 .bf16) (harg10 : arg10.IsWhole) (arg11 : Memref sig .tc .vmem S31x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S512x512 .f32) (harg22 : arg22.IsWhole) (arg23 : Memref sig .tc .vmem S4x544x128 .f32) (harg23 : arg23.IsWhole) (arg24 : Memref sig .tc .vmem S512x512 .f32) (harg24 : arg24.IsWhole)
    (x0 : Vec F S512x512 .bf16) (x1 : Vec F S512x512 .f32) (x2 : Vec F S512x512 .f32) (x3 : Vec F S512x512 .f32) (x4 : Vec F S512x512 .f32) (x5 : Vec F S32x512 .f32) (x6 : Vec F S512x512 .f32) (x7 : Vec F S512x1024 .f32) (x8 : Vec F S8x64x576 .f32) (x9 : Vec F S512x512 .bf16) (x10 : Vec F S31x512 .f32) (x11 : Vec F S1x512 .f32) (x12 : Vec F S1x512 .f32) (x13 : Vec F S1x512 .f32) (x14 : Vec F S1x512 .f32) (x15 : Vec F S1x512 .f32) (x16 : Vec F S1024x1024 .bf16) (x17 : Vec F S1x1024 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).1 S512x1024.size (by sl_kernel_rfl) y

/-- What the run leaves in output 18's staging buffer: its pieces read back over junk. -/
def out0_A_18 (c : Dev nD) (i : grid0.Coords) (arg1 : Memref sig .tc .vmem S512x512 .bf16) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S32x512 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S8x64x576 .f32) (harg9 : arg9.IsWhole) (arg10 : Memref sig .tc .vmem S512x512 .bf16) (harg10 : arg10.IsWhole) (arg11 : Memref sig .tc .vmem S31x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S512x512 .f32) (harg22 : arg22.IsWhole) (arg23 : Memref sig .tc .vmem S4x544x128 .f32) (harg23 : arg23.IsWhole) (arg24 : Memref sig .tc .vmem S512x512 .f32) (harg24 : arg24.IsWhole)
    (x0 : Vec F S512x512 .bf16) (x1 : Vec F S512x512 .f32) (x2 : Vec F S512x512 .f32) (x3 : Vec F S512x512 .f32) (x4 : Vec F S512x512 .f32) (x5 : Vec F S32x512 .f32) (x6 : Vec F S512x512 .f32) (x7 : Vec F S512x1024 .f32) (x8 : Vec F S8x64x576 .f32) (x9 : Vec F S512x512 .bf16) (x10 : Vec F S31x512 .f32) (x11 : Vec F S1x512 .f32) (x12 : Vec F S1x512 .f32) (x13 : Vec F S1x512 .f32) (x14 : Vec F S1x512 .f32) (x15 : Vec F S1x512 .f32) (x16 : Vec F S1024x1024 .bf16) (x17 : Vec F S1x1024 .f32) : Vec F S512x1024 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17).1)

/-! ## What the outputs hold after each point -/

/-- What the outputs' staging buffers hold after the body at point `t`: the run's contents at
    the point's memrefs and input blocks. -/
def outsAt0 (c : Dev nD) (t : Fin cfg0.N) : Vec F S512x1024 .f32 :=
  out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t)
    | ⟨_ + 19, h⟩ => absurd h (Nat.not_lt.2 (Nat.le_add_left _ _))
  Φ _ := Pipeline.ΦA spec0 c
  q w := Pipeline.shareOf spec0 w
  owed _ := 0

/-- The proof data's arrays are the region-entry contents: the proof data's definition projected, so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.castSucc = Pipeline.ΦA spec0 c from rfl, PhiA0_eq]
  unfold outsAt0
  unfold out0_A_18
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, ⟨%e18, H18⟩, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  unfold owns; iexists _; isplitr
  swap; · iexact H18
  ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The frame: every run terminates, the arguments end as they began, and no semaphore is left up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.MixIdeal.Gen

end
-- ==== Proof.lean ====
/- The proof of the certificate's claim: every program runs, and each call of the layer leaves the array that
   the reference's formula describes. -/
module

public import proofs.«01_k».proof.Defs
public import proofs.«01_k».proof.Proof.Gen.Mlp.Frame
public import proofs.«01_k».proof.Proof.Gen.MlpIdeal.Value
public import proofs.«01_k».proof.Proof.Gen.MlpRefIdeal.Run
public import proofs.«01_k».proof.Proof.MlpValue
public import proofs.«01_k».proof.Proof.Gen.Cross.Frame
public import proofs.«01_k».proof.Proof.Gen.CrossIdeal.Value
public import proofs.«01_k».proof.Proof.Gen.CrossRefIdeal.Run
public import proofs.«01_k».proof.Proof.CrossValue
public import proofs.«01_k».proof.Proof.Gen.InProj.Frame
public import proofs.«01_k».proof.Proof.Gen.InProjIdeal.Value
public import proofs.«01_k».proof.Proof.Gen.InProjRefIdeal.Run
public import proofs.«01_k».proof.Proof.InProjValue
public import proofs.«01_k».proof.Proof.Gen.MemKv.Frame
public import proofs.«01_k».proof.Proof.Gen.MemKvIdeal.Value
public import proofs.«01_k».proof.Proof.Gen.MemKvRefIdeal.Run
public import proofs.«01_k».proof.Proof.MemKvValue
public import proofs.«01_k».proof.Proof.Gen.RelBias.Frame
public import proofs.«01_k».proof.Proof.Gen.RelBiasIdeal.Frame
public import proofs.«01_k».proof.Proof.Gen.RelBiasRefIdeal.Run
public import proofs.«01_k».proof.Proof.RelBiasValue
public import proofs.«01_k».proof.Proof.Gen.Caches.Frame
public import proofs.«01_k».proof.Proof.Gen.CachesIdeal.Frame
public import proofs.«01_k».proof.Proof.Gen.CachesRefIdeal.Run
public import proofs.«01_k».proof.Proof.CachesValue
public import proofs.«01_k».proof.Proof.Gen.MlpSample.Frame
public import proofs.«01_k».proof.Proof.Gen.MlpSampleIdeal.Frame
public import proofs.«01_k».proof.Proof.Gen.MlpSampleRefIdeal.Run
public import proofs.«01_k».proof.Proof.MlpSampleValue
public import proofs.«01_k».proof.Proof.Gen.CrossSample.Frame
public import proofs.«01_k».proof.Proof.Gen.CrossSampleIdeal.Frame
public import proofs.«01_k».proof.Proof.Gen.CrossSampleRefIdeal.Run
public import proofs.«01_k».proof.Proof.CrossSampleValue
public import proofs.«01_k».proof.Proof.MixFrame
public import proofs.«01_k».proof.Proof.MixIdealFrame
public import proofs.«01_k».proof.Proof.Gen.MixRefIdeal.Run
public import proofs.«01_k».proof.Proof.Gen.MixSample.Frame
public import proofs.«01_k».proof.Proof.Gen.MixSampleIdeal.Frame
public import proofs.«01_k».proof.Proof.Gen.MixSampleRefIdeal.Run
public import proofs.«01_k».proof.Proof.Finite
public import Idealize.ShloMosaic.Adequacy
public import Idealize.ShloMosaic.Init
public import Idealize.ShloMosaic.Lib.Claim

@[expose] public section

noncomputable section

namespace Cert.Proof

open Idealize.ShloMosaic Idealize.SL.Sem

/-- Mlp: the call over the extended reals and its reference compute the same arrays. -/
theorem value_Mlp : @algebraic_MlpIdeal_MlpRefIdeal Cert.MlpIdeal.Gen.facts Cert.MlpRefIdeal.Gen.facts := by
  pair_intro
  · run_from Cert.MlpIdeal.Gen.run_main m g
  · run_from Cert.MlpRefIdeal.Value.run m' g'
    obtain ⟨a0, a1, a2, a3, a4⟩ := hagree c
    refine (Cert.MlpRefIdeal.Value.res_eq m' c).trans ?_
    rw [a0, a1, a2, a3, a4]
    exact (Cert.MlpIdeal.Value.final m c).symm

/-- Cross: the call over the extended reals and its reference compute the same arrays. -/
theorem value_Cross : @algebraic_CrossIdeal_CrossRefIdeal_pre_mem_scores_finite Cert.CrossIdeal.Gen.facts Cert.CrossRefIdeal.Gen.facts Cert.Scalars.mem_facts := by
  letI := Cert.Scalars.mem_facts
  pair_intro
  · run_from Cert.CrossIdeal.Gen.run_main m g
  · run_from Cert.CrossRefIdeal.Value.run m' g'
    obtain ⟨hk, hg, hw⟩ := Cert.Scalars.mem_finite _ _ _ _ _ _ _ (hpre c)
    obtain ⟨a0, a1, a2, a3, a4, a5, a6⟩ := hagree c
    refine (Cert.CrossRefIdeal.Value.res_eq m' c).trans ?_
    rw [a0, a1, a2, a3, a4, a5, a6]
    exact (Cert.CrossIdeal.Value.final m c (fun t j => hk _) (fun j => hg _) (fun a b => hw _)).symm

/-- InProj: the call over the extended reals and its reference compute the same arrays. -/
theorem value_InProj : @algebraic_InProjIdeal_InProjRefIdeal Cert.InProjIdeal.Gen.facts Cert.InProjRefIdeal.Gen.facts := by
  pair_intro
  · run_from Cert.InProjIdeal.Gen.run_main m g
  · run_from Cert.InProjRefIdeal.Value.run m' g'
    · exact (Cert.InProjIdeal.Value.final_q m c).symm
    · exact (Cert.InProjIdeal.Value.final_k m c).symm
    · exact (Cert.InProjIdeal.Value.final_v m c).symm
    · exact (Cert.InProjIdeal.Value.final_u m c).symm

/-- MemKv: the call over the extended reals and its reference compute the same arrays. -/
theorem value_MemKv : @algebraic_MemKvIdeal_MemKvRefIdeal Cert.MemKvIdeal.Gen.facts Cert.MemKvRefIdeal.Gen.facts := by
  pair_intro
  · run_from Cert.MemKvIdeal.Gen.run_main m g
  · run_from Cert.MemKvRefIdeal.Value.run m' g'
    · exact (Cert.MemKvIdeal.Value.final_keys m c).symm
    · exact (Cert.MemKvIdeal.Value.final_values m c).symm

/-- RelBias: the call over the extended reals and its reference compute the same array. -/
theorem value_RelBias : @algebraic_RelBiasIdeal_RelBiasRefIdeal Cert.RelBiasIdeal.Gen.facts Cert.RelBiasRefIdeal.Gen.facts := by
  pair_intro
  · run_from Cert.RelBiasIdeal.Gen.run_main m g
  · run_from Cert.RelBiasRefIdeal.Value.run m' g'
    exact (Cert.RelBiasIdeal.Value.final m c).symm

/-- Caches: the projection of the sample rows and the caches with the new rows in them. -/
theorem value_Caches : @algebraic_CachesIdeal_CachesRefIdeal Cert.CachesIdeal.Gen.facts Cert.CachesRefIdeal.Gen.facts := by
  pair_intro
  · run_from Cert.CachesIdeal.Gen.run_main m g
    · exact Cert.CachesIdeal.Gen.W_main_arg0 m (Cert.CachesIdeal.Gen.dats m) c
    · exact Cert.CachesIdeal.Gen.W_main_arg1 m (Cert.CachesIdeal.Gen.dats m) c
    · exact Cert.CachesIdeal.Gen.W_main_arg2 m (Cert.CachesIdeal.Gen.dats m) c
    · exact Cert.CachesIdeal.Gen.W_main_arg3 m (Cert.CachesIdeal.Gen.dats m) c
    · exact Cert.CachesIdeal.Gen.W_main_arg4 m (Cert.CachesIdeal.Gen.dats m) c
    · exact Cert.CachesIdeal.Gen.W_main_arg5 m (Cert.CachesIdeal.Gen.dats m) c
  · run_from Cert.CachesRefIdeal.Value.run m' g'
    all_goals obtain ⟨a0, a1, a2, a3, a4, a5⟩ := hagree c
    all_goals first | rw [a1, a4, a5] | rw [a2, a4, a5] | rw [a3, a4, a5] | rw [a4, a5]
    · exact (Cert.CachesIdeal.Value.res_k m c).symm
    · exact (Cert.CachesIdeal.Value.res_v m c).symm
    · exact (Cert.CachesIdeal.Value.res_u m c).symm

/-- MlpSample: the call for the sample rows, over the extended reals and its reference compute the same arrays. -/
theorem value_MlpSample : @algebraic_MlpSampleIdeal_MlpSampleRefIdeal Cert.MlpSampleIdeal.Gen.facts Cert.MlpSampleRefIdeal.Gen.facts := by
  pair_intro
  · run_from Cert.MlpSampleIdeal.Gen.run_main m g
  · run_from Cert.MlpSampleRefIdeal.Value.run m' g'
    obtain ⟨a0, a1, a2, a3, a4⟩ := hagree c
    refine (Cert.MlpSampleRefIdeal.Value.res_eq m' c).trans ?_
    rw [a0, a1, a2, a3, a4]
    exact (Cert.MlpSampleIdeal.Value.final m c).symm

/-- CrossSample: the call for the sample rows, over the extended reals and its reference compute the same arrays. -/
theorem value_CrossSample : @algebraic_CrossSampleIdeal_CrossSampleRefIdeal_pre_cache_scores_finite Cert.CrossSampleIdeal.Gen.facts Cert.CrossSampleRefIdeal.Gen.facts Cert.Scalars.cache_facts := by
  letI := Cert.Scalars.cache_facts
  pair_intro
  · run_from Cert.CrossSampleIdeal.Gen.run_main m g
  · run_from Cert.CrossSampleRefIdeal.Value.run m' g'
    obtain ⟨hk, hg, hw⟩ := Cert.Scalars.cache_finite _ _ _ _ _ _ _ (hpre c)
    obtain ⟨a0, a1, a2, a3, a4, a5, a6⟩ := hagree c
    refine (Cert.CrossSampleRefIdeal.Value.res_eq m' c).trans ?_
    rw [a0, a1, a2, a3, a4, a5, a6]
    exact (Cert.CrossSampleIdeal.Value.final m c (fun b t h d => hk _) (fun j => hg _) (fun a b => hw _)).symm

/-- Mlp's reference runs and leaves its arguments. -/
theorem ref_Mlp : @quiescent_MlpRefIdeal Cert.MlpRefIdeal.Gen.facts := fun m g _ =>
  (θ_run _ _ _).mono (fun r h => ⟨fun c => (h c).2, sem_eq_zero_of_no_sems (by decide) r.2⟩)
    (Cert.MlpRefIdeal.Value.run m g)

/-- Cross's reference runs and leaves its arguments. -/
theorem ref_Cross : @quiescent_CrossRefIdeal Cert.CrossRefIdeal.Gen.facts := fun m g _ =>
  (θ_run _ _ _).mono (fun r h => ⟨fun c => (h c).2, sem_eq_zero_of_no_sems (by decide) r.2⟩)
    (Cert.CrossRefIdeal.Value.run m g)

/-- InProj's reference runs and leaves its arguments. -/
theorem ref_InProj : @quiescent_InProjRefIdeal Cert.InProjRefIdeal.Gen.facts := fun m g _ =>
  (θ_run _ _ _).mono (fun r h => ⟨fun c => (h c).2.2.2.2, sem_eq_zero_of_no_sems (by decide) r.2⟩)
    (Cert.InProjRefIdeal.Value.run m g)

/-- MemKv's reference runs and leaves its arguments. -/
theorem ref_MemKv : @quiescent_MemKvRefIdeal Cert.MemKvRefIdeal.Gen.facts := fun m g _ =>
  (θ_run _ _ _).mono (fun r h => ⟨fun c => (h c).2.2, sem_eq_zero_of_no_sems (by decide) r.2⟩)
    (Cert.MemKvRefIdeal.Value.run m g)

/-- RelBias's reference runs and leaves its arguments. -/
theorem ref_RelBias : @quiescent_RelBiasRefIdeal Cert.RelBiasRefIdeal.Gen.facts := fun m g _ =>
  (θ_run _ _ _).mono (fun r h => ⟨fun c => (h c).2, sem_eq_zero_of_no_sems (by decide) r.2⟩)
    (Cert.RelBiasRefIdeal.Value.run m g)

/-- Caches's reference runs and leaves its arguments. -/
theorem ref_Caches : @quiescent_CachesRefIdeal Cert.CachesRefIdeal.Gen.facts := fun m g _ =>
  (θ_run _ _ _).mono (fun r h => ⟨fun c => (h c).2.2.2, sem_eq_zero_of_no_sems (by decide) r.2⟩)
    (Cert.CachesRefIdeal.Value.run m g)

/-- MlpSample's reference runs and leaves its arguments. -/
theorem ref_MlpSample : @quiescent_MlpSampleRefIdeal Cert.MlpSampleRefIdeal.Gen.facts := fun m g _ =>
  (θ_run _ _ _).mono (fun r h => ⟨fun c => (h c).2, sem_eq_zero_of_no_sems (by decide) r.2⟩)
    (Cert.MlpSampleRefIdeal.Value.run m g)

/-- CrossSample's reference runs and leaves its arguments. -/
theorem ref_CrossSample : @quiescent_CrossSampleRefIdeal Cert.CrossSampleRefIdeal.Gen.facts := fun m g _ =>
  (θ_run _ _ _).mono (fun r h => ⟨fun c => (h c).2, sem_eq_zero_of_no_sems (by decide) r.2⟩)
    (Cert.CrossSampleRefIdeal.Value.run m g)

/-- Mix's reference runs and leaves its arguments. -/
theorem ref_Mix : @quiescent_MixRefIdeal Cert.MixRefIdeal.Gen.facts := fun m g _ =>
  (θ_run _ _ _).mono (fun r h => ⟨fun c => (h c).2, sem_eq_zero_of_no_sems (by decide) r.2⟩)
    (Cert.MixRefIdeal.Value.run m g)

/-- MixSample's reference runs and leaves its arguments. -/
theorem ref_MixSample : @quiescent_MixSampleRefIdeal Cert.MixSampleRefIdeal.Gen.facts := fun m g _ =>
  (θ_run _ _ _).mono (fun r h => ⟨fun c => (h c).2, sem_eq_zero_of_no_sems (by decide) r.2⟩)
    (Cert.MixSampleRefIdeal.Value.run m g)

/-- Mix's ideal program replaces the mask's finite constant by minus infinity, and nothing else. -/
theorem preserves_Mix : preserves_Mix_MixIdeal :=
  IdealRules.named_const.statement Cert.MixIdeal.κ "mask" .f32 0xF149F2CA#32 ⊥ rfl

/-- Every claim of the certificate. -/
theorem claim : Cert.Claim := ⟨Cert.Mlp.Gen.facts, Cert.MlpIdeal.Gen.facts, Cert.MlpRefIdeal.Gen.facts, Cert.Cross.Gen.facts, Cert.CrossIdeal.Gen.facts, Cert.CrossRefIdeal.Gen.facts, Cert.InProj.Gen.facts, Cert.InProjIdeal.Gen.facts, Cert.InProjRefIdeal.Gen.facts, Cert.MemKv.Gen.facts, Cert.MemKvIdeal.Gen.facts, Cert.MemKvRefIdeal.Gen.facts, Cert.RelBias.Gen.facts, Cert.RelBiasIdeal.Gen.facts, Cert.RelBiasRefIdeal.Gen.facts, Cert.Caches.Gen.facts, Cert.CachesIdeal.Gen.facts, Cert.CachesRefIdeal.Gen.facts, Cert.MlpSample.Gen.facts, Cert.MlpSampleIdeal.Gen.facts, Cert.MlpSampleRefIdeal.Gen.facts, Cert.CrossSample.Gen.facts, Cert.CrossSampleIdeal.Gen.facts, Cert.CrossSampleRefIdeal.Gen.facts, Cert.Mix.Gen.facts, Cert.MixIdeal.Gen.facts, Cert.MixRefIdeal.Gen.facts, Cert.MixSample.Gen.facts, Cert.MixSampleIdeal.Gen.facts, Cert.MixSampleRefIdeal.Gen.facts, Cert.Scalars.mem_facts, Cert.Scalars.cache_facts,
  fun m g _ => Cert.Mlp.Gen.frame m g,
  fun m g _ => Cert.MlpIdeal.Gen.frame m g,
  ref_Mlp,
  fun m g _ => Cert.Cross.Gen.frame m g,
  fun m g _ => Cert.CrossIdeal.Gen.frame m g,
  fun m g _ => Cert.CrossIdeal.Gen.frame m g,
  ref_Cross,
  fun m g _ => ref_Cross m g trivial,
  fun m g _ => Cert.InProj.Gen.frame m g,
  fun m g _ => Cert.InProjIdeal.Gen.frame m g,
  ref_InProj,
  fun m g _ => Cert.MemKv.Gen.frame m g,
  fun m g _ => Cert.MemKvIdeal.Gen.frame m g,
  ref_MemKv,
  fun m g _ => Cert.RelBias.Gen.frame m g,
  fun m g _ => Cert.RelBiasIdeal.Gen.frame m g,
  ref_RelBias,
  fun m g _ => Cert.Caches.Gen.frame m g,
  fun m g _ => Cert.CachesIdeal.Gen.frame m g,
  ref_Caches,
  fun m g _ => Cert.MlpSample.Gen.frame m g,
  fun m g _ => Cert.MlpSampleIdeal.Gen.frame m g,
  ref_MlpSample,
  fun m g _ => Cert.CrossSample.Gen.frame m g,
  fun m g _ => Cert.CrossSampleIdeal.Gen.frame m g,
  fun m g _ => Cert.CrossSampleIdeal.Gen.frame m g,
  ref_CrossSample,
  fun m g _ => ref_CrossSample m g trivial,
  fun m g _ => Cert.Mix.Gen.frame m g,
  fun m g _ => Cert.MixIdeal.Gen.frame m g,
  ref_Mix,
  fun m g _ => Cert.MixSample.Gen.frame m g,
  fun m g _ => Cert.MixSampleIdeal.Gen.frame m g,
  ref_MixSample,
  trivial,
  value_Mlp,
  trivial,
  value_Cross,
  trivial,
  value_InProj,
  trivial,
  value_MemKv,
  trivial,
  value_RelBias,
  trivial,
  value_Caches,
  trivial,
  value_MlpSample,
  trivial,
  value_CrossSample,
  preserves_Mix,
  trivial⟩

end Cert.Proof

end
